-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  IdealRules.named_const.Statement Cert.Kernel9Ideal.κ "scale" .f32 0x3D3504F3#32 (((Real.sqrt 512)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x3072 : Shape := ⟨2, ![16384, 3072]⟩
abbrev S1x8x257 : Shape := ⟨3, ![1, 8, 257]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S16384x3072 .bf16) (main_arg1 : FVec F S1x8x257 .f32) : IVec S_ 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S1x8x257 .f32 := Host.absf main_arg1
  let main_cst_0 : FVec F S_ .f32 := constant S_ .f32 0x7F800000#32
  let main_v7 : FVec F S1x8x257 .f32 := broadcastInDim S1x8x257 ![] bcast_S_S1x8x257 main_cst_0
  let main_v8 : IVec S1x8x257 1 := cmpf .olt main_v6 main_v7
  let main_c_1 : IVec S_ 1 := constantI S_ 1 1#1
  let main_v9 : IVec S_ 1 := (fun x v => Host.reduce IntOp.andi x v reducesTo_S1x8x257_S_d0_1_2 h_S_) main_v8 main_c_1
  let main_v10 : IVec S_ 1 := andi main_v5 main_v9
  main_v10
-- ==== Kernel.lean ====
abbrev S16384x3072 : Shape := ⟨2, ![16384, 3072]⟩
abbrev S1x8x257 : Shape := ⟨3, ![1, 8, 257]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S8x1 : Shape := ⟨2, ![8, 1]⟩
abbrev S8x639 : Shape := ⟨2, ![8, 639]⟩
abbrev S8x128 : Shape := ⟨2, ![8, 128]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S_ : Shape := ⟨0, ![]⟩
abbrev S256x768 : Shape := ⟨2, ![256, 768]⟩
abbrev S1x256x768 : Shape := ⟨3, ![1, 256, 768]⟩
abbrev S16384x1024 : Shape := ⟨2, ![16384, 1024]⟩
abbrev S512x1024 : Shape := ⟨2, ![512, 1024]⟩
abbrev S1024x1024 : Shape := ⟨2, ![1024, 1024]⟩
abbrev S256x128 : Shape := ⟨2, ![256, 128]⟩
abbrev S768x128 : Shape := ⟨2, ![768, 128]⟩

abbrev nBuf : Space → Nat
  | .hbm => 72
  | .vmem => 15
  | .smem => 0
  | _ => 0

abbrev bufTy : (tb : Table) → Fin (tcTables nBuf tb) → BufTy
  | .hbm, ⟨0, _⟩ => ⟨S16384x3072, .bf16⟩
  | .hbm, ⟨1, _⟩ => ⟨S1x8x257, .f32⟩
  | .hbm, ⟨2, _⟩ => ⟨S8x257, .f32⟩
  | .hbm, ⟨3, _⟩ => ⟨S256, .i32⟩
  | .hbm, ⟨4, _⟩ => ⟨S256x1, .i32⟩
  | .hbm, ⟨5, _⟩ => ⟨S768, .i32⟩
  | .hbm, ⟨6, _⟩ => ⟨S1x768, .i32⟩
  | .hbm, ⟨7, _⟩ => ⟨S8x1, .f32⟩
  | .hbm, ⟨8, _⟩ => ⟨S8x639, .f32⟩
  | .hbm, ⟨9, _⟩ => ⟨S8x257, .f32⟩
  | .hbm, ⟨10, _⟩ => ⟨S8x1, .f32⟩
  | .hbm, ⟨11, _⟩ => ⟨S8x128, .f32⟩
  | .hbm, ⟨12, _⟩ => ⟨S8x1024, .f32⟩
  | .hbm, ⟨13, _⟩ => ⟨S1x8x1x1024, .f32⟩
  | .hbm, ⟨14, _⟩ => ⟨S1x8x256x1024, .f32⟩
  | .hbm, ⟨15, _⟩ => ⟨S8x262144, .f32⟩
  | .hbm, ⟨16, _⟩ => ⟨S8x261888, .f32⟩
  | .hbm, ⟨17, _⟩ => ⟨S8x256x1023, .f32⟩
  | .hbm, ⟨18, _⟩ => ⟨S8x256x768, .f32⟩
  | .hbm, ⟨19, _⟩ => ⟨S_, .i32⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i1⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S_, .i32⟩
  | .hbm, ⟨39, _⟩ => ⟨S1x768, .i32⟩
  | .hbm, ⟨40, _⟩ => ⟨S1x768, .i32⟩
  | .hbm, ⟨41, _⟩ => ⟨S1x768, .i32⟩
  | .hbm, ⟨42, _⟩ => ⟨S_, .i32⟩
  | .hbm, ⟨43, _⟩ => ⟨S1x768, .i32⟩
  | .hbm, ⟨44, _⟩ => ⟨S1x768, .i1⟩
  | .hbm, ⟨45, _⟩ => ⟨S1x768, .i32⟩
  | .hbm, ⟨46, _⟩ => ⟨S1x768, .i32⟩
  | .hbm, ⟨47, _⟩ => ⟨S_, .i32⟩
  | .hbm, ⟨48, _⟩ => ⟨S1x768, .i32⟩
  | .hbm, ⟨49, _⟩ => ⟨S1x768, .i1⟩
  | .hbm, ⟨50, _⟩ => ⟨S1x768, .i1⟩
  | .hbm, ⟨51, _⟩ => ⟨S_, .i32⟩
  | .hbm, ⟨52, _⟩ => ⟨S1x768, .i32⟩
  | .hbm, ⟨53, _⟩ => ⟨S1x768, .i32⟩
  | .hbm, ⟨54, _⟩ => ⟨S1x768, .i32⟩
  | .hbm, ⟨55, _⟩ => ⟨S256x768, .i32⟩
  | .hbm, ⟨56, _⟩ => ⟨S256x768, .i32⟩
  | .hbm, ⟨57, _⟩ => ⟨S256x768, .i1⟩
  | .hbm, ⟨58, _⟩ => ⟨S_, .i32⟩
  | .hbm, ⟨59, _⟩ => ⟨S256x1, .i32⟩
  | .hbm, ⟨60, _⟩ => ⟨S256x1, .i32⟩
  | .hbm, ⟨61, _⟩ => ⟨S256x768, .i32⟩
  | .hbm, ⟨62, _⟩ => ⟨S256x768, .i32⟩
  | .hbm, ⟨63, _⟩ => ⟨S256x768, .i1⟩
  | .hbm, ⟨64, _⟩ => ⟨S256x768, .i1⟩
  | .hbm, ⟨65, _⟩ => ⟨S1x256x768, .i1⟩
  | .hbm, ⟨66, _⟩ => ⟨S_, .f32⟩
  | .hbm, ⟨67, _⟩ => ⟨S_, .f32⟩
  | .hbm, ⟨68, _⟩ => ⟨S8x256x768, .i1⟩
  | .hbm, ⟨69, _⟩ => ⟨S8x256x768, .f32⟩
  | .hbm, ⟨70, _⟩ => ⟨S8x256x768, .f32⟩
  | .hbm, ⟨71, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x256x768, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v17 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v29 : Ref sig .tc := ⟨.hbm, 70, rfl⟩
abbrev main_v30 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S16384x3072 : Shape := ⟨2, ![16384, 3072]⟩
abbrev S1x8x257 : Shape := ⟨3, ![1, 8, 257]⟩
abbrev S16384x1024 : Shape := ⟨2, ![16384, 1024]⟩
abbrev S4x4096x8x128 : Shape := ⟨4, ![4, 4096, 8, 128]⟩
abbrev S8x257 : Shape := ⟨2, ![8, 257]⟩
abbrev S4x64x64x8x128 : Shape := ⟨5, ![4, 64, 64, 8, 128]⟩
abbrev S_ : Shape := ⟨0, ![]⟩
abbrev S4x72x64x8x128 : Shape := ⟨5, ![4, 72, 64, 8, 128]⟩
abbrev S4x64x8x64x64 : Shape := ⟨5, ![4, 64, 8, 64, 64]⟩
abbrev S4x64x8x64x1x64 : Shape := ⟨6, ![4, 64, 8, 64, 1, 64]⟩
abbrev S4x64x8x64x9x64 : Shape := ⟨6, ![4, 64, 8, 64, 9, 64]⟩
abbrev S64 : Shape := ⟨1, ![64]⟩
abbrev S64x1x1 : Shape := ⟨3, ![64, 1, 1]⟩
abbrev S9 : Shape := ⟨1, ![9]⟩
abbrev S1x9x1 : Shape := ⟨3, ![1, 9, 1]⟩
abbrev S1x1x64 : Shape := ⟨3, ![1, 1, 64]⟩
abbrev S64x9x1 : Shape := ⟨3, ![64, 9, 1]⟩
abbrev S64x9x64 : Shape := ⟨3, ![64, 9, 64]⟩
abbrev S64x9x64x1 : Shape := ⟨4, ![64, 9, 64, 1]⟩
abbrev S8x64x9x64 : Shape := ⟨4, ![8, 64, 9, 64]⟩
abbrev S1x1x8x64x9x64 : Shape := ⟨6, ![1, 1, 8, 64, 9, 64]⟩
abbrev S64x1 : Shape := ⟨2, ![64, 1]⟩
abbrev S1x9 : Shape := ⟨2, ![1, 9]⟩
abbrev S64x9 : Shape := ⟨2, ![64, 9]⟩
abbrev S1x64x1x1x9x1 : Shape := ⟨6, ![1, 64, 1, 1, 9, 1]⟩
abbrev S4x64x8x64x576 : Shape := ⟨5, ![4, 64, 8, 64, 576]⟩
abbrev S4x64x8x64 : Shape := ⟨4, ![4, 64, 8, 64]⟩
abbrev S4x64x8x64x1 : Shape := ⟨5, ![4, 64, 8, 64, 1]⟩
abbrev S4x64x8x128x64 : Shape := ⟨5, ![4, 64, 8, 128, 64]⟩
abbrev S4x4096x1024 : Shape := ⟨3, ![4, 4096, 1024]⟩

abbrev nBuf : Space → Nat
  | .hbm => 183
  | .vmem => 0
  | .smem => 0
  | _ => 0

abbrev hbmTy0_0 (i : Nat) : BufTy := match i % 128 with
  | 0 => ⟨S16384x3072, .bf16⟩
  | 1 => ⟨S1x8x257, .f32⟩
  | 2 => ⟨S16384x3072, .f32⟩
  | 3 => ⟨S16384x1024, .f32⟩
  | 4 => ⟨S16384x1024, .f32⟩
  | 5 => ⟨S16384x1024, .f32⟩
  | 6 => ⟨S4x4096x8x128, .f32⟩
  | 7 => ⟨S4x4096x8x128, .f32⟩
  | 8 => ⟨S4x4096x8x128, .f32⟩
  | 9 => ⟨S8x257, .f32⟩
  | 10 => ⟨S4x64x64x8x128, .f32⟩
  | 11 => ⟨S4x64x64x8x128, .f32⟩
  | 12 => ⟨S_, .i32⟩
  | 13 => ⟨S_, .f32⟩
  | 14 => ⟨S4x72x64x8x128, .f32⟩
  | 15 => ⟨S4x64x64x8x128, .f32⟩
  | 16 => ⟨S_, .i32⟩
  | 17 => ⟨S_, .f32⟩
  | 18 => ⟨S4x72x64x8x128, .f32⟩
  | 19 => ⟨S4x64x64x8x128, .f32⟩
  | 20 => ⟨S4x64x8x64x64, .f32⟩
  | 21 => ⟨S4x64x64x8x128, .f32⟩
  | 22 => ⟨S4x64x8x64x64, .f32⟩
  | 23 => ⟨S4x64x64x8x128, .f32⟩
  | 24 => ⟨S4x64x8x64x64, .f32⟩
  | 25 => ⟨S4x64x64x8x128, .f32⟩
  | 26 => ⟨S4x64x8x64x64, .f32⟩
  | 27 => ⟨S4x64x64x8x128, .f32⟩
  | 28 => ⟨S4x64x8x64x64, .f32⟩
  | 29 => ⟨S4x64x64x8x128, .f32⟩
  | 30 => ⟨S4x64x8x64x64, .f32⟩
  | 31 => ⟨S4x64x64x8x128, .f32⟩
  | 32 => ⟨S4x64x8x64x64, .f32⟩
  | 33 => ⟨S4x64x64x8x128, .f32⟩
  | 34 => ⟨S4x64x8x64x64, .f32⟩
  | 35 => ⟨S4x64x64x8x128, .f32⟩
  | 36 => ⟨S4x64x8x64x64, .f32⟩
  | 37 => ⟨S4x64x8x64x1x64, .f32⟩
  | 38 => ⟨S4x64x8x64x1x64, .f32⟩
  | 39 => ⟨S4x64x8x64x1x64, .f32⟩
  | 40 => ⟨S4x64x8x64x1x64, .f32⟩
  | 41 => ⟨S4x64x8x64x1x64, .f32⟩
  | 42 => ⟨S4x64x8x64x1x64, .f32⟩
  | 43 => ⟨S4x64x8x64x1x64, .f32⟩
  | 44 => ⟨S4x64x8x64x1x64, .f32⟩
  | 45 => ⟨S4x64x8x64x1x64, .f32⟩
  | 46 => ⟨S4x64x8x64x9x64, .f32⟩
  | 47 => ⟨S_, .f32⟩
  | 48 => ⟨S_, .f32⟩
  | 49 => ⟨S4x64x8x64x9x64, .f32⟩
  | 50 => ⟨S4x64x8x64x9x64, .f32⟩
  | 51 => ⟨S64, .i32⟩
  | 52 => ⟨S64x1x1, .i32⟩
  | 53 => ⟨S9, .i32⟩
  | 54 => ⟨S1x9x1, .i32⟩
  | 55 => ⟨S64, .i32⟩
  | 56 => ⟨S1x1x64, .i32⟩
  | 57 => ⟨S_, .i32⟩
  | 58 => ⟨S1x9x1, .i32⟩
  | 59 => ⟨S1x9x1, .i32⟩
  | 60 => ⟨S_, .i32⟩
  | 61 => ⟨S1x9x1, .i32⟩
  | 62 => ⟨S1x9x1, .i32⟩
  | 63 => ⟨S64x9x1, .i32⟩
  | 64 => ⟨S64x9x1, .i32⟩
  | 65 => ⟨S64x9x1, .i32⟩
  | 66 => ⟨S64x9x64, .i32⟩
  | 67 => ⟨S64x9x64, .i32⟩
  | 68 => ⟨S64x9x64, .i32⟩
  | 69 => ⟨S_, .i32⟩
  | 70 => ⟨S_, .i32⟩
  | 71 => ⟨S_, .i32⟩
  | 72 => ⟨S64x9x64, .i32⟩
  | 73 => ⟨S64x9x64, .i32⟩
  | 74 => ⟨S_, .i32⟩
  | 75 => ⟨S64x9x64, .i32⟩
  | 76 => ⟨S64x9x64, .i32⟩
  | 77 => ⟨S_, .i32⟩
  | 78 => ⟨S64x9x64, .i32⟩
  | 79 => ⟨S64x9x64, .i32⟩
  | 80 => ⟨S_, .i32⟩
  | 81 => ⟨S64x9x64, .i32⟩
  | 82 => ⟨S64x9x64, .i1⟩
  | 83 => ⟨S_, .i32⟩
  | 84 => ⟨S64x9x64, .i32⟩
  | 85 => ⟨S64x9x64, .i32⟩
  | 86 => ⟨S64x9x64, .i32⟩
  | 87 => ⟨S64x9x64x1, .i32⟩
  | 88 => ⟨S8x64x9x64, .f32⟩
  | 89 => ⟨S1x1x8x64x9x64, .f32⟩
  | 90 => ⟨S4x64x8x64x9x64, .f32⟩
  | 91 => ⟨S4x64x8x64x9x64, .f32⟩
  | 92 => ⟨S64, .i32⟩
  | 93 => ⟨S64x1, .i32⟩
  | 94 => ⟨S9, .i32⟩
  | 95 => ⟨S1x9, .i32⟩
  | 96 => ⟨S64x9, .i32⟩
  | 97 => ⟨S64x9, .i32⟩
  | 98 => ⟨S64x9, .i32⟩
  | 99 => ⟨S_, .i32⟩
  | 100 => ⟨S64x9, .i32⟩
  | 101 => ⟨S64x9, .i32⟩
  | 102 => ⟨S_, .i32⟩
  | 103 => ⟨S64x9, .i32⟩
  | 104 => ⟨S64x9, .i1⟩
  | 105 => ⟨S1x64x1x1x9x1, .i1⟩
  | 106 => ⟨S_, .f32⟩
  | 107 => ⟨S_, .f32⟩
  | 108 => ⟨S4x64x8x64x9x64, .i1⟩
  | 109 => ⟨S4x64x8x64x9x64, .f32⟩
  | 110 => ⟨S4x64x8x64x9x64, .f32⟩
  | 111 => ⟨S4x64x8x64x576, .f32⟩
  | 112 => ⟨S_, .f32⟩
  | 113 => ⟨S4x64x8x64, .f32⟩
  | 114 => ⟨S_, .f32⟩
  | 115 => ⟨S4x64x8x64, .f32⟩
  | 116 => ⟨S4x64x8x64, .f32⟩
  | 117 => ⟨S4x64x8x64x1, .f32⟩
  | 118 => ⟨S4x64x8x64x576, .f32⟩
  | 119 => ⟨S4x64x8x64x576, .f32⟩
  | 120 => ⟨S4x64x8x64x576, .f32⟩
  | 121 => ⟨S_, .f32⟩
  | 122 => ⟨S4x64x8x64, .f32⟩
  | 123 => ⟨S4x64x8x64x1, .f32⟩
  | 124 => ⟨S4x64x8x64x576, .f32⟩
  | 125 => ⟨S4x64x8x64x576, .f32⟩
  | 126 => ⟨S4x64x8x64x9x64, .f32⟩
  | 127 => ⟨S4x64x8x64x1x64, .f32⟩
  | _ => ⟨S16384x3072, .bf16⟩

abbrev hbmTy0_1 (i : Nat) : BufTy := match i % 128 with
  | 0 => ⟨S4x64x8x64x64, .f32⟩
  | 1 => ⟨S4x64x64x8x128, .f32⟩
  | 2 => ⟨S4x64x8x128x64, .f32⟩
  | 3 => ⟨S4x64x64x8x128, .f32⟩
  | 4 => ⟨S4x64x8x64x1x64, .f32⟩
  | 5 => ⟨S4x64x8x64x64, .f32⟩
  | 6 => ⟨S4x64x64x8x128, .f32⟩
  | 7 => ⟨S4x64x8x128x64, .f32⟩
  | 8 => ⟨S4x64x64x8x128, .f32⟩
  | 9 => ⟨S4x64x64x8x128, .f32⟩
  | 10 => ⟨S4x64x8x64x1x64, .f32⟩
  | 11 => ⟨S4x64x8x64x64, .f32⟩
  | 12 => ⟨S4x64x64x8x128, .f32⟩
  | 13 => ⟨S4x64x8x128x64, .f32⟩
  | 14 => ⟨S4x64x64x8x128, .f32⟩
  | 15 => ⟨S4x64x64x8x128, .f32⟩
  | 16 => ⟨S4x64x8x64x1x64, .f32⟩
  | 17 => ⟨S4x64x8x64x64, .f32⟩
  | 18 => ⟨S4x64x64x8x128, .f32⟩
  | 19 => ⟨S4x64x8x128x64, .f32⟩
  | 20 => ⟨S4x64x64x8x128, .f32⟩
  | 21 => ⟨S4x64x64x8x128, .f32⟩
  | 22 => ⟨S4x64x8x64x1x64, .f32⟩
  | 23 => ⟨S4x64x8x64x64, .f32⟩
  | 24 => ⟨S4x64x64x8x128, .f32⟩
  | 25 => ⟨S4x64x8x128x64, .f32⟩
  | 26 => ⟨S4x64x64x8x128, .f32⟩
  | 27 => ⟨S4x64x64x8x128, .f32⟩
  | 28 => ⟨S4x64x8x64x1x64, .f32⟩
  | 29 => ⟨S4x64x8x64x64, .f32⟩
  | 30 => ⟨S4x64x64x8x128, .f32⟩
  | 31 => ⟨S4x64x8x128x64, .f32⟩
  | 32 => ⟨S4x64x64x8x128, .f32⟩
  | 33 => ⟨S4x64x64x8x128, .f32⟩
  | 34 => ⟨S4x64x8x64x1x64, .f32⟩
  | 35 => ⟨S4x64x8x64x64, .f32⟩
  | 36 => ⟨S4x64x64x8x128, .f32⟩
  | 37 => ⟨S4x64x8x128x64, .f32⟩
  | 38 => ⟨S4x64x64x8x128, .f32⟩
  | 39 => ⟨S4x64x64x8x128, .f32⟩
  | 40 => ⟨S4x64x8x64x1x64, .f32⟩
  | 41 => ⟨S4x64x8x64x64, .f32⟩
  | 42 => ⟨S4x64x64x8x128, .f32⟩
  | 43 => ⟨S4x64x8x128x64, .f32⟩
  | 44 => ⟨S4x64x64x8x128, .f32⟩
  | 45 => ⟨S4x64x64x8x128, .f32⟩
  | 46 => ⟨S4x64x8x64x1x64, .f32⟩
  | 47 => ⟨S4x64x8x64x64, .f32⟩
  | 48 => ⟨S4x64x64x8x128, .f32⟩
  | 49 => ⟨S4x64x8x128x64, .f32⟩
  | 50 => ⟨S4x64x64x8x128, .f32⟩
  | 51 => ⟨S4x64x64x8x128, .f32⟩
  | 52 => ⟨S4x4096x1024, .f32⟩
  | 53 => ⟨S16384x1024, .f32⟩
  | 54 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_c_1 : Ref sig .tc := ⟨.hbm, 57, rfl⟩
abbrev main_v50 : Ref sig .tc := ⟨.hbm, 58, rfl⟩
abbrev main_v51 : Ref sig .tc := ⟨.hbm, 59, rfl⟩
abbrev main_c_2 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c_3 : Ref sig .tc := ⟨.hbm, 69, rfl⟩
abbrev main_c_4 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v60 : Ref sig .tc := ⟨.hbm, 76, rfl⟩
abbrev main_c_5 : Ref sig .tc := ⟨.hbm, 77, rfl⟩
abbrev main_v61 : Ref sig .tc := ⟨.hbm, 78, rfl⟩
abbrev main_v62 : Ref sig .tc := ⟨.hbm, 79, rfl⟩
abbrev main_c_6 : Ref sig .tc := ⟨.hbm, 80, rfl⟩
abbrev main_v63 : Ref sig .tc := ⟨.hbm, 81, rfl⟩
abbrev main_v64 : Ref sig .tc := ⟨.hbm, 82, rfl⟩
abbrev main_c_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_8 : Ref sig .tc := ⟨.hbm, 99, rfl⟩
abbrev main_v80 : Ref sig .tc := ⟨.hbm, 100, rfl⟩
abbrev main_v81 : Ref sig .tc := ⟨.hbm, 101, rfl⟩
abbrev main_c_9 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_10 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_13 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩

abbrev nD : Nat := 1
abbrev τ : Topo := Topo.v7x

variable {F : FTy → Type} [FloatOps F]

def κ : String → Option EReal := fun
  | "mask" => some ⊥
  | "scale" => some (((Real.sqrt 128)⁻¹ : ℝ) : EReal)
  | _ => none
-- ==== Kernel2.lean ====
abbrev S4x4096x2048 : Shape := ⟨3, ![4, 4096, 2048]⟩
abbrev S1x2048 : Shape := ⟨2, ![1, 2048]⟩
abbrev S1x2048x10240 : Shape := ⟨3, ![1, 2048, 10240]⟩
abbrev S16384x2048 : Shape := ⟨2, ![16384, 2048]⟩
abbrev S2048 : Shape := ⟨1, ![2048]⟩
abbrev S2048x10240 : Shape := ⟨2, ![2048, 10240]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x10240, .f32⟩
  | .hbm, ⟨3, _⟩ => ⟨S16384x2048, .f32⟩
  | .hbm, ⟨4, _⟩ => ⟨S2048, .f32⟩
  | .hbm, ⟨5, _⟩ => ⟨S2048x10240, .f32⟩
  | .hbm, ⟨6, _⟩ => ⟨S2048x3072, .f32⟩
  | .hbm, ⟨7, _⟩ => ⟨S2048x3072, .bf16⟩
  | .hbm, ⟨8, _⟩ => ⟨S1x2048, .f32⟩
  | .hbm, ⟨9, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S1x2048 : Shape := ⟨2, ![1, 2048]⟩
abbrev S1x2048x10240 : Shape := ⟨3, ![1, 2048, 10240]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x10240 : Shape := ⟨2, ![2048, 10240]⟩
abbrev S4x4096x10240 : Shape := ⟨3, ![4, 4096, 10240]⟩
abbrev S4x4096x3072 : Shape := ⟨3, ![4, 4096, 3072]⟩
abbrev S16384x3072 : Shape := ⟨2, ![16384, 3072]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x10240, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x10240, .f32⟩
  | .hbm, ⟨21, _⟩ => ⟨S4x4096x10240, .f32⟩
  | .hbm, ⟨22, _⟩ => ⟨S4x4096x3072, .f32⟩
  | .hbm, ⟨23, _⟩ => ⟨S16384x3072, .f32⟩
  | .hbm, ⟨24, _⟩ => ⟨S16384x3072, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S4x4096x2048 : Shape := ⟨3, ![4, 4096, 2048]⟩
abbrev S1x2048 : Shape := ⟨2, ![1, 2048]⟩
abbrev S1x2048x10240 : Shape := ⟨3, ![1, 2048, 10240]⟩
abbrev S2048x10240 : Shape := ⟨2, ![2048, 10240]⟩
abbrev S2048x4096 : Shape := ⟨2, ![2048, 4096]⟩
abbrev S2048x3072 : Shape := ⟨2, ![2048, 3072]⟩
abbrev S2048x7168 : Shape := ⟨2, ![2048, 7168]⟩
abbrev S16384x2048 : Shape := ⟨2, ![16384, 2048]⟩
abbrev S2048 : Shape := ⟨1, ![2048]⟩
abbrev S16384x7168 : Shape := ⟨2, ![16384, 7168]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x10240, .f32⟩
  | .hbm, ⟨3, _⟩ => ⟨S2048x10240, .f32⟩
  | .hbm, ⟨4, _⟩ => ⟨S2048x4096, .f32⟩
  | .hbm, ⟨5, _⟩ => ⟨S2048x3072, .f32⟩
  | .hbm, ⟨6, _⟩ => ⟨S2048x7168, .f32⟩
  | .hbm, ⟨7, _⟩ => ⟨S16384x2048, .f32⟩
  | .hbm, ⟨8, _⟩ => ⟨S2048, .f32⟩
  | .hbm, ⟨9, _⟩ => ⟨S2048x7168, .bf16⟩
  | .hbm, ⟨10, _⟩ => ⟨S1x2048, .f32⟩
  | .hbm, ⟨11, _⟩ => ⟨S16384x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x4096x2048 : Shape := ⟨3, ![4, 4096, 2048]⟩
abbrev S1x2048 : Shape := ⟨2, ![1, 2048]⟩
abbrev S1x2048x10240 : Shape := ⟨3, ![1, 2048, 10240]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x10240 : Shape := ⟨2, ![2048, 10240]⟩
abbrev S4x4096x10240 : Shape := ⟨3, ![4, 4096, 10240]⟩
abbrev S4x4096x3072 : Shape := ⟨3, ![4, 4096, 3072]⟩
abbrev S4x4096x4096 : Shape := ⟨3, ![4, 4096, 4096]⟩
abbrev S4x4096x7168 : Shape := ⟨3, ![4, 4096, 7168]⟩
abbrev S16384x7168 : Shape := ⟨2, ![16384, 7168]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x10240, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x10240, .f32⟩
  | .hbm, ⟨21, _⟩ => ⟨S4x4096x10240, .f32⟩
  | .hbm, ⟨22, _⟩ => ⟨S4x4096x3072, .f32⟩
  | .hbm, ⟨23, _⟩ => ⟨S4x4096x4096, .f32⟩
  | .hbm, ⟨24, _⟩ => ⟨S4x4096x7168, .f32⟩
  | .hbm, ⟨25, _⟩ => ⟨S16384x7168, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x2048, .f32⟩
  | .hbm, ⟨21, _⟩ => ⟨S16384x2048, .f32⟩
  | .hbm, ⟨22, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x256x2048 : Shape := ⟨3, ![4, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x2048 : Shape := ⟨2, ![2048, 2048]⟩
abbrev S1024x2048 : Shape := ⟨2, ![1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x2048, .f32⟩
  | .hbm, ⟨21, _⟩ => ⟨S4x256x2048, .f32⟩
  | .hbm, ⟨22, _⟩ => ⟨S1024x2048, .f32⟩
  | .hbm, ⟨23, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S2048x16384 : Shape := ⟨2, ![2048, 16384]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S16384x2048, .bf16⟩
  | .hbm, ⟨8, _⟩ => ⟨S2048x16384, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩
abbrev S2048x16384 : Shape := ⟨2, ![2048, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x2048, .f32⟩
  | .hbm, ⟨21, _⟩ => ⟨S16384x2048, .f32⟩
  | .hbm, ⟨22, _⟩ => ⟨S16384x2048, .bf16⟩
  | .hbm, ⟨23, _⟩ => ⟨S2048x16384, .f32⟩
  | .hbm, ⟨24, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S16384x7168 : Shape := ⟨2, ![16384, 7168]⟩
abbrev S1x3x1024 : Shape := ⟨3, ![1, 3, 1024]⟩
abbrev S1x1024 : Shape := ⟨2, ![1, 1024]⟩
abbrev S1x1024x2048 : Shape := ⟨3, ![1, 1024, 2048]⟩
abbrev S3x1024 : Shape := ⟨2, ![3, 1024]⟩
abbrev S1024 : Shape := ⟨1, ![1024]⟩
abbrev S1024x2048 : Shape := ⟨2, ![1024, 2048]⟩
abbrev S16384x2048 : Shape := ⟨2, ![16384, 2048]⟩
abbrev S512x1024 : Shape := ⟨2, ![512, 1024]⟩
abbrev S8x1024 : Shape := ⟨2, ![8, 1024]⟩
abbrev S512x2048 : Shape := ⟨2, ![512, 2048]⟩

abbrev nBuf : Space → Nat
  | .hbm => 14
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x7168, .f32⟩
  | .hbm, ⟨2, _⟩ => ⟨S1x3x1024, .f32⟩
  | .hbm, ⟨3, _⟩ => ⟨S1x1024, .f32⟩
  | .hbm, ⟨4, _⟩ => ⟨S1x1024x2048, .f32⟩
  | .hbm, ⟨5, _⟩ => ⟨S1x1024x2048, .f32⟩
  | .hbm, ⟨6, _⟩ => ⟨S3x1024, .f32⟩
  | .hbm, ⟨7, _⟩ => ⟨S1024, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S1x1024, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S3x1024, .f32⟩
  | .local _ .vmem, ⟨13, _⟩ => ⟨S1x1024, .f32⟩
  | .local _ .vmem, ⟨14, _⟩ => ⟨S1024x2048, .bf16⟩
  | .local _ .vmem, ⟨15, _⟩ => ⟨S1024x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference8Ideal.lean ====
abbrev S16384x1024 : Shape := ⟨2, ![16384, 1024]⟩
abbrev S16384x7168 : Shape := ⟨2, ![16384, 7168]⟩
abbrev S1x3x1024 : Shape := ⟨3, ![1, 3, 1024]⟩
abbrev S1x1024 : Shape := ⟨2, ![1, 1024]⟩
abbrev S1x1024x2048 : Shape := ⟨3, ![1, 1024, 2048]⟩
abbrev S4x4096x7168 : Shape := ⟨3, ![4, 4096, 7168]⟩
abbrev S4x4096x2048 : Shape := ⟨3, ![4, 4096, 2048]⟩
abbrev S4x4096x1024 : Shape := ⟨3, ![4, 4096, 1024]⟩
abbrev S1024x2048 : Shape := ⟨2, ![1024, 2048]⟩
abbrev S3x1024 : Shape := ⟨2, ![3, 1024]⟩
abbrev S1024 : Shape := ⟨1, ![1024]⟩
abbrev S_ : Shape := ⟨0, ![]⟩
abbrev S4x4098x1024 : Shape := ⟨3, ![4, 4098, 1024]⟩
abbrev S1x1x1024 : Shape := ⟨3, ![1, 1, 1024]⟩
abbrev S16384x2048 : Shape := ⟨2, ![16384, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x7168, .f32⟩
  | .hbm, ⟨2, _⟩ => ⟨S1x3x1024, .f32⟩
  | .hbm, ⟨3, _⟩ => ⟨S1x1024, .f32⟩
  | .hbm, ⟨4, _⟩ => ⟨S1x1024x2048, .f32⟩
  | .hbm, ⟨5, _⟩ => ⟨S1x1024x2048, .f32⟩
  | .hbm, ⟨6, _⟩ => ⟨S4x4096x7168, .f32⟩
  | .hbm, ⟨7, _⟩ => ⟨S4x4096x2048, .f32⟩
  | .hbm, ⟨8, _⟩ => ⟨S4x4096x2048, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S16384x1024, .f32⟩
  | .hbm, ⟨13, _⟩ => ⟨S4x4096x1024, .f32⟩
  | .hbm, ⟨14, _⟩ => ⟨S1024x2048, .f32⟩
  | .hbm, ⟨15, _⟩ => ⟨S4x4096x2048, .f32⟩
  | .hbm, ⟨16, _⟩ => ⟨S4x4096x1024, .f32⟩
  | .hbm, ⟨17, _⟩ => ⟨S3x1024, .f32⟩
  | .hbm, ⟨18, _⟩ => ⟨S1024, .f32⟩
  | .hbm, ⟨19, _⟩ => ⟨S_, .i32⟩
  | .hbm, ⟨20, _⟩ => ⟨S_, .f32⟩
  | .hbm, ⟨21, _⟩ => ⟨S4x4098x1024, .f32⟩
  | .hbm, ⟨22, _⟩ => ⟨S4x4096x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S1024x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S_, .f32⟩
  | .hbm, ⟨60, _⟩ => ⟨S4x4096x2048, .f32⟩
  | .hbm, ⟨61, _⟩ => ⟨S4x4096x2048, .f32⟩
  | .hbm, ⟨62, _⟩ => ⟨S_, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S16384x2048, .f32⟩
  | .hbm, ⟨68, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_cst_0 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_1 : Ref sig .tc := ⟨.hbm, 59, rfl⟩
abbrev main_v49 : Ref sig .tc := ⟨.hbm, 60, rfl⟩
abbrev main_v50 : Ref sig .tc := ⟨.hbm, 61, rfl⟩
abbrev main_cst_2 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel9.lean ====
abbrev S16384x2048 : Shape := ⟨2, ![16384, 2048]⟩
abbrev S1024x2048 : Shape := ⟨2, ![1024, 2048]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S1024x2048, .bf16⟩
  | .hbm, ⟨3, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S512x2048, .bf16⟩
  | .local _ .vmem, ⟨7, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel9Ideal.lean ====
variable {F : FTy → Type} [FloatOps F] [Named F]
def κ : String → Option EReal := fun
  | "scale" => some (((Real.sqrt 512)⁻¹ : ℝ) : EReal)
  | _ => none
-- ==== Reference9Ideal.lean ====
abbrev S16384x2048 : Shape := ⟨2, ![16384, 2048]⟩
abbrev S1024x2048 : Shape := ⟨2, ![1024, 2048]⟩
abbrev S4x4096x4x512 : Shape := ⟨4, ![4, 4096, 4, 512]⟩
abbrev S4x256x4x512 : Shape := ⟨4, ![4, 256, 4, 512]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩
abbrev S4x4096x2048 : Shape := ⟨3, ![4, 4096, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S1024x2048, .bf16⟩
  | .hbm, ⟨3, _⟩ => ⟨S16384x2048, .f32⟩
  | .hbm, ⟨4, _⟩ => ⟨S4x4096x4x512, .f32⟩
  | .hbm, ⟨5, _⟩ => ⟨S1024x2048, .f32⟩
  | .hbm, ⟨6, _⟩ => ⟨S4x256x4x512, .f32⟩
  | .hbm, ⟨7, _⟩ => ⟨S1024x2048, .f32⟩
  | .hbm, ⟨8, _⟩ => ⟨S4x256x4x512, .f32⟩
  | .hbm, ⟨9, _⟩ => ⟨S4x4x4096x256, .f32⟩
  | .hbm, ⟨10, _⟩ => ⟨S_, .f32⟩
  | .hbm, ⟨11, _⟩ => ⟨S_, .f32⟩
  | .hbm, ⟨12, _⟩ => ⟨S4x4x4096x256, .f32⟩
  | .hbm, ⟨13, _⟩ => ⟨S4x4x4096x256, .f32⟩
  | .hbm, ⟨14, _⟩ => ⟨S_, .f32⟩
  | .hbm, ⟨15, _⟩ => ⟨S4x4x4096, .f32⟩
  | .hbm, ⟨16, _⟩ => ⟨S_, .f32⟩
  | .hbm, ⟨17, _⟩ => ⟨S4x4x4096, .f32⟩
  | .hbm, ⟨18, _⟩ => ⟨S4x4x4096, .f32⟩
  | .hbm, ⟨19, _⟩ => ⟨S4x4x4096x1, .f32⟩
  | .hbm, ⟨20, _⟩ => ⟨S4x4x4096x256, .f32⟩
  | .hbm, ⟨21, _⟩ => ⟨S4x4x4096x256, .f32⟩
  | .hbm, ⟨22, _⟩ => ⟨S4x4x4096x256, .f32⟩
  | .hbm, ⟨23, _⟩ => ⟨S_, .f32⟩
  | .hbm, ⟨24, _⟩ => ⟨S4x4x4096, .f32⟩
  | .hbm, ⟨25, _⟩ => ⟨S4x4x4096x1, .f32⟩
  | .hbm, ⟨26, _⟩ => ⟨S4x4x4096x256, .f32⟩
  | .hbm, ⟨27, _⟩ => ⟨S4x4x4096x256, .f32⟩
  | .hbm, ⟨28, _⟩ => ⟨S4x4x512x4096, .f32⟩
  | .hbm, ⟨29, _⟩ => ⟨S4x4096x4x512, .f32⟩
  | .hbm, ⟨30, _⟩ => ⟨S4x4096x2048, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

def κ : String → Option EReal := fun
  | "scale" => some (((Real.sqrt 512)⁻¹ : ℝ) : EReal)
  | _ => none
-- ==== Kernel10.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S16384x2048 : Shape := ⟨2, ![16384, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Soft.lean ====
module

public import Idealize.ShloMosaic.Lib.Pointwise
public import Idealize.ShloMosaic.Lib.Pipeline.Value

@[expose] public section

noncomputable section

open Idealize.ShloMosaic

namespace Cert.Hand

/-- The largest of a row of scores. -/
def mx {ι : Type} [Fintype ι] (s : ι → EReal) : EReal := Finset.univ.fold max (Ideal.ofBits .f32 0xFF800000#32) s

/-- The softmax weight of score `k` of a row. -/
def soft {ι : Type} [Fintype ι] (s : ι → EReal) (k : ι) : EReal :=
  Ideal.div (Ideal.exp (s k - mx s)) (∑ j, Ideal.exp (s j - mx s))

/-- The values of a row, weighted by the softmax of its scores. -/
def att {ι : Type} [Fintype ι] (s v : ι → EReal) : EReal := ∑ k, soft s k * v k

/-- The word of minus infinity is the least number. -/
theorem ofBits_bot : Ideal.ofBits .f32 0xFF800000#32 = ⊥ := by
  simp [Ideal.ofBits, Ideal.ieee]

/-- Taking the maximum with minus infinity once more changes nothing. -/
theorem max_mx {ι : Type} [Fintype ι] (s : ι → EReal) : max (Ideal.ofBits .f32 0xFF800000#32) (mx s) = mx s := by
  rw [ofBits_bot]; exact max_eq_right bot_le

theorem ofBits_128 : Ideal.ofBits .f32 0x43000000#32 = ((128 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The quotient by the root of 128 is the product with its inverse. -/
theorem div_sqrt_128 (x : EReal) :
    Ideal.div x (Ideal.sqrt (Ideal.ofBits .f32 0x43000000#32)) = x * (((Real.sqrt 128)⁻¹ : ℝ) : EReal) := by
  rw [ofBits_128, Ideal.sqrt_coe, if_neg (by norm_num),
    Ideal.div_coe (show Real.sqrt 128 ≠ 0 from (Real.sqrt_pos.mpr (by norm_num)).ne'), one_div]

/-- The quotient by the root of 512 is the product with its inverse. -/
theorem div_sqrt_512 (x : EReal) :
    Ideal.div x (Ideal.sqrt (Ideal.ofBits .f32 0x44000000#32)) = x * (((Real.sqrt 512)⁻¹ : ℝ) : EReal) := by
  rw [ofBits_512, Ideal.sqrt_coe, if_neg (by norm_num),
    Ideal.div_coe (show Real.sqrt 512 ≠ 0 from (Real.sqrt_pos.mpr (by norm_num)).ne'), one_div]

end Cert.Hand

end
-- ==== Proof.Band.lean ====
module

public import proofs.«01_k».proof.Proof.Soft
public import Idealize.ShloMosaic.PureOps.Ideal

@[expose] public section

noncomputable section

open Idealize.ShloMosaic

namespace Cert.Hand

variable {ι κ : Type} [Fintype ι] [Fintype κ]

theorem mx_eq_sup (s : ι → EReal) : mx s = Finset.univ.sup s := by
  unfold mx
  rw [ofBits_bot]
  rfl

theorem le_mx (s : ι → EReal) (k : ι) : s k ≤ mx s := by
  rw [mx_eq_sup]; exact Finset.le_sup (Finset.mem_univ k)

/-- Columns at minus infinity do not change the largest score. -/
theorem mx_embed (e : κ → ι) (s : ι → EReal) (hs : ∀ i, (∀ k, e k ≠ i) → s i = ⊥) : mx s = mx (fun k => s (e k)) := by
  apply le_antisymm
  · rw [mx_eq_sup]
    refine Finset.sup_le fun i _ => ?_
    by_cases h : ∃ k, e k = i
    · obtain ⟨k, rfl⟩ := h
      exact le_mx (fun k => s (e k)) k
    · rw [hs i fun k hk => h ⟨k, hk⟩]; exact bot_le
  · rw [mx_eq_sup (fun k => s (e k))]
    exact Finset.sup_le fun k _ => le_mx s (e k)

/-- A sum over all columns is one over the embedded ones where the others add 0. -/
theorem sum_embed (e : κ → ι) (he : Function.Injective e) (f : ι → EReal) (hf : ∀ i, (∀ k, e k ≠ i) → f i = 0) :
    ∑ i, f i = ∑ k, f (e k) := by
  classical
  rw [← Finset.sum_image (s := Finset.univ) (g := e) (f := f) (fun a _ b _ h => he h)]
  refine (Finset.sum_subset (Finset.subset_univ _) fun i _ hi => hf i fun k hk => hi ?_).symm
  exact Finset.mem_image.2 ⟨k, Finset.mem_univ _, hk⟩

theorem exp_nonneg (x : EReal) : 0 ≤ Ideal.exp x := by
  induction x with
  | bot => simp
  | top => simp
  | coe r => rw [Ideal.exp_coe]; exact_mod_cast (Real.exp_pos r).le

/-- The sum of the exponentials is not 0 where a score is above minus infinity and none is plus infinity. -/
theorem den_ne_zero (s : ι → EReal) (h1 : ∀ k, s k ≠ ⊤) (h2 : ∃ k, s k ≠ ⊥) : ∑ j, Ideal.exp (s j - mx s) ≠ 0 := by
  obtain ⟨k0, hk0⟩ := h2
  obtain ⟨k, -, hk⟩ := Finset.exists_max_image Finset.univ s ⟨k0, Finset.mem_univ _⟩
  have hm : mx s = s k := by
    apply le_antisymm
    · rw [mx_eq_sup]; exact Finset.sup_le hk
    · exact le_mx s k
  have hb : s k ≠ ⊥ := fun h => hk0 (le_bot_iff.1 (h ▸ hk k0 (Finset.mem_univ _)))
  have h1' : Ideal.exp (s k - mx s) = 1 := by
    rw [hm]
    lift s k to ℝ using ⟨h1 k, hb⟩ with r
    rw [← EReal.coe_sub, Ideal.exp_coe, sub_self, Real.exp_zero, EReal.coe_one]
  have hle : (1 : EReal) ≤ ∑ j, Ideal.exp (s j - mx s) := by
    rw [← h1']
    exact Finset.single_le_sum (f := fun j => Ideal.exp (s j - mx s)) (fun j _ => exp_nonneg _) (Finset.mem_univ k)
  intro h
  rw [h] at hle
  exact absurd hle (not_le.2 zero_lt_one)

/-- A score of minus infinity has the weight 0. -/
theorem soft_bot (s : ι → EReal) (h1 : ∀ k, s k ≠ ⊤) (h2 : ∃ k, s k ≠ ⊥) (i : ι) (hi : s i = ⊥) : soft s i = 0 := by
  unfold soft
  rw [hi, EReal.bot_sub, Ideal.exp_bot, Ideal.div, if_neg (den_ne_zero s h1 h2), zero_mul]

/-- The attention over all columns of a window is the one over a band of them, where the others are at minus infinity. Values
    count only where the score is not minus infinity. -/
theorem att_embed (e : κ → ι) (he : Function.Injective e) (s : ι → EReal) (v : ι → EReal) (s' v' : κ → EReal)
    (hs : ∀ i, (∀ k, e k ≠ i) → s i = ⊥) (hs' : ∀ k, s (e k) = s' k) (hv : ∀ k, s' k ≠ ⊥ → v (e k) = v' k)
    (h1 : ∀ k, s' k ≠ ⊤) (h2 : ∃ k, s' k ≠ ⊥) : att s v = att s' v' := by
  obtain rfl : (fun k => s (e k)) = s' := funext hs'
  have h1s : ∀ i, s i ≠ ⊤ := fun i => by
    by_cases h : ∃ k, e k = i
    · obtain ⟨k, rfl⟩ := h; exact h1 k
    · rw [hs i fun k hk => h ⟨k, hk⟩]; exact bot_ne_top
  have h2s : ∃ i, s i ≠ ⊥ := h2.elim fun k hk => ⟨e k, hk⟩
  have hm : mx s = mx (fun k => s (e k)) := mx_embed e s hs
  have hd : ∑ j, Ideal.exp (s j - mx s) = ∑ k, Ideal.exp (s (e k) - mx fun k => s (e k)) := by
    rw [sum_embed e he _ fun i hi => by rw [hs i hi, EReal.bot_sub, Ideal.exp_bot], hm]
  have hw : ∀ k, soft s (e k) = soft (fun k => s (e k)) k := fun k => by
    unfold soft
    rw [hd, hm]
  unfold att
  rw [sum_embed e he _ fun i hi => by rw [soft_bot s h1s h2s i (hs i hi), zero_mul]]
  refine Finset.sum_congr rfl fun k _ => ?_
  rw [hw]
  by_cases hb : s (e k) = ⊥
  · rw [soft_bot (fun k => s (e k)) h1 h2 k hb, zero_mul, zero_mul]
  · rw [hv k hb]

/-! ## The band attention of one layer -/

/-- The table's entry that the query in place `q` of its chunk reads for the band's key `t`: by their clipped distance. -/
abbrev rix (q t : ℕ) : Fin 257 := ⟨min (640 + q - t) 256, by omega⟩

/-- Row of key `t` of the band of row `R`'s chunk, within `R`'s sequence; `R`'s chunk is its last one. -/
abbrev krow (R : Fin 16384) (t : Fin 576) : Fin 16384 :=
  ⟨R.val / 4096 * 4096 + (R.val % 4096 / 64 * 64 + t.val - 512), by omega⟩

/-- The score of key `t` of the band; minus infinity in front of the sequence. -/
def bscore (X : Fin 16384 → Fin 3072 → EReal) (T : Fin 8 → Fin 257 → EReal) (R : Fin 16384) (h : Fin 8) (t : Fin 576) : EReal :=
  if R.val % 4096 / 64 * 64 + t.val < 512 then ⊥
  else (∑ d : Fin 128, X R ⟨h.val * 128 + d.val, by omega⟩ * X (krow R t) ⟨1024 + (h.val * 128 + d.val), by omega⟩)
      * (((Real.sqrt 128)⁻¹ : ℝ) : EReal) + T h (rix (R.val % 64) t.val)

/-- The value of key `t` of the band; 0 in front of the sequence. -/
def bvalue (X : Fin 16384 → Fin 3072 → EReal) (R : Fin 16384) (C : Fin 1024) (t : Fin 576) : EReal :=
  if R.val % 4096 / 64 * 64 + t.val < 512 then 0 else X (krow R t) ⟨2048 + C.val, by omega⟩

/-- The band attention at a row and a column. -/
def band (X : Fin 16384 → Fin 3072 → EReal) (T : Fin 8 → Fin 257 → EReal) (R : Fin 16384) (C : Fin 1024) : EReal :=
  att (bscore X T R ⟨C.val / 128, by omega⟩) (bvalue X R C)

theorem finite_coe {x : EReal} (h1 : x ≠ ⊤) (h2 : x ≠ ⊥) : ∃ r : ℝ, x = (r : EReal) := by
  lift x to ℝ using ⟨h1, h2⟩; exact ⟨x, rfl⟩

theorem sum_coe_exists {n : Type} [Fintype n] (f : n → EReal) (hf : ∀ k, ∃ r : ℝ, f k = (r : EReal)) : ∃ r : ℝ, ∑ k, f k = (r : EReal) := by
  choose g hg using hf
  refine ⟨∑ k, g k, ?_⟩
  rw [Finset.sum_congr rfl fun k _ => hg k]
  exact (map_sum (⟨⟨Real.toEReal, EReal.coe_zero⟩, EReal.coe_add⟩ : ℝ →+ EReal) g Finset.univ).symm

/-- With finite queries, keys and table a score is finite or minus infinity in front of the sequence. -/
theorem bscore_coe (X : Fin 16384 → Fin 3072 → EReal) (T : Fin 8 → Fin 257 → EReal)
    (hX : ∀ R (C : Fin 3072), C.val < 2048 → ∃ r : ℝ, X R C = (r : EReal)) (hT : ∀ h i, ∃ r : ℝ, T h i = (r : EReal))
    (R : Fin 16384) (h : Fin 8) (t : Fin 576) (ht : ¬R.val % 4096 / 64 * 64 + t.val < 512) :
    ∃ r : ℝ, bscore X T R h t = (r : EReal) := by
  unfold bscore
  rw [if_neg ht]
  obtain ⟨a, ha⟩ := sum_coe_exists (fun d : Fin 128 =>
      X R ⟨h.val * 128 + d.val, by omega⟩ * X (krow R t) ⟨1024 + (h.val * 128 + d.val), by omega⟩) fun d => by
    obtain ⟨x, hx⟩ := hX R ⟨h.val * 128 + d.val, by omega⟩ (by show h.val * 128 + d.val < 2048; omega)
    obtain ⟨y, hy⟩ := hX (krow R t) ⟨1024 + (h.val * 128 + d.val), by omega⟩ (by show 1024 + (h.val * 128 + d.val) < 2048; omega)
    exact ⟨x * y, by rw [hx, hy, EReal.coe_mul]⟩
  obtain ⟨b, hb⟩ := hT h (rix (R.val % 64) t.val)
  exact ⟨a * (Real.sqrt 128)⁻¹ + b, by rw [ha, hb, ← EReal.coe_mul, ← EReal.coe_add]⟩

/-- The attention over a window of 768 columns, the band within it, is the band attention. -/
theorem window_eq (X : Fin 16384 → Fin 3072 → EReal) (T : Fin 8 → Fin 257 → EReal)
    (hX : ∀ R (C : Fin 3072), C.val < 2048 → ∃ r : ℝ, X R C = (r : EReal)) (hT : ∀ h i, ∃ r : ℝ, T h i = (r : EReal))
    (R : Fin 16384) (C : Fin 1024) (s v : Fin 768 → EReal)
    (hs : ∀ c : Fin 768, (c.val < R.val % 256 / 64 * 64 ∨ R.val % 256 / 64 * 64 + 576 ≤ c.val) → s c = ⊥)
    (hs' : ∀ t : Fin 576, s ⟨R.val % 256 / 64 * 64 + t.val, by omega⟩ = bscore X T R ⟨C.val / 128, by omega⟩ t)
    (hv : ∀ t : Fin 576, ¬R.val % 4096 / 64 * 64 + t.val < 512 →
      v ⟨R.val % 256 / 64 * 64 + t.val, by omega⟩ = X (krow R t) ⟨2048 + C.val, by omega⟩) :
    att s v = band X T R C := by
  refine att_embed (fun t : Fin 576 => (⟨R.val % 256 / 64 * 64 + t.val, by omega⟩ : Fin 768)) ?_ s v _ _ ?_ hs' ?_ ?_ ?_
  · intro a b hab
    have := congrArg Fin.val hab
    exact Fin.ext (Nat.add_left_cancel this)
  · intro c hc
    refine hs c ?_
    by_contra hn
    refine hc ⟨c.val - R.val % 256 / 64 * 64, by omega⟩ (Fin.ext ?_)
    show R.val % 256 / 64 * 64 + (c.val - R.val % 256 / 64 * 64) = c.val
    omega
  · intro t ht
    have hl : ¬R.val % 4096 / 64 * 64 + t.val < 512 := fun hh => ht (by unfold bscore; rw [if_pos hh])
    unfold bvalue
    rw [if_neg hl]
    exact hv t hl
  · intro t
    by_cases hl : R.val % 4096 / 64 * 64 + t.val < 512
    · unfold bscore; rw [if_pos hl]; exact bot_ne_top
    · obtain ⟨r, hr⟩ := bscore_coe X T hX hT R ⟨C.val / 128, by omega⟩ t hl
      rw [hr]; exact EReal.coe_ne_top r
  · refine ⟨⟨512, by omega⟩, ?_⟩
    obtain ⟨r, hr⟩ := bscore_coe X T hX hT R ⟨C.val / 128, by omega⟩ ⟨512, by omega⟩ (by show ¬R.val % 4096 / 64 * 64 + 512 < 512; omega)
    rw [hr]; exact EReal.coe_ne_bot r

end Cert.Hand

end
-- ==== Proof.K1a.lean ====
module

public import proofs.«01_k».proof.Proof.Band
public import proofs.«01_k».proof.Proof.Gen.KernelIdeal.Value
public import Idealize.ShloMosaic.Lib.Pointwise
public import Idealize.ShloMosaic.Lib.Pipeline.Value
public import Idealize.ShloMosaic.Lib.Pipeline.ValueKit.Tiles
public import Idealize.ShloMosaic.Lib.Tactic

@[expose] public section

noncomputable section

open Idealize.ShloMosaic Idealize.ShloMosaic.TcCoe Idealize.SL.Sem

namespace Cert.KernelIdeal.Hand

open Cert.KernelIdeal Cert.KernelIdeal.Gen Cert.Hand

/-! ## One head of one block -/

/-- The scale of the scores. -/
theorem scale : Named.named (F := Ideal) κ "scale" (φ := .f32) 0x3DB504F3#32 = (((Real.sqrt 128)⁻¹ : ℝ) : EReal) :=
  IdealRules.named_const.ideal_named_scalar _ _ _ _ rfl

/-- The value under the mask. -/
theorem mask : Named.named (F := Ideal) κ "mask" (φ := .f32) 0xF149F2CA#32 = (⊥ : EReal) :=
  IdealRules.named_const.ideal_named_scalar _ _ _ _ rfl

/-- A head's output at an index: the values weighted by the softmax of the masked scores. -/
theorem head_apply (M : IVec S256x768 1) (q : Vec Ideal S256x128 .bf16) (k v : Vec Ideal S768x128 .bf16) (b : Vec Ideal S1x256x768 .f32)
    (j : S256x128.Idx) :
    k0_pay11 M q k v b j = att (fun n : Fin 768 => Scalar.select (M (ix2 (j 0) n)) (⊥ : EReal)
        ((∑ d : Fin 128, q (ix2 (j 0) d) * k (ix2 n d)) * (((Real.sqrt 128)⁻¹ : ℝ) : EReal) + b (ix3 0 (j 0) n)))
      (fun n => v (ix2 n (j 1))) := by
  rw [← scale, ← mask]
  unfold k0_pay11 att soft mx
  pointwise

section
variable (M : IVec S256x768 1) (q : Vec Ideal S256x128 .bf16) (k v : Vec Ideal S768x128 .bf16) (b : Vec Ideal S1x256x768 .f32)

theorem pay_0 : k0_pay7 M v (k0_pay6 q k) b = k0_pay11 M q k v b := rfl
theorem pay_1 : k0_pay10 v (k0_pay8 M q k b) (k0_pay9 M q k b) = k0_pay11 M q k v b := rfl
theorem pay_3 : k0_pay12 M q k v b = k0_pay11 M q k v b := rfl
theorem pay_4 : k0_pay15 v (k0_pay13 M q k b) (k0_pay14 M q k b) = k0_pay11 M q k v b := rfl
theorem pay_5 : k0_pay16 M q k v b = k0_pay11 M q k v b := rfl
theorem pay_6 : k0_pay17 M q k v b = k0_pay11 M q k v b := rfl
theorem pay_7 : k0_pay19 M v (k0_pay18 q k b) = k0_pay11 M q k v b := rfl
theorem pay_8 (a : BitVec 1) (w : IVec S256x768 32) :
    k0_pay23 v (k0_pay21 a w q k b) (k0_pay22 a w q k b) = k0_pay11 (k0_pay20 a w) q k v b := rfl
theorem pay_9 : k0_pay24 M q k v b = k0_pay11 M q k v b := rfl
theorem pay_10 : k0_pay25 M q k v b = k0_pay11 M q k v b := rfl
theorem pay_11 : k0_pay28 v (k0_pay26 M q k b) (k0_pay27 M q k b) = k0_pay11 M q k v b := rfl
theorem pay_12 : k0_pay29 M q k v b = k0_pay11 M q k v b := rfl
theorem pay_13 : k0_pay30 M q k v b = k0_pay11 M q k v b := rfl
theorem pay_14 : k0_pay32 M v (k0_pay31 q k b) (Named.named κ "mask" 0xF149F2CA#32) = k0_pay11 M q k v b := rfl
theorem pay_15 : k0_pay33 M q k v b = k0_pay11 M q k v b := rfl

end

/-- The word of a truth value. -/
abbrev bit (p : Prop) [Decidable p] : BitVec 1 := if p then 1#1 else 0#1

theorem bit_and (p q : Prop) [Decidable p] [Decidable q] : (bit p : BitVec 1) &&& bit q = bit (p ∧ q) := by
  unfold bit
  by_cases hp : p <;> by_cases hq : q <;> simp [hp, hq]

theorem eq0_word (n : Nat) (hn : n < 2 ^ 32) : IntOp.cmpi .eq (BitVec.ofNat 32 n) 0#32 = bit (n = 0) := by
  unfold bit
  by_cases h : n = 0
  · subst h; rfl
  · rw [if_neg h]
    have : BitVec.ofNat 32 n ≠ 0#32 := fun e => h (by
      have e' := congrArg BitVec.toNat e
      rw [BitVec.toNat_ofNat, Nat.mod_eq_of_lt hn] at e'
      exact e')
    show BitVec.ofBool (BitVec.ofNat 32 n == 0#32) = 0#1
    rw [beq_eq_false_iff_ne.2 this]
    rfl

theorem lt_word (n k : Nat) (hn : n < 2 ^ 31) (hk : k < 2 ^ 31) : IntOp.cmpi .slt (BitVec.ofNat 32 n) (BitVec.ofNat 32 k) = bit (n < k) := by
  have e : (BitVec.ofNat 32 n).slt (BitVec.ofNat 32 k) = decide (n < k) := by
    rw [BitVec.slt_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  unfold bit
  by_cases h : n < k <;> simp [IntOp.cmpi, e, h]

/-- The masked columns of the block's first half. -/
theorem dead_0 (i : grid0.Coords) (r : Fin 256) (n : Fin 768) : k0_pay5 i (ix2 r n) = bit ((i 1).val = 0 ∧ n.val < 512) := by
  rw [← bit_and, ← eq0_word (i 1).val (by have := (i 1).isLt; have h : (i 1).val < 8 := this; omega), ← lt_word n.val 512 (by omega) (by omega)]
  unfold k0_pay5
  pointwise
  rfl

/-- The masked columns of the block's second half. -/
theorem dead_1 (i : grid0.Coords) (r : Fin 256) (n : Fin 768) :
    k0_pay20 (Scalar.cmpi .eq (BitVec.ofNat 32 (i 1).val) 0#32) (iota .tc S256x768 32 [1] iota_S256x768_d1_w32) (ix2 r n)
      = bit ((i 1).val = 0 ∧ n.val < 256) := by
  rw [← bit_and, ← eq0_word (i 1).val (by have := (i 1).isLt; have h : (i 1).val < 8 := this; omega), ← lt_word n.val 256 (by omega) (by omega)]
  unfold k0_pay20
  pointwise
  rfl

/-! ## The window of a block: the block before over its own -/

/-- The rows of the block before, then the block's own. -/
def win (x y : Vec Ideal S512x1024 .bf16) (R C : Fin 1024) : EReal :=
  if h : R.val < 512 then x (ix2 ⟨R.val, h⟩ C) else y (ix2 ⟨R.val - 512, by omega⟩ C)

/-- The same as an array. -/
def winV (x y : Vec Ideal S512x1024 .bf16) : Vec Ideal S1024x1024 .bf16 := fun j => win x y (j 0) (j 1)

/-- A load from a buffer that the two stores fill. -/
theorem scr {κ' : Kind} {sp : Space} (v : View sig κ' sp S1024x1024 .bf16) (x y : Vec Ideal S512x1024 .bf16) (i0 i1) (r : Rect S1024x1024) :
    v.readCov (Val := Elt Ideal) [⟨Rect.unit (s := S1024x1024) ![512, 0] ![512, 1024] i1, y⟩, ⟨Rect.unit (s := S1024x1024) ![0, 0] ![512, 1024] i0, x⟩] r.toLoadRect
      = View.ld (Val := Elt Ideal) (winV x y) r := by
  have hc : ∀ z : S1024x1024.Idx, ∃ p ∈ ([⟨Rect.unit (s := S1024x1024) ![512, 0] ![512, 1024] i1, y⟩, ⟨Rect.unit (s := S1024x1024) ![0, 0] ![512, 1024] i0, x⟩] :
      List (View.Piece (Elt Ideal) S1024x1024 .bf16)), z ∈ p.1.set := by
    intro z
    have h0 : (z 0).val < 1024 := (z 0).isLt
    have h1 : (z 1).val < 1024 := (z 1).isLt
    by_cases h : (z 0).val < 512
    · refine ⟨_, List.mem_cons_of_mem _ List.mem_cons_self, ?_⟩
      rw [Rect.mem_set_unit]
      intro a
      match a with
      | ⟨0, _⟩ => show 0 ≤ (z 0).val ∧ (z 0).val < 0 + 512; omega
      | ⟨1, _⟩ => show 0 ≤ (z 1).val ∧ (z 1).val < 0 + 1024; omega
    · refine ⟨_, List.mem_cons_self, ?_⟩
      rw [Rect.mem_set_unit]
      intro a
      match a with
      | ⟨0, _⟩ => show 512 ≤ (z 0).val ∧ (z 0).val < 512 + 512; omega
      | ⟨1, _⟩ => show 0 ≤ (z 1).val ∧ (z 1).val < 0 + 1024; omega
  rw [View.readCov_eq_canon_ld _ _ _ hc]
  refine congrArg (fun u => View.ld (Val := Elt Ideal) u r) (funext fun z => ?_)
  refine View.canon_apply_of_pieces (Val := Elt Ideal) (e := .bf16) (winV x y) _ ?_ z (hc z)
  intro p hp
  simp only [List.mem_cons, List.not_mem_nil, or_false] at hp
  rcases hp with rfl | rfl
  · intro a
    have ha : (a 0).val < 512 := (a 0).isLt
    have e0 : ((Rect.unit (s := S1024x1024) ![512, 0] ![512, 1024] i1).emb a 0).val = 512 + (a 0).val := by
      show 512 + 1 * (a 0).val = _; omega
    have e1 : ((Rect.unit (s := S1024x1024) ![512, 0] ![512, 1024] i1).emb a 1).val = (a 1).val := by
      show 0 + 1 * (a 1).val = _; omega
    show y a = win x y _ _
    unfold win
    rw [dif_neg (by rw [e0]; omega)]
    refine congrArg y (funext fun b => Fin.ext ?_)
    match b with
    | ⟨0, _⟩ => show (a 0).val = ((Rect.unit (s := S1024x1024) ![512, 0] ![512, 1024] i1).emb a 0).val - 512; omega
    | ⟨1, _⟩ => exact e1.symm
  · intro a
    have ha : (a 0).val < 512 := (a 0).isLt
    have e0 : ((Rect.unit (s := S1024x1024) ![0, 0] ![512, 1024] i0).emb a 0).val = (a 0).val := by
      show 0 + 1 * (a 0).val = _; omega
    have e1 : ((Rect.unit (s := S1024x1024) ![0, 0] ![512, 1024] i0).emb a 1).val = (a 1).val := by
      show 0 + 1 * (a 1).val = _; omega
    show x a = win x y _ _
    unfold win
    rw [dif_pos (by rw [e0]; exact ha)]
    refine congrArg x (funext fun b => Fin.ext ?_)
    match b with
    | ⟨0, _⟩ => exact e0.symm
    | ⟨1, _⟩ => exact e1.symm

/-! ## What a point leaves -/

/-- Column `d` of the head column `C` is of. -/
abbrev hcol (C : Fin 1024) (d : Fin 128) : Fin 1024 := ⟨C.val / 128 * 128 + d.val, by omega⟩

/-- Row of the window that column `n` of the half `r` is in reads. -/
abbrev wrow (r : Fin 512) (n : Fin 768) : Fin 1024 := ⟨r.val / 256 * 256 + n.val, by omega⟩

/-- The block a point leaves, of the blocks it reads; `f` says whether it is the first of its sequence. -/
def blk (f : Prop) [Decidable f] (x0 x1 x2 x3 x4 : Vec Ideal S512x1024 .bf16) (x5 : Vec Ideal S8x256x768 .f32) (r : Fin 512) (C : Fin 1024) : EReal :=
  att (fun n : Fin 768 => if f ∧ n.val < 512 - r.val / 256 * 256 then (⊥ : EReal)
      else (∑ d : Fin 128, x0 (ix2 r (hcol C d)) * win x1 x2 (wrow r n) (hcol C d)) * (((Real.sqrt 128)⁻¹ : ℝ) : EReal)
        + x5 (ix3 ⟨C.val / 128, by omega⟩ ⟨r.val % 256, by omega⟩ n))
    (fun n => win x3 x4 (wrow r n) C)

/-- A head's piece agrees with the block. -/
theorem piece (o0 o1 h : Nat) (ho0 : o0 % 256 = 0) (ho1 : o1 = h * 128)
    (i0 : ∀ a, (![o0, o1] : Fin 2 → Nat) a + S256x128.size a ≤ S512x1024.size a)
    (i1 : ∀ a, (![o0, o1] : Fin 2 → Nat) a + S768x128.size a ≤ S1024x1024.size a)
    (i2 : ∀ a, (![h, 0, 0] : Fin 3 → Nat) a + S1x256x768.size a ≤ S8x256x768.size a)
    (f : Prop) [Decidable f] (M : IVec S256x768 1) (hM : ∀ r n, M (ix2 r n) = bit (f ∧ n.val < 512 - o0))
    (x0 x1 x2 x3 x4 : Vec Ideal S512x1024 .bf16) (x5 : Vec Ideal S8x256x768 .f32)
    (x : (Rect.unit (s := S512x1024) ![o0, o1] S256x128.size i0).shape.Idx) :
    k0_pay11 M (View.ld x0 (Rect.unit (s := S512x1024) ![o0, o1] S256x128.size i0))
      (View.ld (winV x1 x2) (Rect.unit (s := S1024x1024) ![o0, o1] S768x128.size i1))
      (View.ld (winV x3 x4) (Rect.unit (s := S1024x1024) ![o0, o1] S768x128.size i1))
      (View.ld x5 (Rect.unit (s := S8x256x768) ![h, 0, 0] S1x256x768.size i2)) x
      = blk f x0 x1 x2 x3 x4 x5 ((Rect.unit (s := S512x1024) ![o0, o1] S256x128.size i0).emb x 0)
        ((Rect.unit (s := S512x1024) ![o0, o1] S256x128.size i0).emb x 1) := by
  have e0 : ((Rect.unit (s := S512x1024) ![o0, o1] S256x128.size i0).emb x 0).val = o0 + (x 0).val := by
    show o0 + 1 * (x 0).val = _; omega
  have e1 : ((Rect.unit (s := S512x1024) ![o0, o1] S256x128.size i0).emb x 1).val = o1 + (x 1).val := by
    show o1 + 1 * (x 1).val = _; omega
  have h0 : (x 0).val < 256 := (x 0).isLt
  have h1 : (x 1).val < 128 := (x 1).isLt
  generalize (Rect.unit (s := S512x1024) ![o0, o1] S256x128.size i0).emb x 0 = r at e0
  generalize (Rect.unit (s := S512x1024) ![o0, o1] S256x128.size i0).emb x 1 = C at e1
  rw [head_apply]
  unfold blk
  refine congrArg₂ att (funext fun n => ?_) (funext fun n => ?_)
  · have hw : r.val / 256 * 256 = o0 := by rw [e0]; omega
    refine (congrArg (fun w : BitVec 1 => Scalar.select w (⊥ : EReal) _) (hM (x 0) n)).trans ?_
    rw [hw]
    unfold bit
    by_cases hd : f ∧ n.val < 512 - o0
    · rw [if_pos hd, if_pos hd]; rfl
    · rw [if_neg hd, if_neg hd]
      show (_ : EReal) + _ = _
      refine congrArg₂ (fun a b : EReal => a + b) (congrArg (fun s : EReal => s * _) (Finset.sum_congr rfl fun d _ =>
        congrArg₂ (fun a b : EReal => a * b) ?_ ?_)) ?_
      · have hd := d.isLt
        refine View.ld_unit_apply_of _ _ _ _ _ _ fun a => ?_
        match a with
        | ⟨0, _⟩ => exact e0
        | ⟨1, _⟩ => show C.val / 128 * 128 + d.val = o1 + d.val; omega
      · have hd := d.isLt
        refine (View.ld_unit_apply_of _ _ _ _ _ (ix2 (wrow r n) (hcol C d)) fun a => ?_)
        match a with
        | ⟨0, _⟩ => show r.val / 256 * 256 + n.val = o0 + n.val; omega
        | ⟨1, _⟩ => show C.val / 128 * 128 + d.val = o1 + d.val; omega
      · refine View.ld_unit_apply_of _ _ _ _ _ _ fun a => ?_
        match a with
        | ⟨0, _⟩ => show C.val / 128 = h + 0; omega
        | ⟨1, _⟩ => show r.val % 256 = 0 + (x 0).val; omega
        | ⟨2, _⟩ => exact (Nat.zero_add _).symm
  · refine (View.ld_unit_apply_of _ _ _ _ _ (ix2 (wrow r n) C) fun a => ?_)
    match a with
    | ⟨0, _⟩ => show r.val / 256 * 256 + n.val = o0 + n.val; omega
    | ⟨1, _⟩ => exact e1

theorem hz : (![0, 0] : Fin 2 → Nat) = fun _ => 0 := funext fun a => by fin_cases a <;> rfl

/-- What a point leaves in the output's buffer. -/
theorem out_eq (c : Dev nD) (i : grid0.Coords) (a2 : Memref sig .tc .vmem S512x1024 .bf16) (h2 : a2.IsWhole) (a3 : Memref sig .tc .vmem S512x1024 .bf16) (h3 : a3.IsWhole)
    (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole) (a7 : Memref sig .tc .vmem S8x256x768 .f32) (h7 : a7.IsWhole)
    (a8 : Memref sig .tc .vmem S512x1024 .bf16) (h8 : a8.IsWhole) (a9 : Memref sig .tc .vmem S1024x1024 .bf16) (h9 : a9.IsWhole)
    (a10 : Memref sig .tc .vmem S1024x1024 .bf16) (h10 : a10.IsWhole)
    (x0 x1 x2 x3 x4 : Vec Ideal S512x1024 .bf16) (x5 : Vec Ideal S8x256x768 .f32) (y : S512x1024.Idx) :
    out0_A_6 c i a2 h2 a3 h3 a4 h4 a5 h5 a6 h6 a7 h7 a8 h8 a9 h9 a10 h10 x0 x1 x2 x3 x4 x5 y
      = blk ((i 1).val = 0) x0 x1 x2 x3 x4 x5 (y 0) (y 1) := by
  unfold out0_A_6
  rw [View.read_writes_eq_canon _ _ _ (cover0_A_6 c i a2 h2 a3 h3 a4 h4 a5 h5 a6 h6 a7 h7 a8 h8 a9 h9 a10 h10 x0 x1 x2 x3 x4 x5)]
  refine View.canon_apply_of_pieces (Val := Elt Ideal) (e := .bf16) (fun y : S512x1024.Idx => blk ((i 1).val = 0) x0 x1 x2 x3 x4 x5 (y 0) (y 1)) _ ?_ y
    (cover0_A_6 c i a2 h2 a3 h3 a4 h4 a5 h5 a6 h6 a7 h7 a8 h8 a9 h9 a10 h10 x0 x1 x2 x3 x4 x5 y)
  unfold kernelRun0_A
  dsimp only
  sl_unfold_words
  simp only [View.readAt_eq_ld, h2.read_unread, h3.read_unread, h4.read_unread, h5.read_unread, h6.read_unread, h7.read_unread,
    k0_pay1, k0_pay2, k0_pay3, k0_pay4, shapeCast_self, View.ld_unit_zero (S := S512x1024) hz]
  simp only [scr]
  simp only [pay_0, pay_1, pay_3, pay_4, pay_5, pay_6, pay_7, pay_8, pay_9, pay_10, pay_11, pay_12, pay_13, pay_14, pay_15]
  intro p hp
  simp only [List.mem_cons, List.not_mem_nil, or_false] at hp
  rcases hp with rfl | rfl | rfl | rfl | rfl | rfl | rfl | rfl | rfl | rfl | rfl | rfl | rfl | rfl | rfl | rfl
  · exact piece 256 896 7 rfl rfl _ _ _ _ _ (fun r n => dead_1 i r n) x0 x1 x2 x3 x4 x5
  · exact piece 256 768 6 rfl rfl _ _ _ _ _ (fun r n => dead_1 i r n) x0 x1 x2 x3 x4 x5
  · exact piece 256 640 5 rfl rfl _ _ _ _ _ (fun r n => dead_1 i r n) x0 x1 x2 x3 x4 x5
  · exact piece 256 512 4 rfl rfl _ _ _ _ _ (fun r n => dead_1 i r n) x0 x1 x2 x3 x4 x5
  · exact piece 256 384 3 rfl rfl _ _ _ _ _ (fun r n => dead_1 i r n) x0 x1 x2 x3 x4 x5
  · exact piece 256 256 2 rfl rfl _ _ _ _ _ (fun r n => dead_1 i r n) x0 x1 x2 x3 x4 x5
  · exact piece 256 128 1 rfl rfl _ _ _ _ _ (fun r n => dead_1 i r n) x0 x1 x2 x3 x4 x5
  · exact piece 256 0 0 rfl rfl _ _ _ _ _ (fun r n => dead_1 i r n) x0 x1 x2 x3 x4 x5
  · exact piece 0 896 7 rfl rfl _ _ _ _ _ (fun r n => dead_0 i r n) x0 x1 x2 x3 x4 x5
  · exact piece 0 768 6 rfl rfl _ _ _ _ _ (fun r n => dead_0 i r n) x0 x1 x2 x3 x4 x5
  · exact piece 0 640 5 rfl rfl _ _ _ _ _ (fun r n => dead_0 i r n) x0 x1 x2 x3 x4 x5
  · exact piece 0 512 4 rfl rfl _ _ _ _ _ (fun r n => dead_0 i r n) x0 x1 x2 x3 x4 x5
  · exact piece 0 384 3 rfl rfl _ _ _ _ _ (fun r n => dead_0 i r n) x0 x1 x2 x3 x4 x5
  · exact piece 0 256 2 rfl rfl _ _ _ _ _ (fun r n => dead_0 i r n) x0 x1 x2 x3 x4 x5
  · exact piece 0 128 1 rfl rfl _ _ _ _ _ (fun r n => dead_0 i r n) x0 x1 x2 x3 x4 x5
  · exact piece 0 0 0 rfl rfl _ _ _ _ _ (fun r n => dead_0 i r n) x0 x1 x2 x3 x4 x5

end Cert.KernelIdeal.Hand

end
-- ==== Proof.K1bias.lean ====
module

public import proofs.«01_k».proof.Proof.Band
public import proofs.«01_k».proof.Proof.Gen.KernelIdeal.Value
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Hand

open Cert.KernelIdeal Cert.KernelIdeal.Gen Cert.Hand

variable (m : (ℓ : Loc nD τ sig) → Buf (Elt Ideal) ℓ)

/-! ## The line of a head's biases -/

/-- The table's biases by distance, laid out as a line. -/
def line (w : Vec Ideal S1x8x257 .f32) : S8x1024.Idx → EReal :=
  concatenate S8x1024 1
    [⟨S8x639, broadcastInDim S8x639 ![0, 1] bcast_S8x1_S8x639_0_1
        (extractStridedSlice S8x1 ![0, 256] (shapeCast S8x257 w shapeCasts_S1x8x257_S8x257) slices_S8x257_S8x1_0_256)⟩,
     ⟨S8x257, Host.reverse [1] (shapeCast S8x257 w shapeCasts_S1x8x257_S8x257)⟩,
     ⟨S8x128, broadcastInDim S8x128 ![0, 1] bcast_S8x1_S8x128_0_1
        (extractStridedSlice S8x1 ![0, 0] (shapeCast S8x257 w shapeCasts_S1x8x257_S8x257) slices_S8x257_S8x1_0_0)⟩]
    concatenates_S8x639_S8x257_S8x128_S8x1024_d1

/-- The line at a place: the bias of the distance the place stands for. -/
theorem line_apply (w : Vec Ideal S1x8x257 .f32) (h : Fin 8) (x : Fin 1024) :
    line w (ix2 h x) = w (ix3 (0 : Fin 1) h (⟨min (895 - x.val) 256, by omega⟩ : Fin 257)) := by
  have hx := x.isLt
  unfold line
  by_cases h1 : x.val < 639
  · refine (concatenate_apply_piece (1 : Fin S8x1024.rank) _ _ _ 0 (by simp) S8x639 _ rfl rfl 0 rfl (ix2 h (⟨x.val, h1⟩ : Fin 639)) ?_ ?_).trans ?_
    · intro b hb
      match b, hb with
      | ⟨0, _⟩, _ => rfl
      | ⟨1, _⟩, hb => exact absurd rfl hb
    · show 0 + x.val = x.val; omega
    · pointwise
      refine congrArg w ?_
      funext a
      apply Fin.ext
      match a with
      | ⟨0, _⟩ => rfl
      | ⟨1, _⟩ => rfl
      | ⟨2, _⟩ => show 256 = min (895 - x.val) 256; omega
  by_cases h2 : x.val < 896
  · refine (concatenate_apply_piece (1 : Fin S8x1024.rank) _ _ _ 1 (by simp) S8x257 _ rfl rfl 639 rfl (ix2 h (⟨x.val - 639, by omega⟩ : Fin 257)) ?_ ?_).trans ?_
    · intro b hb
      match b, hb with
      | ⟨0, _⟩, _ => rfl
      | ⟨1, _⟩, hb => exact absurd rfl hb
    · show 639 + (x.val - 639) = x.val; omega
    · pointwise
      refine congrArg w ?_
      funext a
      apply Fin.ext
      match a with
      | ⟨0, _⟩ => rfl
      | ⟨1, _⟩ => rfl
      | ⟨2, _⟩ => show 257 - (x.val - 639 + 1) = min (895 - x.val) 256; omega
  · refine (concatenate_apply_piece (1 : Fin S8x1024.rank) _ _ _ 2 (by simp) S8x128 _ rfl rfl 896 rfl (ix2 h (⟨x.val - 896, by omega⟩ : Fin 128)) ?_ ?_).trans ?_
    · intro b hb
      match b, hb with
      | ⟨0, _⟩, _ => rfl
      | ⟨1, _⟩, hb => exact absurd rfl hb
    · show 896 + (x.val - 896) = x.val; omega
    · pointwise
      refine congrArg w ?_
      funext a
      apply Fin.ext
      match a with
      | ⟨0, _⟩ => rfl
      | ⟨1, _⟩ => rfl
      | ⟨2, _⟩ => show 0 = min (895 - x.val) 256; omega

/-! ## The line laid along every row -/

/-- Each row's biases: the line, one place further back on every row. -/
def slid (w : Vec Ideal S1x8x257 .f32) : S8x256x768.Idx → EReal :=
  extractStridedSlice S8x256x768 ![0, 0, 255] (shapeCast S8x256x1023
    (extractStridedSlice S8x261888 ![0, 0] (shapeCast S8x262144
      (broadcastInDim S1x8x256x1024 ![0, 1, 2, 3] bcast_S1x8x1x1024_S1x8x256x1024_0_1_2_3
        (shapeCast S1x8x1x1024 (line w) shapeCasts_S8x1024_S1x8x1x1024)) shapeCasts_S1x8x256x1024_S8x262144)
      slices_S8x262144_S8x261888_0_0) shapeCasts_S8x261888_S8x256x1023) slices_S8x256x1023_S8x256x768_0_0_255

/-- The bias a row holds for a place of its window: that of the distance between the two. -/
theorem slid_apply (w : Vec Ideal S1x8x257 .f32) (h : Fin 8) (r : Fin 256) (n : Fin 768) :
    slid w (ix3 h r n) = w (ix3 (0 : Fin 1) h (rix r.val n.val)) := by
  have hr := r.isLt
  have hn := n.isLt
  have hh := h.isLt
  unfold slid
  rw [Pointwise.extractStridedSlice_apply]
  refine (shapeCast_apply _ _ _ (ix2 h (⟨r.val * 1023 + (255 + n.val), by omega⟩ : Fin 261888)) ?_).trans ?_
  · rewrite [Shape.rowMajor_val_three, Shape.rowMajor_val_two]
    show h.val * 261888 + (r.val * 1023 + (255 + n.val)) = ((0 + h.val) * 256 + (0 + r.val)) * 1023 + (255 + n.val)
    omega
  rw [Pointwise.extractStridedSlice_apply]
  refine (shapeCast_apply _ _ _ (ix4 (0 : Fin 1) h r (⟨255 + n.val - r.val, by omega⟩ : Fin 1024)) ?_).trans ?_
  · rewrite [Shape.rowMajor_val_four, Shape.rowMajor_val_two]
    show ((0 * 8 + h.val) * 256 + r.val) * 1024 + (255 + n.val - r.val) = (0 + h.val) * 262144 + (0 + (r.val * 1023 + (255 + n.val)))
    omega
  rw [Pointwise.broadcastInDim_apply]
  refine (shapeCast_apply _ _ _ (ix2 h (⟨255 + n.val - r.val, by omega⟩ : Fin 1024)) ?_).trans ?_
  · rewrite [Shape.rowMajor_val_four, Shape.rowMajor_val_two]
    show h.val * 1024 + (255 + n.val - r.val) = ((0 * 8 + h.val) * 1 + 0) * 1024 + (255 + n.val - r.val)
    omega
  rw [line_apply]
  refine congrArg w ?_
  funext a
  apply Fin.ext
  match a with
  | ⟨0, _⟩ => rfl
  | ⟨1, _⟩ => rfl
  | ⟨2, _⟩ => show min (895 - (255 + n.val - r.val)) 256 = min (640 + r.val - n.val) 256; omega

end Cert.KernelIdeal.Hand
-- ==== Proof.K1c.lean ====
module

public import proofs.«01_k».proof.Proof.K1bias
public import proofs.«01_k».proof.Proof.Gen.KernelIdeal.Value
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Hand

open Cert.KernelIdeal Cert.KernelIdeal.Gen Cert.Hand

variable (m : (ℓ : Loc nD τ sig) → Buf (Elt Ideal) ℓ)

/-! ## The band -/

/-- The chunk of 64 each entry lies in, as the host divides (the quotient towards zero, one less where the signs differ). -/
def chunk {s : Shape} (x : IVec s 32) (hb : S_.BroadcastsInDim s (![] : Fin 0 → Fin s.rank)) : IVec s 32 :=
  select (andi (cmpi .ne (signi x) (broadcastInDim s ![] hb (signi (constantI S_ 32 64#32))))
      (cmpi .ne (Host.remsi x (broadcastInDim s ![] hb (constantI S_ 32 64#32))) (broadcastInDim s ![] hb (constantI S_ 32 0#32))))
    (subi (Host.divsi x (broadcastInDim s ![] hb (constantI S_ 32 64#32))) (broadcastInDim s ![] hb (constantI S_ 32 1#32)))
    (Host.divsi x (broadcastInDim s ![] hb (constantI S_ 32 64#32)))

/-- The sign of a word. -/
def signW (x : BitVec 32) : BitVec 32 := if x = 0 then 0 else if x.msb then -1 else 1

/-- The chunk of a word. -/
def chunkW (x : BitVec 32) : BitVec 32 :=
  Scalar.select (IntOp.andi (IntOp.cmpi .ne (signW x) (signW 64#32)) (IntOp.cmpi .ne (IntOp.remsi .host x 64#32) 0#32))
    (IntOp.subi (IntOp.divsi .host x 64#32) 1#32) (IntOp.divsi .host x 64#32)

theorem chunk_apply {s : Shape} (x : IVec s 32) (hb) (j : s.Idx) : chunk x hb j = chunkW (x j) := rfl

theorem chunk_word : ∀ n : Fin 768, chunkW (BitVec.ofNat 32 n.val) = BitVec.ofNat 32 (n.val / 64) := by decide +kernel

/-- Which places of the window belong to a row's band. -/
def inBand : S256x768.Idx → BitVec 1 :=
  andi (cmpi .sge
      (broadcastInDim S256x768 ![0, 1] bcast_S1x768_S256x768_0_1 (chunk (broadcastInDim S1x768 ![1] bcast_S768_S1x768_1 (iotaInDim S768 32 0)) bcast_S_S1x768))
      (broadcastInDim S256x768 ![0, 1] bcast_S256x1_S256x768_0_1 (chunk (broadcastInDim S256x1 ![0] bcast_S256_S256x1_0 (iotaInDim S256 32 0)) bcast_S_S256x1)))
    (cmpi .sle
      (broadcastInDim S256x768 ![0, 1] bcast_S1x768_S256x768_0_1 (chunk (broadcastInDim S1x768 ![1] bcast_S768_S1x768_1 (iotaInDim S768 32 0)) bcast_S_S1x768))
      (broadcastInDim S256x768 ![0, 1] bcast_S256x1_S256x768_0_1
        (addi (chunk (broadcastInDim S256x1 ![0] bcast_S256_S256x1_0 (iotaInDim S256 32 0)) bcast_S_S256x1)
          (broadcastInDim S256x1 ![] bcast_S_S256x1 (constantI S_ 32 8#32)))))

theorem band_word : ∀ (a : Fin 4) (b : Fin 12),
    IntOp.andi (IntOp.cmpi .sge (BitVec.ofNat 32 b.val) (BitVec.ofNat 32 a.val))
      (IntOp.cmpi .sle (BitVec.ofNat 32 b.val) (IntOp.addi (BitVec.ofNat 32 a.val) 8#32))
      = if a.val ≤ b.val ∧ b.val ≤ a.val + 8 then 1#1 else 0#1 := by decide +kernel

/-- A place belongs to the band when its chunk is the row's or one of the eight after it. -/
theorem inBand_apply (r : Fin 256) (n : Fin 768) :
    inBand (ix2 r n) = if r.val / 64 ≤ n.val / 64 ∧ n.val / 64 ≤ r.val / 64 + 8 then 1#1 else 0#1 := by
  have hr := r.isLt
  have hn := n.isLt
  show IntOp.andi (IntOp.cmpi .sge (chunkW (BitVec.ofNat 32 n.val)) (chunkW (BitVec.ofNat 32 r.val)))
      (IntOp.cmpi .sle (chunkW (BitVec.ofNat 32 n.val)) (IntOp.addi (chunkW (BitVec.ofNat 32 r.val)) 8#32)) = _
  rw [chunk_word n, chunk_word ⟨r.val, by omega⟩]
  exact band_word ⟨r.val / 64, by omega⟩ ⟨n.val / 64, by omega⟩

/-! ## The biases of the window -/

/-- The table of biases. -/
def tb (c : Dev nD) (h : Fin 8) (i : Fin 257) : EReal := (m ((c : Thread nD τ).loc main_arg1) : Vec Ideal S1x8x257 .f32) (ix3 (0 : Fin 1) h i)

theorem V_bias_eq (c : Dev nD) : @Eq (S8x256x768.Idx → EReal) (V m c main_v29)
    (select (broadcastInDim S8x256x768 ![0, 1, 2] bcast_S1x256x768_S8x256x768_0_1_2
        (broadcastInDim S1x256x768 ![1, 2] bcast_S256x768_S1x256x768_1_2 inBand))
      (slid (m ((c : Thread nD τ).loc main_arg1) : Vec Ideal S1x8x257 .f32))
      (broadcastInDim S8x256x768 ![] bcast_S_S8x256x768 (constant (F := Ideal) S_ .f32 0xFF800000#32))) := by
  unfold V
  after_results <;> rfl

/-- The bias the host prepares: the table's by distance within the band, minus infinity outside. -/
theorem V_bias (c : Dev nD) (h : Fin 8) (r : Fin 256) (n : Fin 768) :
    (V m c main_v29 : Vec Ideal S8x256x768 .f32) (ix3 h r n)
      = if r.val / 64 ≤ n.val / 64 ∧ n.val / 64 ≤ r.val / 64 + 8 then tb m c h (rix r.val n.val) else ⊥ := by
  refine (congrFun (V_bias_eq m c) _).trans ?_
  show Scalar.select (inBand (ix2 r n)) (slid (m ((c : Thread nD τ).loc main_arg1)) (ix3 h r n)) (Ideal.ofBits .f32 0xFF800000#32) = _
  rw [inBand_apply, slid_apply]
  split_ifs
  · rfl
  · exact ofBits_bot

end Cert.KernelIdeal.Hand
-- ==== Proof.K1d.lean ====
module

public import proofs.«01_k».proof.Proof.K1a
public import proofs.«01_k».proof.Proof.K1c
public import proofs.«01_k».proof.Proof.Gen.KernelIdeal.Value
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Hand

open Cert.KernelIdeal Cert.KernelIdeal.Gen Cert.Hand

variable (m : (ℓ : Loc nD τ sig) → Buf (Elt Ideal) ℓ)

/-! ## The whole array -/

theorem idx0 : ∀ t : Fin cfg0.N, win0_0.index t 0 = t.val ∧ win0_0.index t 1 = 0 := by decide +kernel
theorem idx1 : ∀ t : Fin cfg0.N, win0_1.index t 0 = t.val / 8 * 8 + (t.val % 8 - 1) ∧ win0_1.index t 1 = 1 := by decide +kernel
theorem idx2 : ∀ t : Fin cfg0.N, win0_2.index t 0 = t.val ∧ win0_2.index t 1 = 1 := by decide +kernel
theorem idx3 : ∀ t : Fin cfg0.N, win0_3.index t 0 = t.val / 8 * 8 + (t.val % 8 - 1) ∧ win0_3.index t 1 = 2 := by decide +kernel
theorem idx4 : ∀ t : Fin cfg0.N, win0_4.index t 0 = t.val ∧ win0_4.index t 1 = 2 := by decide +kernel
theorem idx5 : ∀ t : Fin cfg0.N, win0_5.index t 0 = 0 ∧ win0_5.index t 1 = 0 ∧ win0_5.index t 2 = 0 := by decide +kernel
theorem idx6 : ∀ t : Fin cfg0.N, win0_6.index t 0 = t.val ∧ win0_6.index t 1 = 0 := by decide +kernel
theorem crd : ∀ t : Fin cfg0.N, (grid0.coords t 1).val = t.val % 8 := by decide +kernel

/-- The projected rows: queries, keys and values side by side. -/
def xa (c : Dev nD) (R : Fin 16384) (C : Fin 3072) : EReal := (m ((c : Thread nD τ).loc main_arg0) : Vec Ideal S16384x3072 .bf16) (ix2 R C)

/-- The attention of every row to its band. -/
def G (c : Dev nD) (i : S16384x1024.Idx) : EReal := band (xa m c) (tb m c) (i 0) (i 1)

/-- The row a point's block holds in its place `r`. -/
abbrev row (t : Fin cfg0.N) (r : Fin 512) : Fin 16384 :=
  ⟨t.val * 512 + r.val, by have h : t.val < 32 := t.isLt.trans_eq N_0; have := r.isLt; omega⟩

/-- The row the block before holds in its place `r`. -/
abbrev prow (t : Fin cfg0.N) (r : Fin 512) : Fin 16384 :=
  ⟨(t.val / 8 * 8 + (t.val % 8 - 1)) * 512 + r.val, by have h : t.val < 32 := t.isLt.trans_eq N_0; have := r.isLt; omega⟩

theorem iblk0_apply (c : Dev nD) (t : Fin cfg0.N) (r : Fin 512) (C : Fin 1024) :
    (iblk m c 0 t : Vec Ideal S512x1024 .bf16) (ix2 r C) = xa m c (row t r) ⟨C.val, by have := C.isLt; omega⟩ := by
  unfold iblk
  rw [View.read_apply]
  show V m c main_arg0 _ = _
  rw [V_main_arg0]
  refine congrArg (m ((c : Thread nD τ).loc main_arg0) : Vec Ideal S16384x3072 .bf16) ?_
  funext a
  apply Fin.ext
  match a with
  | ⟨0, _⟩ => show win0_0.index t 0 * 512 + 1 * r.val = t.val * 512 + r.val; rw [(idx0 t).1]; omega
  | ⟨1, _⟩ => show win0_0.index t 1 * 1024 + 1 * C.val = C.val; rw [(idx0 t).2]; omega

theorem iblk1_apply (c : Dev nD) (t : Fin cfg0.N) (r : Fin 512) (C : Fin 1024) :
    (iblk m c 1 t : Vec Ideal S512x1024 .bf16) (ix2 r C) = xa m c (prow t r) ⟨1024 + C.val, by have := C.isLt; omega⟩ := by
  unfold iblk
  rw [View.read_apply]
  show V m c main_arg0 _ = _
  rw [V_main_arg0]
  refine congrArg (m ((c : Thread nD τ).loc main_arg0) : Vec Ideal S16384x3072 .bf16) ?_
  funext a
  apply Fin.ext
  match a with
  | ⟨0, _⟩ => show win0_1.index t 0 * 512 + 1 * r.val = (t.val / 8 * 8 + (t.val % 8 - 1)) * 512 + r.val; rw [(idx1 t).1]; omega
  | ⟨1, _⟩ => show win0_1.index t 1 * 1024 + 1 * C.val = 1024 + C.val; rw [(idx1 t).2]; omega

theorem iblk2_apply (c : Dev nD) (t : Fin cfg0.N) (r : Fin 512) (C : Fin 1024) :
    (iblk m c 2 t : Vec Ideal S512x1024 .bf16) (ix2 r C) = xa m c (row t r) ⟨1024 + C.val, by have := C.isLt; omega⟩ := by
  unfold iblk
  rw [View.read_apply]
  show V m c main_arg0 _ = _
  rw [V_main_arg0]
  refine congrArg (m ((c : Thread nD τ).loc main_arg0) : Vec Ideal S16384x3072 .bf16) ?_
  funext a
  apply Fin.ext
  match a with
  | ⟨0, _⟩ => show win0_2.index t 0 * 512 + 1 * r.val = t.val * 512 + r.val; rw [(idx2 t).1]; omega
  | ⟨1, _⟩ => show win0_2.index t 1 * 1024 + 1 * C.val = 1024 + C.val; rw [(idx2 t).2]; omega

theorem iblk3_apply (c : Dev nD) (t : Fin cfg0.N) (r : Fin 512) (C : Fin 1024) :
    (iblk m c 3 t : Vec Ideal S512x1024 .bf16) (ix2 r C) = xa m c (prow t r) ⟨2048 + C.val, by have := C.isLt; omega⟩ := by
  unfold iblk
  rw [View.read_apply]
  show V m c main_arg0 _ = _
  rw [V_main_arg0]
  refine congrArg (m ((c : Thread nD τ).loc main_arg0) : Vec Ideal S16384x3072 .bf16) ?_
  funext a
  apply Fin.ext
  match a with
  | ⟨0, _⟩ => show win0_3.index t 0 * 512 + 1 * r.val = (t.val / 8 * 8 + (t.val % 8 - 1)) * 512 + r.val; rw [(idx3 t).1]; omega
  | ⟨1, _⟩ => show win0_3.index t 1 * 1024 + 1 * C.val = 2048 + C.val; rw [(idx3 t).2]; omega

theorem iblk4_apply (c : Dev nD) (t : Fin cfg0.N) (r : Fin 512) (C : Fin 1024) :
    (iblk m c 4 t : Vec Ideal S512x1024 .bf16) (ix2 r C) = xa m c (row t r) ⟨2048 + C.val, by have := C.isLt; omega⟩ := by
  unfold iblk
  rw [View.read_apply]
  show V m c main_arg0 _ = _
  rw [V_main_arg0]
  refine congrArg (m ((c : Thread nD τ).loc main_arg0) : Vec Ideal S16384x3072 .bf16) ?_
  funext a
  apply Fin.ext
  match a with
  | ⟨0, _⟩ => show win0_4.index t 0 * 512 + 1 * r.val = t.val * 512 + r.val; rw [(idx4 t).1]; omega
  | ⟨1, _⟩ => show win0_4.index t 1 * 1024 + 1 * C.val = 2048 + C.val; rw [(idx4 t).2]; omega

theorem iblk5_apply (c : Dev nD) (t : Fin cfg0.N) (h : Fin 8) (r : Fin 256) (n : Fin 768) :
    (iblk m c 5 t : Vec Ideal S8x256x768 .f32) (ix3 h r n)
      = if r.val / 64 ≤ n.val / 64 ∧ n.val / 64 ≤ r.val / 64 + 8 then tb m c h (rix r.val n.val) else ⊥ := by
  unfold iblk
  rw [View.read_apply]
  refine Eq.trans ?_ (V_bias m c h r n)
  show V m c main_v29 _ = _
  refine congrArg (V m c main_v29 : Vec Ideal S8x256x768 .f32) ?_
  funext a
  apply Fin.ext
  match a with
  | ⟨0, _⟩ => show win0_5.index t 0 * 8 + 1 * h.val = h.val; rw [(idx5 t).1]; omega
  | ⟨1, _⟩ => show win0_5.index t 1 * 256 + 1 * r.val = r.val; rw [(idx5 t).2.1]; omega
  | ⟨2, _⟩ => show win0_5.index t 2 * 768 + 1 * n.val = n.val; rw [(idx5 t).2.2]; omega

/-- A window's row within the sequence, read from the block before or from the point's own: the keys. -/
theorem win_k (c : Dev nD) (t : Fin cfg0.N) (w C : Fin 1024) (K : Fin 16384) (hk : t.val % 8 = 0 → 512 ≤ w.val)
    (hK : K.val + 512 = t.val * 512 + w.val) :
    win (iblk m c 1 t) (iblk m c 2 t) w C = xa m c K ⟨1024 + C.val, by have := C.isLt; omega⟩ := by
  have hw := w.isLt
  unfold win
  split_ifs with h
  · rw [iblk1_apply]
    refine congrArg (fun K => xa m c K _) (Fin.ext ?_)
    show (t.val / 8 * 8 + (t.val % 8 - 1)) * 512 + w.val = K.val
    omega
  · rw [iblk2_apply]
    refine congrArg (fun K => xa m c K _) (Fin.ext ?_)
    show t.val * 512 + (w.val - 512) = K.val
    omega

/-- The same for the values. -/
theorem win_v (c : Dev nD) (t : Fin cfg0.N) (w C : Fin 1024) (K : Fin 16384) (hk : t.val % 8 = 0 → 512 ≤ w.val)
    (hK : K.val + 512 = t.val * 512 + w.val) :
    win (iblk m c 3 t) (iblk m c 4 t) w C = xa m c K ⟨2048 + C.val, by have := C.isLt; omega⟩ := by
  have hw := w.isLt
  unfold win
  split_ifs with h
  · rw [iblk3_apply]
    refine congrArg (fun K => xa m c K _) (Fin.ext ?_)
    show (t.val / 8 * 8 + (t.val % 8 - 1)) * 512 + w.val = K.val
    omega
  · rw [iblk4_apply]
    refine congrArg (fun K => xa m c K _) (Fin.ext ?_)
    show t.val * 512 + (w.val - 512) = K.val
    omega

/-- What the precondition gives: finite queries, keys and biases. -/
structure Fine (c : Dev nD) : Prop where
  x : ∀ R (C : Fin 3072), C.val < 2048 → ∃ r : ℝ, xa m c R C = (r : EReal)
  t : ∀ h i, ∃ r : ℝ, tb m c h i = (r : EReal)

/-- A point's block at a row and a column. -/
theorem blk_eq (c : Dev nD) (hf : Fine m c) (t : Fin cfg0.N) (r : Fin 512) (C : Fin 1024) :
    blk ((grid0.coords t 1).val = 0) (iblk m c 0 t) (iblk m c 1 t) (iblk m c 2 t) (iblk m c 3 t) (iblk m c 4 t) (iblk m c 5 t) r C
      = band (xa m c) (tb m c) (row t r) C := by
  have ht : t.val < 32 := t.isLt.trans_eq N_0
  have hr := r.isLt
  have hC := C.isLt
  unfold blk
  refine window_eq (xa m c) (tb m c) hf.x hf.t (row t r) C _ _ ?_ ?_ ?_
  · intro n hn
    have hn' := hn
    replace hn : n.val < (t.val * 512 + r.val) % 256 / 64 * 64 ∨ (t.val * 512 + r.val) % 256 / 64 * 64 + 576 ≤ n.val := hn'
    have hnl := n.isLt
    show (if _ then _ else _) = _
    have hb : ¬((⟨r.val % 256, by omega⟩ : Fin 256).val / 64 ≤ n.val / 64 ∧ n.val / 64 ≤ (⟨r.val % 256, by omega⟩ : Fin 256).val / 64 + 8) := by
      show ¬(r.val % 256 / 64 ≤ n.val / 64 ∧ n.val / 64 ≤ r.val % 256 / 64 + 8)
      omega
    rw [iblk5_apply, if_neg hb, EReal.add_bot, ite_self]
  · intro k
    have hk := k.isLt
    unfold bscore
    show (if _ then _ else _) = _
    rw [crd]
    by_cases hd : (row t r).val % 4096 / 64 * 64 + k.val < 512
    · rw [if_pos hd, if_pos]
      replace hd : (t.val * 512 + r.val) % 4096 / 64 * 64 + k.val < 512 := hd
      show t.val % 8 = 0 ∧ (t.val * 512 + r.val) % 256 / 64 * 64 + k.val < 512 - r.val / 256 * 256
      omega
    · rw [if_neg hd, if_neg]
      · replace hd : ¬(t.val * 512 + r.val) % 4096 / 64 * 64 + k.val < 512 := hd
        refine congrArg₂ (fun a b : EReal => a + b) (congrArg (fun s : EReal => s * _) (Finset.sum_congr rfl fun d _ =>
          congrArg₂ (fun a b : EReal => a * b) ?_ ?_)) ?_
        · exact iblk0_apply m c t r _
        · refine win_k m c t _ _ _ ?_ ?_
          · show t.val % 8 = 0 → 512 ≤ r.val / 256 * 256 + ((t.val * 512 + r.val) % 256 / 64 * 64 + k.val)
            omega
          · show (t.val * 512 + r.val) / 4096 * 4096 + ((t.val * 512 + r.val) % 4096 / 64 * 64 + k.val - 512) + 512
              = t.val * 512 + (r.val / 256 * 256 + ((t.val * 512 + r.val) % 256 / 64 * 64 + k.val))
            omega
        · rw [iblk5_apply, if_pos]
          · refine congrArg (tb m c _) (Fin.ext ?_)
            show min (640 + r.val % 256 - ((t.val * 512 + r.val) % 256 / 64 * 64 + k.val)) 256 = min (640 + (t.val * 512 + r.val) % 64 - k.val) 256
            omega
          · show r.val % 256 / 64 ≤ ((t.val * 512 + r.val) % 256 / 64 * 64 + k.val) / 64 ∧ ((t.val * 512 + r.val) % 256 / 64 * 64 + k.val) / 64 ≤ r.val % 256 / 64 + 8
            omega
      · replace hd : ¬(t.val * 512 + r.val) % 4096 / 64 * 64 + k.val < 512 := hd
        show ¬(t.val % 8 = 0 ∧ (t.val * 512 + r.val) % 256 / 64 * 64 + k.val < 512 - r.val / 256 * 256)
        omega
  · intro k hd
    have hk := k.isLt
    replace hd : ¬(t.val * 512 + r.val) % 4096 / 64 * 64 + k.val < 512 := hd
    refine win_v m c t _ _ _ ?_ ?_
    · show t.val % 8 = 0 → 512 ≤ r.val / 256 * 256 + ((t.val * 512 + r.val) % 256 / 64 * 64 + k.val)
      omega
    · show (t.val * 512 + r.val) / 4096 * 4096 + ((t.val * 512 + r.val) % 4096 / 64 * 64 + k.val - 512) + 512
        = t.val * 512 + (r.val / 256 * 256 + ((t.val * 512 + r.val) % 256 / 64 * 64 + k.val))
      omega

/-- What a point writes back is its block of the array. -/
theorem flushed_eq (c : Dev nD) (hf : Fine m c) (t : Fin cfg0.N) :
    (dats m 0 c).flushed 6 t = ((cfg0.win 6).blk t).view.read (Elt Ideal) (G m c) := by
  rw [Value.flushed6_A]
  funext j
  rw [View.read_apply]
  refine (out_eq c (grid0.coords t) _ _ _ _ _ _ _ _ _ _ _ _ _ _ _ _ _ _ _ _ _ _ _ _ j).trans ((blk_eq m c hf t (j 0) (j 1)).trans ?_)
  refine congrArg₂ (band (xa m c) (tb m c)) (Fin.ext ?_) (Fin.ext ?_)
  · show t.val * 512 + (j 0).val = win0_6.index t 0 * 512 + 1 * (j 0).val
    rw [(idx6 t).1]; omega
  · show (j 1).val = win0_6.index t 1 * 1024 + 1 * (j 1).val
    rw [(idx6 t).2]; omega

/-- The result array holds the attention. -/
theorem final (c : Dev nD) (hf : Fine m c) : (dats m 0 c).arrAt 6 cfg0.N = G m c :=
  (dats m 0 c).arrAt_eq_of_cover 6 (G m c) (fun t _ => flushed_eq m c hf t) fun i => by
    have h0 : (i 0 : Nat) < 16384 := (i 0).isLt
    have h1 : (i 1 : Nat) < 1024 := (i 1).isLt
    have hN : cfg0.N = 32 := N_0
    refine ⟨⟨(i 0).val / 512, by omega⟩, flush0_6 _, ?_⟩
    generalize ht : (⟨(i 0).val / 512, _⟩ : Fin cfg0.N) = t
    have hv : t.val = (i 0).val / 512 := by rw [← ht]
    show i ∈ ((View.whole main_v30).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(idx6 t).1]; omega
    | ⟨1, _⟩ => show win0_6.index t 1 * 1024 ≤ (i 1 : Nat) ∧ (i 1 : Nat) < win0_6.index t 1 * 1024 + 1024
                rw [(idx6 t).2]; omega

end Cert.KernelIdeal.Hand
-- ==== Proof.K1r.lean ====
module

public import proofs.«01_k».proof.Proof.Band
public import proofs.«01_k».proof.Proof.Gen.ReferenceIdeal.Read
public import Idealize.ShloMosaic.Lib.Pointwise
public import Idealize.ShloMosaic.Lib.KernelVsHost
public import Idealize.ShloMosaic.Lib.ValueIdxRank6
public import Idealize.ShloMosaic.Lib.Tactic

@[expose] public section

noncomputable section

open Idealize.ShloMosaic Idealize.ShloMosaic.TcCoe Idealize.SL.Sem

namespace Cert.ReferenceIdeal.Hand

open Cert.ReferenceIdeal Cert.ReferenceIdeal.Gen Cert.ReferenceIdeal.Read Cert.Hand

variable (x0 : Vec Ideal S16384x3072 .bf16) (x1 : Vec Ideal S1x8x257 .f32)

/-- The projected rows as numbers. -/
def X (R : Fin 16384) (C : Fin 3072) : EReal := x0 (ix2 R C)

/-- The biases as numbers. -/
def T (h : Fin 8) (i : Fin 257) : EReal := x1 (ix3 (0 : Fin 1) h i)

/-- Row of place `q` of chunk `n` of sequence `b`. -/
abbrev rw5 (b : Fin 4) (n q : Fin 64) : Fin 16384 := ⟨(b.val * 64 + n.val) * 64 + q.val, by omega⟩

/-! ## Queries, keys and values by chunk -/

/-- The queries. -/
theorem q_apply (b : Fin 4) (n q : Fin 64) (h : Fin 8) (d : Fin 128) :
    val_main_v8 (F := Ideal) x0 (ix5 b n q h d) = X x0 (rw5 b n q) ⟨h.val * 128 + d.val, by omega⟩ := by
  have hb := b.isLt; have hn := n.isLt; have hq := q.isLt; have hh := h.isLt; have hd := d.isLt
  unfold val_main_v8
  refine (shapeCast_apply _ _ _ (ix4 b (⟨n.val * 64 + q.val, by omega⟩ : Fin 4096) h d) ?_).trans ?_
  · rewrite [Shape.rowMajor_val_four, Shape.rowMajor_val_five]
    show ((b.val * 4096 + (n.val * 64 + q.val)) * 8 + h.val) * 128 + d.val
      = (((b.val * 64 + n.val) * 64 + q.val) * 8 + h.val) * 128 + d.val
    omega
  unfold val_main_v4
  refine (shapeCast_apply _ _ _ (ix2 (rw5 b n q) (⟨h.val * 128 + d.val, by omega⟩ : Fin 1024)) ?_).trans ?_
  · rewrite [Shape.rowMajor_val_two, Shape.rowMajor_val_four]
    show ((b.val * 64 + n.val) * 64 + q.val) * 1024 + (h.val * 128 + d.val)
      = ((b.val * 4096 + (n.val * 64 + q.val)) * 8 + h.val) * 128 + d.val
    omega
  rw [val_main_v1_apply, val_main_v0_apply]
  refine congrArg x0 ?_
  funext a
  apply Fin.ext
  match a with
  | ⟨0, _⟩ => rfl
  | ⟨1, _⟩ => first | rfl | exact Nat.add_comm _ _

/-- The keys. -/
theorem k_apply (b : Fin 4) (n q : Fin 64) (h : Fin 8) (d : Fin 128) :
    val_main_v9 (F := Ideal) x0 (ix5 b n q h d) = X x0 (rw5 b n q) ⟨1024 + (h.val * 128 + d.val), by omega⟩ := by
  have hb := b.isLt; have hn := n.isLt; have hq := q.isLt; have hh := h.isLt; have hd := d.isLt
  unfold val_main_v9
  refine (shapeCast_apply _ _ _ (ix4 b (⟨n.val * 64 + q.val, by omega⟩ : Fin 4096) h d) ?_).trans ?_
  · rewrite [Shape.rowMajor_val_four, Shape.rowMajor_val_five]
    show ((b.val * 4096 + (n.val * 64 + q.val)) * 8 + h.val) * 128 + d.val
      = (((b.val * 64 + n.val) * 64 + q.val) * 8 + h.val) * 128 + d.val
    omega
  unfold val_main_v5
  refine (shapeCast_apply _ _ _ (ix2 (rw5 b n q) (⟨h.val * 128 + d.val, by omega⟩ : Fin 1024)) ?_).trans ?_
  · rewrite [Shape.rowMajor_val_two, Shape.rowMajor_val_four]
    show ((b.val * 64 + n.val) * 64 + q.val) * 1024 + (h.val * 128 + d.val)
      = ((b.val * 4096 + (n.val * 64 + q.val)) * 8 + h.val) * 128 + d.val
    omega
  rw [val_main_v2_apply, val_main_v0_apply]
  refine congrArg x0 ?_
  funext a
  apply Fin.ext
  match a with
  | ⟨0, _⟩ => rfl
  | ⟨1, _⟩ => first | rfl | exact Nat.add_comm _ _

/-- The values. -/
theorem v_apply (b : Fin 4) (n q : Fin 64) (h : Fin 8) (d : Fin 128) :
    val_main_v11 (F := Ideal) x0 (ix5 b n q h d) = X x0 (rw5 b n q) ⟨2048 + (h.val * 128 + d.val), by omega⟩ := by
  have hb := b.isLt; have hn := n.isLt; have hq := q.isLt; have hh := h.isLt; have hd := d.isLt
  unfold val_main_v11
  refine (shapeCast_apply _ _ _ (ix4 b (⟨n.val * 64 + q.val, by omega⟩ : Fin 4096) h d) ?_).trans ?_
  · rewrite [Shape.rowMajor_val_four, Shape.rowMajor_val_five]
    show ((b.val * 4096 + (n.val * 64 + q.val)) * 8 + h.val) * 128 + d.val
      = (((b.val * 64 + n.val) * 64 + q.val) * 8 + h.val) * 128 + d.val
    omega
  unfold val_main_v6
  refine (shapeCast_apply _ _ _ (ix2 (rw5 b n q) (⟨h.val * 128 + d.val, by omega⟩ : Fin 1024)) ?_).trans ?_
  · rewrite [Shape.rowMajor_val_two, Shape.rowMajor_val_four]
    show ((b.val * 64 + n.val) * 64 + q.val) * 1024 + (h.val * 128 + d.val)
      = ((b.val * 4096 + (n.val * 64 + q.val)) * 8 + h.val) * 128 + d.val
    omega
  rw [val_main_v3_apply, val_main_v0_apply]
  refine congrArg x0 ?_
  funext a
  apply Fin.ext
  match a with
  | ⟨0, _⟩ => rfl
  | ⟨1, _⟩ => first | rfl | exact Nat.add_comm _ _

/-- The keys with eight chunks of zeros in front. -/
theorem kp_apply (b : Fin 4) (p : Fin 72) (q : Fin 64) (h : Fin 8) (d : Fin 128) :
    val_main_v10 (F := Ideal) x0 (ix5 b p q h d)
      = if hp : p.val < 8 then 0 else X x0 (rw5 b ⟨p.val - 8, by omega⟩ q) ⟨1024 + (h.val * 128 + d.val), by omega⟩ := by
  have hpl := p.isLt
  unfold val_main_v10
  split_ifs with hp
  · refine (pad_apply_of_not_inside _ _ _ _ _ _ _ _ (1 : Fin 5) (fun hh => ?_)).trans ?_
    · have : 8 ≤ p.val := hh.1
      omega
    · show (((0#32 : BitVec 32).toInt : ℝ) : EReal) = 0
      simp
  · refine (pad_apply_of_inside _ _ _ _ _ _ _ _ (ix5 b (⟨p.val - 8, by omega⟩ : Fin 64) q h d) fun a => ?_).trans (k_apply x0 b _ q h d)
    match a with
    | ⟨0, _⟩ => show b.val = 0 + b.val * 1; omega
    | ⟨1, _⟩ => show p.val = 8 + (p.val - 8) * 1; omega
    | ⟨2, _⟩ => show q.val = 0 + q.val * 1; omega
    | ⟨3, _⟩ => show h.val = 0 + h.val * 1; omega
    | ⟨4, _⟩ => show d.val = 0 + d.val * 1; omega

/-- The values with eight chunks of zeros in front. -/
theorem vp_apply (b : Fin 4) (p : Fin 72) (q : Fin 64) (h : Fin 8) (d : Fin 128) :
    val_main_v12 (F := Ideal) x0 (ix5 b p q h d)
      = if hp : p.val < 8 then 0 else X x0 (rw5 b ⟨p.val - 8, by omega⟩ q) ⟨2048 + (h.val * 128 + d.val), by omega⟩ := by
  have hpl := p.isLt
  unfold val_main_v12
  split_ifs with hp
  · refine (pad_apply_of_not_inside _ _ _ _ _ _ _ _ (1 : Fin 5) (fun hh => ?_)).trans ?_
    · have : 8 ≤ p.val := hh.1
      omega
    · show (((0#32 : BitVec 32).toInt : ℝ) : EReal) = 0
      simp
  · refine (pad_apply_of_inside _ _ _ _ _ _ _ _ (ix5 b (⟨p.val - 8, by omega⟩ : Fin 64) q h d) fun a => ?_).trans (v_apply x0 b _ q h d)
    match a with
    | ⟨0, _⟩ => show b.val = 0 + b.val * 1; omega
    | ⟨1, _⟩ => show p.val = 8 + (p.val - 8) * 1; omega
    | ⟨2, _⟩ => show q.val = 0 + q.val * 1; omega
    | ⟨3, _⟩ => show h.val = 0 + h.val * 1; omega
    | ⟨4, _⟩ => show d.val = 0 + d.val * 1; omega

/-! ## The scores of a chunk against the nine chunks of its band -/

/-- The product of a query and a key of the padded sequence, without scale. -/
def prod (b : Fin 4) (n : Fin 64) (h : Fin 8) (q : Fin 64) (j : Fin 9) (k : Fin 64) : EReal :=
  ∑ d : Fin 128, val_main_v8 (F := Ideal) x0 (ix5 b n q h d) * val_main_v10 (F := Ideal) x0 (ix5 b (⟨n.val + j.val, by omega⟩ : Fin 72) k h d)

theorem dot_0 (b : Fin 4) (n : Fin 64) (h : Fin 8) (q k : Fin 64) :
    val_main_v40 (F := Ideal) x0 (ix6 b n h q (⟨0, by decide⟩ : Fin 9) k) = prod x0 b n h q ⟨0, by decide⟩ k := by
  unfold val_main_v40
  refine (concatenate_apply_piece (4 : Fin S4x64x8x64x9x64.rank) _ _ _ 0 (by simp) S4x64x8x64x1x64 _ rfl rfl 0 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v31_apply, val_main_v14_apply]
  refine Finset.sum_congr rfl fun d _ => ?_
  rw [val_main_v13_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_1 (b : Fin 4) (n : Fin 64) (h : Fin 8) (q k : Fin 64) :
    val_main_v40 (F := Ideal) x0 (ix6 b n h q (⟨1, by decide⟩ : Fin 9) k) = prod x0 b n h q ⟨1, by decide⟩ k := by
  unfold val_main_v40
  refine (concatenate_apply_piece (4 : Fin S4x64x8x64x9x64.rank) _ _ _ 1 (by simp) S4x64x8x64x1x64 _ rfl rfl 1 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v32_apply, val_main_v16_apply]
  refine Finset.sum_congr rfl fun d _ => ?_
  rw [val_main_v15_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_2 (b : Fin 4) (n : Fin 64) (h : Fin 8) (q k : Fin 64) :
    val_main_v40 (F := Ideal) x0 (ix6 b n h q (⟨2, by decide⟩ : Fin 9) k) = prod x0 b n h q ⟨2, by decide⟩ k := by
  unfold val_main_v40
  refine (concatenate_apply_piece (4 : Fin S4x64x8x64x9x64.rank) _ _ _ 2 (by simp) S4x64x8x64x1x64 _ rfl rfl 2 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v33_apply, val_main_v18_apply]
  refine Finset.sum_congr rfl fun d _ => ?_
  rw [val_main_v17_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_3 (b : Fin 4) (n : Fin 64) (h : Fin 8) (q k : Fin 64) :
    val_main_v40 (F := Ideal) x0 (ix6 b n h q (⟨3, by decide⟩ : Fin 9) k) = prod x0 b n h q ⟨3, by decide⟩ k := by
  unfold val_main_v40
  refine (concatenate_apply_piece (4 : Fin S4x64x8x64x9x64.rank) _ _ _ 3 (by simp) S4x64x8x64x1x64 _ rfl rfl 3 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v34_apply, val_main_v20_apply]
  refine Finset.sum_congr rfl fun d _ => ?_
  rw [val_main_v19_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_4 (b : Fin 4) (n : Fin 64) (h : Fin 8) (q k : Fin 64) :
    val_main_v40 (F := Ideal) x0 (ix6 b n h q (⟨4, by decide⟩ : Fin 9) k) = prod x0 b n h q ⟨4, by decide⟩ k := by
  unfold val_main_v40
  refine (concatenate_apply_piece (4 : Fin S4x64x8x64x9x64.rank) _ _ _ 4 (by simp) S4x64x8x64x1x64 _ rfl rfl 4 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v35_apply, val_main_v22_apply]
  refine Finset.sum_congr rfl fun d _ => ?_
  rw [val_main_v21_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_5 (b : Fin 4) (n : Fin 64) (h : Fin 8) (q k : Fin 64) :
    val_main_v40 (F := Ideal) x0 (ix6 b n h q (⟨5, by decide⟩ : Fin 9) k) = prod x0 b n h q ⟨5, by decide⟩ k := by
  unfold val_main_v40
  refine (concatenate_apply_piece (4 : Fin S4x64x8x64x9x64.rank) _ _ _ 5 (by simp) S4x64x8x64x1x64 _ rfl rfl 5 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v36_apply, val_main_v24_apply]
  refine Finset.sum_congr rfl fun d _ => ?_
  rw [val_main_v23_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_6 (b : Fin 4) (n : Fin 64) (h : Fin 8) (q k : Fin 64) :
    val_main_v40 (F := Ideal) x0 (ix6 b n h q (⟨6, by decide⟩ : Fin 9) k) = prod x0 b n h q ⟨6, by decide⟩ k := by
  unfold val_main_v40
  refine (concatenate_apply_piece (4 : Fin S4x64x8x64x9x64.rank) _ _ _ 6 (by simp) S4x64x8x64x1x64 _ rfl rfl 6 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v37_apply, val_main_v26_apply]
  refine Finset.sum_congr rfl fun d _ => ?_
  rw [val_main_v25_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_7 (b : Fin 4) (n : Fin 64) (h : Fin 8) (q k : Fin 64) :
    val_main_v40 (F := Ideal) x0 (ix6 b n h q (⟨7, by decide⟩ : Fin 9) k) = prod x0 b n h q ⟨7, by decide⟩ k := by
  unfold val_main_v40
  refine (concatenate_apply_piece (4 : Fin S4x64x8x64x9x64.rank) _ _ _ 7 (by simp) S4x64x8x64x1x64 _ rfl rfl 7 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v38_apply, val_main_v28_apply]
  refine Finset.sum_congr rfl fun d _ => ?_
  rw [val_main_v27_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

theorem dot_8 (b : Fin 4) (n : Fin 64) (h : Fin 8) (q k : Fin 64) :
    val_main_v40 (F := Ideal) x0 (ix6 b n h q (⟨8, by decide⟩ : Fin 9) k) = prod x0 b n h q ⟨8, by decide⟩ k := by
  unfold val_main_v40
  refine (concatenate_apply_piece (4 : Fin S4x64x8x64x9x64.rank) _ _ _ 8 (by simp) S4x64x8x64x1x64 _ rfl rfl 8 rfl (ix6 b n h q (0 : Fin 1) k) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
    | ⟨5, _⟩, _ => rfl
  rw [val_main_v39_apply, val_main_v30_apply]
  refine Finset.sum_congr rfl fun d _ => ?_
  rw [val_main_v29_apply]
  refine congrArg₂ (fun a b : EReal => a * b) (congrArg (val_main_v8 (F := Ideal) x0) ?_) (congrArg (val_main_v10 (F := Ideal) x0) ?_)
  · funext a
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => first | rfl | exact Nat.add_comm _ _
    | ⟨2, _⟩ => rfl
    | ⟨3, _⟩ => rfl
    | ⟨4, _⟩ => rfl

/-- The products with all nine chunks. -/
theorem dot_apply (b : Fin 4) (n : Fin 64) (h : Fin 8) (q : Fin 64) (j : Fin 9) (k : Fin 64) :
    val_main_v40 (F := Ideal) x0 (ix6 b n h q j k) = prod x0 b n h q j k := by
  match j with
  | ⟨0, _⟩ => exact dot_0 x0 b n h q k
  | ⟨1, _⟩ => exact dot_1 x0 b n h q k
  | ⟨2, _⟩ => exact dot_2 x0 b n h q k
  | ⟨3, _⟩ => exact dot_3 x0 b n h q k
  | ⟨4, _⟩ => exact dot_4 x0 b n h q k
  | ⟨5, _⟩ => exact dot_5 x0 b n h q k
  | ⟨6, _⟩ => exact dot_6 x0 b n h q k
  | ⟨7, _⟩ => exact dot_7 x0 b n h q k
  | ⟨8, _⟩ => exact dot_8 x0 b n h q k

end Cert.ReferenceIdeal.Hand

end
-- ==== Proof.K1s.lean ====
module

public import proofs.«01_k».proof.Proof.K1r
public import Idealize.ShloMosaic.Lib.Pointwise
public import Idealize.ShloMosaic.Lib.KernelVsHost
public import Idealize.ShloMosaic.Lib.ValueIdxRank6
public import Idealize.ShloMosaic.Lib.Tactic

@[expose] public section

noncomputable section

open Idealize.ShloMosaic Idealize.ShloMosaic.TcCoe Idealize.SL.Sem

namespace Cert.ReferenceIdeal.Hand

open Cert.ReferenceIdeal Cert.ReferenceIdeal.Gen Cert.ReferenceIdeal.Read Cert.Hand

variable (x0 : Vec Ideal S16384x3072 .bf16) (x1 : Vec Ideal S1x8x257 .f32)

/-! ## The biases -/

/-- The table's place for a query, a chunk of the band and a key, as a word. -/
def placeW (q j k : BitVec 32) : BitVec 32 :=
  Scalar.select (IntOp.cmpi .slt (IntOp.addi (IntOp.minsi 128#32 (IntOp.maxsi 4294967168#32 (IntOp.subi (IntOp.addi (IntOp.muli (IntOp.subi 8#32 j) 64#32) q) k))) 128#32) 0#32)
    (IntOp.addi (IntOp.addi (IntOp.minsi 128#32 (IntOp.maxsi 4294967168#32 (IntOp.subi (IntOp.addi (IntOp.muli (IntOp.subi 8#32 j) 64#32) q) k))) 128#32) 257#32)
    (IntOp.addi (IntOp.minsi 128#32 (IntOp.maxsi 4294967168#32 (IntOp.subi (IntOp.addi (IntOp.muli (IntOp.subi 8#32 j) 64#32) q) k))) 128#32)

theorem place_eq (q : Fin 64) (j : Fin 9) (k : Fin 64) :
    val_main_v68 (F := Ideal) (ix4 q j k (0 : Fin 1)) = placeW (BitVec.ofNat 32 q.val) (BitVec.ofNat 32 j.val) (BitVec.ofNat 32 k.val) := by
  rw [val_main_v68_apply]
  rfl

theorem place_word : ∀ (q : Fin 64) (j : Fin 9) (k : Fin 64),
    (placeW (BitVec.ofNat 32 q.val) (BitVec.ofNat 32 j.val) (BitVec.ofNat 32 k.val)).toInt.toNat
      = min (640 + q.val - (j.val * 64 + k.val)) 256 := by decide +kernel

/-- The gather at an index: the head's row of the table at the place the indices hold. -/
theorem gather_apply (x : S8x257.Idx → EReal) (idx : IVec S64x9x64x1 32) (h : Fin 8) (q : Fin 64) (j : Fin 9) (k : Fin 64) :
    Host.gather gather_S8x257_S64x9x64x1_S8x64x9x64_0_1_n_n_1_3_81 x idx (ix4 h q j k)
      = x (ix2 h (⟨min (idx (ix4 q j k (0 : Fin 1))).toInt.toNat 256, by omega⟩ : Fin 257)) := by
  unfold Host.gather
  refine congrArg x ?_
  generalize hD : gather_S8x257_S64x9x64x1_S8x64x9x64_0_1_n_n_1_3_81 = D
  funext a
  refine Fin.ext ?_
  show D.start (ix4 h q j k) idx a + D.batchCoord (ix4 h q j k) a + D.offCoord (ix4 h q j k) a = _
  have hb : a ∉ D.operandBatchingDims := by subst hD; exact List.not_mem_nil
  rw [GatherDims.batchCoord_eq_zero _ _ _ hb, Nat.add_zero]
  match a with
  | ⟨0, _⟩ =>
    have h0 : (0 : Fin 2) ∉ D.startIndexMap := by subst hD; decide
    have h1 : (0 : Fin 2) ∈ D.sKept := by subst hD; decide
    unfold GatherDims.start GatherDims.offCoord
    refine (congrArg₂ (fun a b : ℕ => a + b) (dif_neg h0) (dif_pos h1)).trans ?_
    subst hD
    exact Nat.zero_add _
  | ⟨1, _⟩ =>
    have h0 : (1 : Fin 2) ∈ D.startIndexMap := by subst hD; decide
    have h1 : (1 : Fin 2) ∉ D.sKept := by subst hD; decide
    unfold GatherDims.start GatherDims.offCoord
    refine (congrArg₂ (fun a b : ℕ => a + b) (dif_pos h0) (dif_neg h1)).trans ?_
    have hs : D.siIdx (ix4 h q j k) ⟨List.idxOf (1 : Fin 2) D.startIndexMap, List.idxOf_lt_length_iff.2 h0⟩ = ix4 q j k (0 : Fin 1) := by
      subst hD
      funext b
      refine Fin.ext ?_
      match b with
      | ⟨0, _⟩ => rfl
      | ⟨1, _⟩ => rfl
      | ⟨2, _⟩ => rfl
      | ⟨3, _⟩ => rfl
    refine (congrArg (fun u => min (idx u).toInt.toNat (S8x257.size (1 : Fin 2) - D.sliceSizes (1 : Fin 2)) + 0) hs).trans ?_
    subst hD
    rfl

/-- The bias of a query and a key of the band. -/
theorem bias_apply (b : Fin 4) (n : Fin 64) (h : Fin 8) (q : Fin 64) (j : Fin 9) (k : Fin 64) :
    val_main_v71 (F := Ideal) x1 (ix6 b n h q j k) = T x1 h (rix q.val (j.val * 64 + k.val)) := by
  have e : idx_main_v70 (idx_main_v71 (ix6 b n h q j k)) = ix4 h q j k := by
    funext a
    match a with
    | ⟨0, _⟩ => rfl
    | ⟨1, _⟩ => rfl
    | ⟨2, _⟩ => rfl
    | ⟨3, _⟩ => rfl
  rw [val_main_v71_apply, val_main_v70_apply, e]
  unfold val_main_v69
  refine (gather_apply _ _ h q j k).trans ?_
  unfold val_main_v7
  refine (shapeCast_apply _ _ _ (ix3 (0 : Fin 1) h (rix q.val (j.val * 64 + k.val))) ?_).trans rfl
  rewrite [Shape.rowMajor_val_three, Shape.rowMajor_val_two]
  show (0 * 8 + h.val) * 257 + min (640 + q.val - (j.val * 64 + k.val)) 256
    = h.val * 257 + min (val_main_v68 (F := Ideal) (ix4 q j k (0 : Fin 1))).toInt.toNat 256
  rw [place_eq, place_word]
  omega

/-! ## The scores -/

theorem live_word : ∀ (n : Fin 64) (j : Fin 9),
    IntOp.cmpi .sge (IntOp.subi (IntOp.addi (BitVec.ofNat 32 n.val) (BitVec.ofNat 32 j.val)) 8#32) 0#32 = if n.val + j.val < 8 then 0#1 else 1#1 := by
  decide +kernel

/-- Whether a chunk of the band lies within the sequence. -/
theorem live_apply (b : Fin 4) (n : Fin 64) (h : Fin 8) (q : Fin 64) (j : Fin 9) (k : Fin 64) :
    val_main_call3_v1 (F := Ideal) (ix6 b n h q j k) = if n.val + j.val < 8 then 0#1 else 1#1 := by
  rw [← live_word, val_main_call3_v1_apply, val_main_v84_apply]
  rfl

/-- The reference's scores. -/
theorem score_apply (b : Fin 4) (n : Fin 64) (h : Fin 8) (q : Fin 64) (t : Fin 576) :
    val_main_v86 (F := Ideal) x0 x1 (ix5 b n h q t) = bscore (X x0) (T x1) (rw5 b n q) h t := by
  have hb := b.isLt; have hn := n.isLt; have hq := q.isLt; have hh := h.isLt; have ht := t.isLt
  unfold val_main_v86
  refine (shapeCast_apply _ _ _ (ix6 b n h q (⟨t.val / 64, by omega⟩ : Fin 9) (⟨t.val % 64, by omega⟩ : Fin 64)) ?_).trans ?_
  · rewrite [Shape.rowMajor_val_six, Shape.rowMajor_val_five]
    show ((((b.val * 64 + n.val) * 8 + h.val) * 64 + q.val) * 9 + t.val / 64) * 64 + t.val % 64
      = (((b.val * 64 + n.val) * 8 + h.val) * 64 + q.val) * 576 + t.val
    omega
  rw [val_main_v85_apply, live_apply]
  unfold bscore
  by_cases hd : n.val + t.val / 64 < 8
  · rw [if_pos (show ((b.val * 64 + n.val) * 64 + q.val) % 4096 / 64 * 64 + t.val < 512 by omega), if_pos hd]
    exact ofBits_bot
  · rw [if_neg (show ¬((b.val * 64 + n.val) * 64 + q.val) % 4096 / 64 * 64 + t.val < 512 by omega), if_neg hd]
    show val_main_v72 (F := Ideal) x0 x1 _ = _
    rw [val_main_v72_apply, val_main_v43_apply, val_main_v42_apply, val_main_v41_apply, val_main_cst_apply, Ideal.hostDivf_def,
      Ideal.hostUnary_sqrt_def, Ideal.ofBits_def, div_sqrt_128, dot_apply, bias_apply, Ideal.addf_def]
    refine congrArg₂ (fun a b : EReal => a + b) (congrArg (fun s : EReal => s * _) (Finset.sum_congr rfl fun d _ =>
      congrArg₂ (fun a b : EReal => a * b) ?_ ?_)) ?_
    · exact q_apply x0 b n q h d
    · rw [kp_apply, dif_neg (show ¬n.val + t.val / 64 < 8 from hd)]
      refine congrArg₂ (X x0) (Fin.ext ?_) rfl
      show (b.val * 64 + (n.val + t.val / 64 - 8)) * 64 + t.val % 64
        = ((b.val * 64 + n.val) * 64 + q.val) / 4096 * 4096 + (((b.val * 64 + n.val) * 64 + q.val) % 4096 / 64 * 64 + t.val - 512)
      omega
    · refine congrArg (T x1 h) (Fin.ext ?_)
      show min (640 + q.val - (t.val / 64 * 64 + t.val % 64)) 256 = min (640 + ((b.val * 64 + n.val) * 64 + q.val) % 64 - t.val) 256
      omega

end Cert.ReferenceIdeal.Hand

end
-- ==== Proof.K1t.lean ====
module

public import proofs.«01_k».proof.Proof.K1s
public import Idealize.ShloMosaic.Lib.Pointwise
public import Idealize.ShloMosaic.Lib.KernelVsHost
public import Idealize.ShloMosaic.Lib.ValueIdxRank6
public import Idealize.ShloMosaic.Lib.Tactic

@[expose] public section

noncomputable section

open Idealize.ShloMosaic Idealize.ShloMosaic.TcCoe Idealize.SL.Sem

namespace Cert.ReferenceIdeal.Hand

open Cert.ReferenceIdeal Cert.ReferenceIdeal.Gen Cert.ReferenceIdeal.Read Cert.Hand

variable (x0 : Vec Ideal S16384x3072 .bf16) (x1 : Vec Ideal S1x8x257 .f32)

/-! ## The weights -/

/-- The largest score of a row. -/
theorem max_apply (b : Fin 4) (n : Fin 64) (h : Fin 8) (q : Fin 64) :
    val_main_v89 (F := Ideal) x0 x1 (ix4 b n h q) = mx (bscore (X x0) (T x1) (rw5 b n q) h) := by
  have e : val_main_v87 (F := Ideal) x0 x1 (ix4 b n h q) = mx (fun t : Fin 576 => val_main_v86 (F := Ideal) x0 x1 (ix5 b n h q t)) := by
    unfold val_main_v87 mx
    generalize val_main_v86 (F := Ideal) x0 x1 = y
    pointwise
    rfl
  rw [val_main_v89_apply, val_main_v88_apply, val_main_cst_12_apply, e, Ideal.maximumf_def, Ideal.ofBits_def, max_mx]
  exact congrArg mx (funext fun t => score_apply x0 x1 b n h q t)

/-- The exponentials of a row. -/
theorem exp_apply (b : Fin 4) (n : Fin 64) (h : Fin 8) (q : Fin 64) (t : Fin 576) :
    val_main_v93 (F := Ideal) x0 x1 (ix5 b n h q t)
      = Ideal.exp (bscore (X x0) (T x1) (rw5 b n q) h t - mx (bscore (X x0) (T x1) (rw5 b n q) h)) := by
  have e : idx_main_v90 (idx_main_v91 (ix5 b n h q t)) = ix4 b n h q := by
    funext a
    match a with
    | ⟨0, _⟩ => rfl
    | ⟨1, _⟩ => rfl
    | ⟨2, _⟩ => rfl
    | ⟨3, _⟩ => rfl
  rw [val_main_v93_apply, val_main_v92_apply, val_main_v91_apply, val_main_v90_apply, e, max_apply, score_apply]
  rfl

/-- The reference's weights. -/
theorem soft_apply (b : Fin 4) (n : Fin 64) (h : Fin 8) (q : Fin 64) (t : Fin 576) :
    val_main_v97 (F := Ideal) x0 x1 (ix5 b n h q t) = soft (bscore (X x0) (T x1) (rw5 b n q) h) t := by
  have e : ∀ k : Fin 576, idx_main_v94 (idx_main_v95 (idx_main_v96 (ix5 b n h q t))) k = ix5 b n h q k := fun k => by
    funext a
    match a with
    | ⟨0, _⟩ => rfl
    | ⟨1, _⟩ => rfl
    | ⟨2, _⟩ => rfl
    | ⟨3, _⟩ => rfl
    | ⟨4, _⟩ => rfl
  rw [val_main_v97_apply, val_main_v96_apply, val_main_v95_apply, val_main_v94_apply, val_main_cst_13_apply,
    Ideal.hostDivf_def, Ideal.ofBits_def, Ideal.ofBits_zero_f32, zero_add, exp_apply]
  unfold soft
  refine congrArg (Ideal.div _) (Finset.sum_congr rfl fun k _ => ?_)
  rw [e, exp_apply]

/-- The weights by chunk of the band. -/
theorem weight_apply (b : Fin 4) (n : Fin 64) (h : Fin 8) (q : Fin 64) (j : Fin 9) (k : Fin 64) :
    val_main_v98 (F := Ideal) x0 x1 (ix6 b n h q j k) = soft (bscore (X x0) (T x1) (rw5 b n q) h) ⟨j.val * 64 + k.val, by omega⟩ := by
  have hb := b.isLt; have hn := n.isLt; have hq := q.isLt; have hh := h.isLt; have hj := j.isLt; have hk := k.isLt
  unfold val_main_v98
  refine (shapeCast_apply _ _ _ (ix5 b n h q (⟨j.val * 64 + k.val, by omega⟩ : Fin 576)) ?_).trans (soft_apply x0 x1 b n h q _)
  rewrite [Shape.rowMajor_val_six, Shape.rowMajor_val_five]
  show (((b.val * 64 + n.val) * 8 + h.val) * 64 + q.val) * 576 + (j.val * 64 + k.val)
    = ((((b.val * 64 + n.val) * 8 + h.val) * 64 + q.val) * 9 + j.val) * 64 + k.val
  omega

/-! ## The output -/

/-- What one chunk of the band adds to the output. -/
def part (b : Fin 4) (n q : Fin 64) (h : Fin 8) (d : Fin 128) (j : Fin 9) : EReal :=
  ∑ k : Fin 64, val_main_v12 (F := Ideal) x0 (ix5 b (⟨n.val + j.val, by omega⟩ : Fin 72) k h d)
    * soft (bscore (X x0) (T x1) (rw5 b n q) h) ⟨j.val * 64 + k.val, by omega⟩

theorem part_0 (b : Fin 4) (n q : Fin 64) (h : Fin 8) (d : Fin 128) :
    val_main_v103 (F := Ideal) x0 x1 (ix5 b n q h d) = part x0 x1 b n q h d ⟨0, by decide⟩ := by
  have hb := b.isLt; have hn := n.isLt; have hq := q.isLt; have hh := h.isLt
  rw [val_main_v103_apply, val_main_v102_apply]
  refine Finset.sum_congr rfl fun k _ => congrArg₂ (fun a b : EReal => a * b) ?_ ?_
  · rw [val_main_v101_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v100
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v99_apply]
      refine Eq.trans (congrArg (val_main_v98 (F := Ideal) x0 x1) ?_) (weight_apply x0 x1 b n h q (⟨0, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_1 (b : Fin 4) (n q : Fin 64) (h : Fin 8) (d : Fin 128) :
    val_main_v108 (F := Ideal) x0 x1 (ix5 b n q h d) = part x0 x1 b n q h d ⟨1, by decide⟩ := by
  have hb := b.isLt; have hn := n.isLt; have hq := q.isLt; have hh := h.isLt
  rw [val_main_v108_apply, val_main_v107_apply]
  refine Finset.sum_congr rfl fun k _ => congrArg₂ (fun a b : EReal => a * b) ?_ ?_
  · rw [val_main_v106_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v105
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v104_apply]
      refine Eq.trans (congrArg (val_main_v98 (F := Ideal) x0 x1) ?_) (weight_apply x0 x1 b n h q (⟨1, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_2 (b : Fin 4) (n q : Fin 64) (h : Fin 8) (d : Fin 128) :
    val_main_v114 (F := Ideal) x0 x1 (ix5 b n q h d) = part x0 x1 b n q h d ⟨2, by decide⟩ := by
  have hb := b.isLt; have hn := n.isLt; have hq := q.isLt; have hh := h.isLt
  rw [val_main_v114_apply, val_main_v113_apply]
  refine Finset.sum_congr rfl fun k _ => congrArg₂ (fun a b : EReal => a * b) ?_ ?_
  · rw [val_main_v112_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v111
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v110_apply]
      refine Eq.trans (congrArg (val_main_v98 (F := Ideal) x0 x1) ?_) (weight_apply x0 x1 b n h q (⟨2, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_3 (b : Fin 4) (n q : Fin 64) (h : Fin 8) (d : Fin 128) :
    val_main_v120 (F := Ideal) x0 x1 (ix5 b n q h d) = part x0 x1 b n q h d ⟨3, by decide⟩ := by
  have hb := b.isLt; have hn := n.isLt; have hq := q.isLt; have hh := h.isLt
  rw [val_main_v120_apply, val_main_v119_apply]
  refine Finset.sum_congr rfl fun k _ => congrArg₂ (fun a b : EReal => a * b) ?_ ?_
  · rw [val_main_v118_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v117
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v116_apply]
      refine Eq.trans (congrArg (val_main_v98 (F := Ideal) x0 x1) ?_) (weight_apply x0 x1 b n h q (⟨3, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_4 (b : Fin 4) (n q : Fin 64) (h : Fin 8) (d : Fin 128) :
    val_main_v126 (F := Ideal) x0 x1 (ix5 b n q h d) = part x0 x1 b n q h d ⟨4, by decide⟩ := by
  have hb := b.isLt; have hn := n.isLt; have hq := q.isLt; have hh := h.isLt
  rw [val_main_v126_apply, val_main_v125_apply]
  refine Finset.sum_congr rfl fun k _ => congrArg₂ (fun a b : EReal => a * b) ?_ ?_
  · rw [val_main_v124_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v123
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v122_apply]
      refine Eq.trans (congrArg (val_main_v98 (F := Ideal) x0 x1) ?_) (weight_apply x0 x1 b n h q (⟨4, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_5 (b : Fin 4) (n q : Fin 64) (h : Fin 8) (d : Fin 128) :
    val_main_v132 (F := Ideal) x0 x1 (ix5 b n q h d) = part x0 x1 b n q h d ⟨5, by decide⟩ := by
  have hb := b.isLt; have hn := n.isLt; have hq := q.isLt; have hh := h.isLt
  rw [val_main_v132_apply, val_main_v131_apply]
  refine Finset.sum_congr rfl fun k _ => congrArg₂ (fun a b : EReal => a * b) ?_ ?_
  · rw [val_main_v130_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v129
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v128_apply]
      refine Eq.trans (congrArg (val_main_v98 (F := Ideal) x0 x1) ?_) (weight_apply x0 x1 b n h q (⟨5, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_6 (b : Fin 4) (n q : Fin 64) (h : Fin 8) (d : Fin 128) :
    val_main_v138 (F := Ideal) x0 x1 (ix5 b n q h d) = part x0 x1 b n q h d ⟨6, by decide⟩ := by
  have hb := b.isLt; have hn := n.isLt; have hq := q.isLt; have hh := h.isLt
  rw [val_main_v138_apply, val_main_v137_apply]
  refine Finset.sum_congr rfl fun k _ => congrArg₂ (fun a b : EReal => a * b) ?_ ?_
  · rw [val_main_v136_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v135
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v134_apply]
      refine Eq.trans (congrArg (val_main_v98 (F := Ideal) x0 x1) ?_) (weight_apply x0 x1 b n h q (⟨6, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_7 (b : Fin 4) (n q : Fin 64) (h : Fin 8) (d : Fin 128) :
    val_main_v144 (F := Ideal) x0 x1 (ix5 b n q h d) = part x0 x1 b n q h d ⟨7, by decide⟩ := by
  have hb := b.isLt; have hn := n.isLt; have hq := q.isLt; have hh := h.isLt
  rw [val_main_v144_apply, val_main_v143_apply]
  refine Finset.sum_congr rfl fun k _ => congrArg₂ (fun a b : EReal => a * b) ?_ ?_
  · rw [val_main_v142_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v141
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v140_apply]
      refine Eq.trans (congrArg (val_main_v98 (F := Ideal) x0 x1) ?_) (weight_apply x0 x1 b n h q (⟨7, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

theorem part_8 (b : Fin 4) (n q : Fin 64) (h : Fin 8) (d : Fin 128) :
    val_main_v150 (F := Ideal) x0 x1 (ix5 b n q h d) = part x0 x1 b n q h d ⟨8, by decide⟩ := by
  have hb := b.isLt; have hn := n.isLt; have hq := q.isLt; have hh := h.isLt
  rw [val_main_v150_apply, val_main_v149_apply]
  refine Finset.sum_congr rfl fun k _ => congrArg₂ (fun a b : EReal => a * b) ?_ ?_
  · rw [val_main_v148_apply]
    refine congrArg (val_main_v12 (F := Ideal) x0) ?_
    funext a
    apply Fin.ext
    match a with
    | ⟨0, _⟩ => rfl
    | ⟨1, _⟩ => first | rfl | exact Nat.add_comm _ _
    | ⟨2, _⟩ => rfl
    | ⟨3, _⟩ => rfl
    | ⟨4, _⟩ => rfl
  · have hk := k.isLt
    unfold val_main_v147
    refine (shapeCast_apply _ _ _ (ix6 b n h q (0 : Fin 1) k) ?_).trans ?_
    · rewrite [Shape.rowMajor_val_six, Shape.rowMajor_val_five]
      show ((((b.val * 64 + n.val) * 8 + h.val) * 64 + q.val) * 1 + 0) * 64 + k.val
        = (((b.val * 64 + n.val) * 8 + h.val) * 64 + q.val) * 64 + k.val
      omega
    · rw [val_main_v146_apply]
      refine Eq.trans (congrArg (val_main_v98 (F := Ideal) x0 x1) ?_) (weight_apply x0 x1 b n h q (⟨8, by decide⟩ : Fin 9) k)
      funext a
      match a with
      | ⟨0, _⟩ => rfl
      | ⟨1, _⟩ => rfl
      | ⟨2, _⟩ => rfl
      | ⟨3, _⟩ => rfl
      | ⟨4, _⟩ => rfl
      | ⟨5, _⟩ => rfl

/-- The nine parts together. -/
theorem out_apply (b : Fin 4) (n q : Fin 64) (h : Fin 8) (d : Fin 128) :
    val_main_v151 (F := Ideal) x0 x1 (ix5 b n q h d) = ∑ j : Fin 9, part x0 x1 b n q h d j := by
  rw [val_main_v151_apply, val_main_v145_apply, val_main_v139_apply, val_main_v133_apply, val_main_v127_apply, val_main_v121_apply,
    val_main_v115_apply, val_main_v109_apply, part_0, part_1, part_2, part_3, part_4, part_5, part_6, part_7, part_8]
  simp only [Ideal.addf_def, Fin.sum_univ_castSucc, Fin.sum_univ_zero, zero_add]
  rfl

/-- A sum over the band is one over its chunks. -/
theorem sum_band (f : Fin 576 → EReal) : ∑ t : Fin 576, f t = ∑ j : Fin 9, ∑ k : Fin 64, f ⟨j.val * 64 + k.val, by omega⟩ := by
  rw [← Fintype.sum_prod_type (fun p : Fin 9 × Fin 64 => f ⟨p.1.val * 64 + p.2.val, by omega⟩)]
  refine (Fintype.sum_equiv (finProdFinEquiv : Fin 9 × Fin 64 ≃ Fin (9 * 64)) _ f fun p => congrArg f (Fin.ext ?_)).symm
  show p.1.val * 64 + p.2.val = p.2.val + 64 * p.1.val
  omega

/-- The output at a place of a chunk is the band attention of its row. -/
theorem out_band (b : Fin 4) (n q : Fin 64) (h : Fin 8) (d : Fin 128) :
    val_main_v151 (F := Ideal) x0 x1 (ix5 b n q h d) = band (X x0) (T x1) (rw5 b n q) ⟨h.val * 128 + d.val, by omega⟩ := by
  have hb := b.isLt; have hn := n.isLt; have hq := q.isLt; have hh := h.isLt; have hd := d.isLt
  rw [out_apply]
  unfold band att
  rw [sum_band]
  refine Finset.sum_congr rfl fun j _ => Finset.sum_congr rfl fun k _ => ?_
  have hj := j.isLt
  have hk := k.isLt
  rw [mul_comm]
  refine congrArg₂ (fun a b : EReal => a * b) ?_ ?_
  · refine congrArg (fun s => soft (bscore (X x0) (T x1) (rw5 b n q) s) _) (Fin.ext ?_)
    show h.val = (h.val * 128 + d.val) / 128
    omega
  · rw [vp_apply]
    unfold bvalue
    by_cases hl : n.val + j.val < 8
    · rw [dif_pos hl, if_pos (show ((b.val * 64 + n.val) * 64 + q.val) % 4096 / 64 * 64 + (j.val * 64 + k.val) < 512 by omega)]
    · rw [dif_neg hl, if_neg (show ¬((b.val * 64 + n.val) * 64 + q.val) % 4096 / 64 * 64 + (j.val * 64 + k.val) < 512 by omega)]
      refine congrArg (fun R => X x0 R _) (Fin.ext ?_)
      show (b.val * 64 + (n.val + j.val - 8)) * 64 + k.val
        = ((b.val * 64 + n.val) * 64 + q.val) / 4096 * 4096 + (((b.val * 64 + n.val) * 64 + q.val) % 4096 / 64 * 64 + (j.val * 64 + k.val) - 512)
      omega

/-- The reference's result is the band attention. -/
theorem ref_eq (i : S16384x1024.Idx) : val_main_v154 (F := Ideal) x0 x1 i = band (X x0) (T x1) (i 0) (i 1) := by
  have h0 : (i 0).val < 16384 := (i 0).isLt
  have h1 : (i 1).val < 1024 := (i 1).isLt
  rw [val_main_v154_apply, Ideal.truncf_def]
  unfold val_main_v153
  refine (shapeCast_apply _ _ _ (ix3 (⟨(i 0).val / 4096, by omega⟩ : Fin 4) (⟨(i 0).val % 4096, by omega⟩ : Fin 4096) (⟨(i 1).val, h1⟩ : Fin 1024)) ?_).trans ?_
  · rewrite [Shape.rowMajor_val_three, Shape.rowMajor_val_two]
    show ((i 0).val / 4096 * 4096 + (i 0).val % 4096) * 1024 + (i 1).val = (i 0).val * 1024 + (i 1).val
    omega
  unfold val_main_v152
  refine (shapeCast_apply _ _ _ (ix5 (⟨(i 0).val / 4096, by omega⟩ : Fin 4) (⟨(i 0).val % 4096 / 64, by omega⟩ : Fin 64)
    (⟨(i 0).val % 64, by omega⟩ : Fin 64) (⟨(i 1).val / 128, by omega⟩ : Fin 8) (⟨(i 1).val % 128, by omega⟩ : Fin 128)) ?_).trans ?_
  · rewrite [Shape.rowMajor_val_three, Shape.rowMajor_val_five]
    show ((((i 0).val / 4096 * 64 + (i 0).val % 4096 / 64) * 64 + (i 0).val % 64) * 8 + (i 1).val / 128) * 128 + (i 1).val % 128
      = ((i 0).val / 4096 * 4096 + (i 0).val % 4096) * 1024 + (i 1).val
    omega
  refine (out_band x0 x1 _ _ _ _ _).trans (congrArg₂ (band (X x0) (T x1)) (Fin.ext ?_) (Fin.ext ?_))
  · show ((i 0).val / 4096 * 64 + (i 0).val % 4096 / 64) * 64 + (i 0).val % 64 = (i 0).val
    omega
  · show (i 1).val / 128 * 128 + (i 1).val % 128 = (i 1).val
    omega

end Cert.ReferenceIdeal.Hand

end
-- ==== Proof.K1.lean ====
module

public import proofs.«01_k».proof.Defs
public import proofs.«01_k».proof.Proof.K1d
public import proofs.«01_k».proof.Proof.K1t
public import proofs.«01_k».proof.Proof.Gen.Pre_finite
public import proofs.«01_k».proof.Proof.Gen.ReferenceIdeal.Run
public import Idealize.ShloMosaic.Lib.ReduceAll
public import Idealize.ShloMosaic.Lib.Pointwise
public import Idealize.ShloMosaic.Lib.Tactic

@[expose] public section

noncomputable section

open Idealize.ShloMosaic Idealize.ShloMosaic.TcCoe Idealize.SL.Sem

namespace Cert.Proof

open Cert.Hand

/-- A number whose absolute value compares below infinity is real. -/
theorem real_of_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hl : max x (-x) < ⊤ := by
    by_contra hn
    simp [Ideal.cmp, hn] at h
  refine finite_coe (fun e => ?_) (fun e => ?_)
  · rw [e] at hl; simp at hl
  · rw [e] at hl; simp at hl

/-- The precondition makes the queries, the keys and the bias real. -/
theorem fine (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Cert.KernelIdeal.Hand.Fine m c := by
  haveI : Subsingleton Cert.Pre_finite.S_.Idx := ⟨fun a b => funext fun k => k.elim0⟩
  have hc := congrFun (h c) (fun k => k.elim0)
  have hand := IntOp.andi_eq_one.1 hc
  constructor
  · intro R C hC
    refine real_of_lt ?_
    have := Host.reduce_andi_all _ _ _ _ _ hand.1 (ix2 R (⟨C.val, hC⟩ : Fin 2048))
    have e : extractStridedSlice Cert.Pre_finite.S16384x2048 ![0, 0] (m ((c.tc : Thread Cert.KernelIdeal.nD Cert.KernelIdeal.τ).loc Cert.KernelIdeal.main_arg0))
        Cert.Pre_finite.Gen.slices_S16384x3072_S16384x2048_0_0 (ix2 R (⟨C.val, hC⟩ : Fin 2048)) = Cert.KernelIdeal.Hand.xa m c R C := by
      refine congrArg (m ((c.tc : Thread Cert.KernelIdeal.nD Cert.KernelIdeal.τ).loc Cert.KernelIdeal.main_arg0)) (funext fun a => Fin.ext ?_)
      match a with
      | ⟨0, _⟩ => exact Nat.zero_add _
      | ⟨1, _⟩ => exact Nat.zero_add _
    rw [← e]
    exact this
  · intro k i
    refine real_of_lt ?_
    have := Host.reduce_andi_all _ _ _ _ _ hand.2 (ix3 (0 : Fin 1) k i)
    exact this

/-- Band attention: kernel and reference agree over the reals. -/
theorem algebraic1 : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m ρ m' ρ' hpre hagree
  refine ⟨fun c => Cert.KernelIdeal.Hand.G m c,
    (θ_run Cert.KernelIdeal.defs _ _).mono (fun r h c => ⟨(h c).1.trans (Cert.KernelIdeal.Hand.final m c (fine m hpre c)), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨e0, e1⟩ := hagree c
  rw [Cert.ReferenceIdeal.Read.val_main_v154_eq]
  refine (congrArg₂ (Cert.ReferenceIdeal.Read.val_main_v154 (F := Ideal)) e0 e1).trans ?_
  exact funext fun i => Cert.ReferenceIdeal.Hand.ref_eq _ _ i

end Cert.Proof

end
-- ==== Proof.Rows.lean ====
module

public import Idealize.ShloMosaic.Lib.Pointwise
public import Idealize.ShloMosaic.Lib.Pipeline.Value

@[expose] public section

noncomputable section

open Idealize.ShloMosaic

namespace Cert.Hand

/-- Entry `k` of a row of 2048 numbers, normalised by the root of its mean square and scaled by the gain. -/
def nrow (x g : Fin 2048 → EReal) (k : Fin 2048) : EReal :=
  x k * Ideal.rsqrt (Ideal.div (∑ d, x d * x d) (Ideal.ofBits .f32 0x45000000#32) + Ideal.ofBits .f32 0x358637BD#32) * g k

/-- A row of 4096 rows of 4 sequences, as the array of all rows holds it. -/
theorem flat_apply {α : Type} (x : (⟨3, ![4, 4096, 2048]⟩ : Shape).Idx → α)
    (h : (⟨3, ![4, 4096, 2048]⟩ : Shape).ShapeCasts ⟨2, ![16384, 2048]⟩) (i : (⟨2, ![16384, 2048]⟩ : Shape).Idx) :
    shapeCast (⟨2, ![16384, 2048]⟩ : Shape) x h i = x (ix3
      (⟨(i 0).val / 4096, by have h : (i 0).val < 16384 := (i 0).isLt; omega⟩ : Fin 4)
      (⟨(i 0).val % 4096, Nat.mod_lt _ (by decide)⟩ : Fin 4096) (⟨(i 1).val, (i 1).isLt⟩ : Fin 2048)) := by
  refine shapeCast_apply _ _ _ _ ?_
  rewrite [Shape.rowMajor_val_three, Shape.rowMajor_val_two]
  show ((i 0).val / 4096 * 4096 + (i 0).val % 4096) * 2048 + (i 1).val = (i 0).val * 2048 + (i 1).val
  omega

/-- The same with 256 rows to a sequence. -/
theorem flat256_apply {α : Type} (x : (⟨3, ![4, 256, 2048]⟩ : Shape).Idx → α)
    (h : (⟨3, ![4, 256, 2048]⟩ : Shape).ShapeCasts ⟨2, ![1024, 2048]⟩) (i : (⟨2, ![1024, 2048]⟩ : Shape).Idx) :
    shapeCast (⟨2, ![1024, 2048]⟩ : Shape) x h i = x (ix3
      (⟨(i 0).val / 256, by have h : (i 0).val < 1024 := (i 0).isLt; omega⟩ : Fin 4)
      (⟨(i 0).val % 256, Nat.mod_lt _ (by decide)⟩ : Fin 256) (⟨(i 1).val, (i 1).isLt⟩ : Fin 2048)) := by
  refine shapeCast_apply _ _ _ _ ?_
  rewrite [Shape.rowMajor_val_three, Shape.rowMajor_val_two]
  show ((i 0).val / 256 * 256 + (i 0).val % 256) * 2048 + (i 1).val = (i 0).val * 2048 + (i 1).val
  omega

/-- A matrix with a leading axis of one entry, without it. -/
theorem lead_apply {α : Type} {m n : Nat} (x : (⟨3, ![1, m, n]⟩ : Shape).Idx → α)
    (h : (⟨3, ![1, m, n]⟩ : Shape).ShapeCasts ⟨2, ![m, n]⟩) (i : (⟨2, ![m, n]⟩ : Shape).Idx) :
    shapeCast (⟨2, ![m, n]⟩ : Shape) x h i
      = x (ix3 (0 : Fin 1) (⟨(i 0).val, (i 0).isLt⟩ : Fin m) (⟨(i 1).val, (i 1).isLt⟩ : Fin n)) := by
  refine shapeCast_apply _ _ _ _ ?_
  rewrite [Shape.rowMajor_val_three, Shape.rowMajor_val_two]
  show (0 * m + (i 0).val) * n + (i 1).val = (i 0).val * n + (i 1).val
  rw [Nat.zero_mul, Nat.zero_add]

/-- The gain's row, once flattened and given its axis back. -/
theorem gain_apply {α : Type} (x : (⟨2, ![1, 2048]⟩ : Shape).Idx → α)
    (h : (⟨2, ![1, 2048]⟩ : Shape).ShapeCasts ⟨1, ![2048]⟩) (h' : (⟨1, ![2048]⟩ : Shape).ShapeCasts ⟨2, ![1, 2048]⟩)
    (i : (⟨2, ![1, 2048]⟩ : Shape).Idx) :
    shapeCast (⟨2, ![1, 2048]⟩ : Shape) (shapeCast (⟨1, ![2048]⟩ : Shape) x h) h' i = x i := by
  rw [shapeCast_shapeCast]

end Cert.Hand

end
-- ==== Proof.K2.lean ====
module

public import proofs.«01_k».proof.Defs
public import proofs.«01_k».proof.Proof.Rows
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel2Ideal.Hand

open Cert.Kernel2Ideal Cert.Kernel2Ideal.Gen Cert.Hand Cert.Reference2Ideal.Read

variable (m : (ℓ : Loc nD τ sig) → Buf (Elt Ideal) ℓ)

theorem hz : (![0, 0] : Fin 2 → Nat) = fun _ => 0 := funext fun a => by fin_cases a <;> rfl

/-- A row's first point leaves the normalised rows in the scratch. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S1024x2048) hz]
  simp only [View.readAt_eq_ld, h2.read_unread, h3.read_unread, View.ld_unit_zero (S := S1024x2048) hz,
    View.ld_unit_zero (S := S1x2048) hz]

/-- ... and in the output's buffer their product with the weights' block. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1024x1024) hz]
  simp only [View.readAt_eq_ld, h2.read_unread, h3.read_unread, h4.read_unread, View.ld_unit_zero (S := S1024x2048) hz,
    View.ld_unit_zero (S := S1x2048) hz, View.ld_unit_zero (S := S2048x1024) hz]
  rw [View.readCov_unit_zero (S := S1024x2048) _ hz]

/-- A later point of the row multiplies the rows the scratch holds. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero (S := S1024x1024) hz]
  simp only [View.readAt_eq_ld, h4.read_unread, h6.read_unread, View.ld_unit_zero (S := S1024x2048) hz,
    View.ld_unit_zero (S := S2048x1024) hz]

/-- ... and leaves the scratch. -/
theorem sout_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    sout0_B_0 c i a2 h2 a3 h3 a4 h4 a5 h5 a6 h6 hc x0 x1 x2 xs = xs := rfl

/-- The normalised rows, at an index. -/
theorem pay1_apply (x : Vec Ideal S1024x2048 .f32) (g : Vec Ideal S1x2048 .f32) (j : S1024x2048.Idx) :
    k0_pay1 x g j = nrow (fun d => x (ix2 (j 0) d)) (fun d => g (ix2 0 d)) (j 1) := by
  unfold k0_pay1 nrow
  simp only [shapeCast_self]
  pointwise

/-- The product, at an index. -/
theorem pay2_apply (h : Vec Ideal S1024x2048 .bf16) (w : Vec Ideal S2048x1024 .bf16) (j : S1024x1024.Idx) :
    k0_pay2 h w j = ∑ k : Fin 2048, h (ix2 (j 0) k) * w (ix2 k (j 1)) := by
  unfold k0_pay2
  simp only [shapeCast_self]
  pointwise

/-! ## The arrays as rows and columns -/

/-- Row `R` of the input, as numbers. -/
def xr (c : Dev nD) (R : Fin 16384) (d : Fin 2048) : EReal :=
  (m ((c : Thread nD τ).loc main_arg0) : Vec Ideal S4x4096x2048 .f32) (ix3 (⟨R.val / 4096, by omega⟩ : Fin 4) (⟨R.val % 4096, Nat.mod_lt _ (by decide)⟩ : Fin 4096) d)

/-- The gain. -/
def gr (c : Dev nD) (d : Fin 2048) : EReal := (m ((c : Thread nD τ).loc main_arg1) : Vec Ideal S1x2048 .f32) (ix2 (0 : Fin 1) d)

/-- Column `C` of the weights. -/
def wc (c : Dev nD) (C : Fin 3072) (k : Fin 2048) : EReal :=
  (m ((c : Thread nD τ).loc main_arg2) : Vec Ideal S1x2048x10240 .f32) (ix3 (0 : Fin 1) k (⟨C.val, by omega⟩ : Fin 10240))

/-- The product of the normalised rows with the weights. -/
def G (c : Dev nD) (i : S16384x3072.Idx) : EReal := ∑ k : Fin 2048, nrow (xr m c (i 0)) (gr m c) k * wc m c (i 1) k

theorem V_x (c : Dev nD) (i : S16384x2048.Idx) : (V m c main_v0 : Vec Ideal S16384x2048 .f32) i = xr m c (i 0) (i 1) := by
  have e : (V m c main_v0 : Vec Ideal S16384x2048 .f32)
      = shapeCast S16384x2048 (m ((c : Thread nD τ).loc main_arg0) : Vec Ideal S4x4096x2048 .f32)
          shapeCasts_S4x4096x2048_S16384x2048 := by
    unfold V
    after_results <;> rfl
  rw [e]
  exact flat_apply _ _ i

theorem V_g (c : Dev nD) (i : S1x2048.Idx) : (V m c main_v5 : Vec Ideal S1x2048 .f32) i = gr m c (i 1) := by
  have e : (V m c main_v5 : Vec Ideal S1x2048 .f32)
      = shapeCast S1x2048 (shapeCast S2048 (m ((c : Thread nD τ).loc main_arg1) : Vec Ideal S1x2048 .f32)
          shapeCasts_S1x2048_S2048) shapeCasts_S2048_S1x2048 := by
    unfold V
    after_results <;> rfl
  rw [e]
  refine (gain_apply _ _ _ i).trans (congrArg _ ?_)
  funext a
  match a with
  | ⟨0, _⟩ => exact Subsingleton.elim (α := Fin 1) _ _
  | ⟨1, _⟩ => rfl

theorem V_w (c : Dev nD) (i : S2048x3072.Idx) : (V m c main_v4 : Vec Ideal S2048x3072 .bf16) i = wc m c (i 1) (i 0) := by
  have e : @Eq (FVec Ideal S2048x3072 .bf16) (V m c main_v4)
      (truncf .bf16 (extractStridedSlice S2048x3072 ![0, 0] (shapeCast S2048x10240
          (m ((c : Thread nD τ).loc main_arg2) : Vec Ideal S1x2048x10240 .f32) shapeCasts_S1x2048x10240_S2048x10240)
          slices_S2048x10240_S2048x3072_0_0 : FVec Ideal S2048x3072 .f32) bitsLt_bf16_f32) := by
    unfold V
    after_results <;> rfl
  rw [e]
  refine (lead_apply _ _ _).trans (congrArg _ ?_)
  funext a
  apply Fin.ext
  match a with
  | ⟨0, _⟩ => rfl
  | ⟨1, _⟩ => exact Nat.zero_add _
  | ⟨2, _⟩ => exact Nat.zero_add _

/-! ## The windows' blocks -/

theorem idx0 : ∀ t : Fin cfg0.N, win0_0.index t 0 = t.val / 3 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 3 := by decide +kernel
theorem idx3 : ∀ t : Fin cfg0.N, win0_3.index t 0 = t.val / 3 ∧ win0_3.index t 1 = t.val % 3 := by decide +kernel

/-- The row a point's block holds in its place `r`. -/
abbrev row (t : Fin cfg0.N) (r : Fin 1024) : Fin 16384 :=
  ⟨t.val / 3 * 1024 + r.val, by have h : t.val < 48 := t.isLt.trans_eq N_0; have := r.isLt; omega⟩
/-- The column a point's block holds in its place `r`. -/
abbrev col (t : Fin cfg0.N) (r : Fin 1024) : Fin 3072 :=
  ⟨t.val % 3 * 1024 + r.val, by have := r.isLt; omega⟩

theorem iblk0_apply (c : Dev nD) (t : Fin cfg0.N) (j : S1024x2048.Idx) :
    (iblk m c 0 t : Vec Ideal S1024x2048 .f32) j = xr m c (row t (j 0)) (j 1) := by
  unfold iblk
  rw [View.read_apply]
  refine (V_x m c _).trans (congrArg₂ (xr m c) (Fin.ext ?_) (Fin.ext ?_))
  · show win0_0.index t 0 * 1024 + 1 * (j 0).val = t.val / 3 * 1024 + (j 0).val
    rw [(idx0 t).1]; omega
  · show win0_0.index t 1 * 2048 + 1 * (j 1).val = (j 1).val
    rw [(idx0 t).2]; omega

theorem iblk1_apply (c : Dev nD) (t : Fin cfg0.N) (j : S1x2048.Idx) :
    (iblk m c 1 t : Vec Ideal S1x2048 .f32) j = gr m c (j 1) := by
  unfold iblk
  rw [View.read_apply]
  refine (V_g m c _).trans (congrArg (gr m c) (Fin.ext ?_))
  show win0_1.index t 1 * 2048 + 1 * (j 1).val = (j 1).val
  rw [(idx1 t).2]; omega

theorem iblk2_apply (c : Dev nD) (t : Fin cfg0.N) (j : S2048x1024.Idx) :
    (iblk m c 2 t : Vec Ideal S2048x1024 .bf16) j = wc m c (col t (j 1)) (j 0) := by
  unfold iblk
  rw [View.read_apply]
  refine (V_w m c _).trans (congrArg₂ (wc m c) (Fin.ext ?_) (Fin.ext ?_))
  · show win0_2.index t 1 * 1024 + 1 * (j 1).val = t.val % 3 * 1024 + (j 1).val
    rw [(idx2 t).2]; omega
  · show win0_2.index t 0 * 2048 + 1 * (j 0).val = (j 0).val
    rw [(idx2 t).1]; omega

/-! ## What a point leaves -/

/-- The normalised rows of a point's block. -/
abbrev hrows (c : Dev nD) (t : Fin cfg0.N) : Vec Ideal S1024x2048 .bf16 := k0_pay1 (iblk m c 0 t) (iblk m c 1 t)

/-- Within a row of blocks the normalised rows are those of the point before. -/
theorem hrows_step (c : Dev nD) (n : ℕ) (h : n + 1 < cfg0.N) (hn : ¬(n + 1) % 3 = 0) :
    hrows m c ⟨n + 1, h⟩ = hrows m c ⟨n, Nat.lt_of_succ_lt h⟩ := by
  funext j
  rw [hrows, hrows, pay1_apply, pay1_apply]
  have e : row ⟨n + 1, h⟩ (j 0) = row ⟨n, Nat.lt_of_succ_lt h⟩ (j 0) := Fin.ext (by
    show (n + 1) / 3 * 1024 + (j 0).val = n / 3 * 1024 + (j 0).val
    omega)
  refine congrArg₂ (fun a b => nrow a b (j 1)) (funext fun d => ?_) (funext fun d => ?_)
  · rw [iblk0_apply, iblk0_apply]
    exact congrArg (fun R => xr m c R d) e
  · rw [iblk1_apply, iblk1_apply]

/-- The output's buffer and the scratch after every point. -/
theorem outs_eq (c : Dev nD) : ∀ (n : ℕ) (h : n < cfg0.N),
    outsAt0 m c n h = (k0_pay2 (hrows m c ⟨n, h⟩) (iblk m c 2 ⟨n, h⟩), hrows m c ⟨n, h⟩)
  | 0, h => by rw [outsAt0_A m c ⟨0, h⟩ rfl, out_A, sout_A]
  | n + 1, h => by
    by_cases h0 : (n + 1) % 3 = 0
    · rw [outsAt0_A m c ⟨n + 1, h⟩ h0, out_A, sout_A]
    · rw [outsAt0_B m c ⟨n + 1, h⟩ h0, out_B, sout_B]
      have e : (outsAt0 m c n (Nat.lt_of_succ_lt h)).2 = hrows m c ⟨n + 1, h⟩ := by
        rw [outs_eq c n, hrows_step m c n h h0]
      show (k0_pay2 (outsAt0 m c n _).2 _, (outsAt0 m c n _).2) = _
      rw [e]

/-- What a point writes back is its block of the product. -/
theorem flushed_eq (c : Dev nD) (t : Fin cfg0.N) :
    (dats m 0 c).flushed 3 t = ((cfg0.win 3).blk t).view.read (Elt Ideal) (G m c) := by
  rw [Value.flushed3, outs_eq m c t.val t.isLt]
  funext j
  rw [View.read_apply]
  show k0_pay2 (hrows m c t) (iblk m c 2 t) j = G m c _
  have e0 : ((cfg0.win 3).blk t).view.emb j 0 = row t (j 0) := Fin.ext (by
    show win0_3.index t 0 * 1024 + 1 * (j 0).val = t.val / 3 * 1024 + (j 0).val
    rw [(idx3 t).1]; omega)
  have e1 : ((cfg0.win 3).blk t).view.emb j 1 = col t (j 1) := Fin.ext (by
    show win0_3.index t 1 * 1024 + 1 * (j 1).val = t.val % 3 * 1024 + (j 1).val
    rw [(idx3 t).2]; omega)
  rw [pay2_apply, G, e0, e1]
  refine Finset.sum_congr rfl fun k _ => congrArg₂ (fun a b : EReal => a * b) ?_ ?_
  · rw [hrows, pay1_apply]
    refine congrArg₂ (fun a b => nrow a b k) (funext fun d => ?_) (funext fun d => ?_)
    · exact iblk0_apply m c t _
    · exact iblk1_apply m c t _
  · exact iblk2_apply m c t _

/-- The result array holds the product. -/
theorem final (c : Dev nD) : (dats m 0 c).arrAt 3 cfg0.N = G m c :=
  (dats m 0 c).arrAt_eq_of_cover 3 (G m c) (fun t _ => flushed_eq m c t) (fun i => (Value.covered_iff3 i).2 (by
    have h0 : (i 0).val < 16384 := (i 0).isLt; have h1 : (i 1).val < 3072 := (i 1).isLt; omega))

/-! ## The reference -/

theorem ref_row (x0 : Vec Ideal S4x4096x2048 .f32) (x1 : Vec Ideal S1x2048 .f32) (i : S4x4096x2048.Idx) :
    val_main_v13 (F := Ideal) x0 x1 i
      = nrow (fun d => x0 (ix3 (i 0) (i 1) d)) (fun d => x1 (ix2 (0 : Fin 1) d)) (i 2) := by
  unfold nrow
  simp only [val_main_v13_apply, val_main_v12_apply, val_main_v11_apply, val_main_v0_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  refine congrArg₂ (fun a b : EReal => a * b) (congrArg₂ (fun a b : EReal => a * b) (congrArg x0 ?_)
    (congrArg (fun s : EReal => Ideal.rsqrt (Ideal.div s _ + _)) (Finset.sum_congr rfl fun d _ => ?_))) (congrArg x1 ?_)
  · funext a; match a with | ⟨0, _⟩ => rfl | ⟨1, _⟩ => rfl | ⟨2, _⟩ => rfl
  · have e : idx_main_v2 (idx_main_v3 (idx_main_v9 i)) d = ix3 (i 0) (i 1) d := by
      funext a; match a with | ⟨0, _⟩ => rfl | ⟨1, _⟩ => rfl | ⟨2, _⟩ => rfl
    rw [e]; rfl
  · funext a
    apply Fin.ext
    match a with
    | ⟨0, _⟩ => rfl
    | ⟨1, _⟩ => exact Nat.mod_eq_of_lt (i 2).isLt

/-- The reference's array is the same product. -/
theorem ref_eq (c : Dev nD) : val_main_v18 (F := Ideal) (m ((c : Thread nD τ).loc main_arg0))
    (m ((c : Thread nD τ).loc main_arg1)) (m ((c : Thread nD τ).loc main_arg2)) = G m c := by
  funext i
  have h0 : (i 0).val < 16384 := (i 0).isLt
  have h1 : (i 1).val < 3072 := (i 1).isLt
  rw [val_main_v18_apply, val_main_v17_apply, val_main_v16_apply, val_main_v15_apply, Ideal.truncf_def, G]
  refine Finset.sum_congr rfl fun k _ => ?_
  rw [ref_row, val_main_v14_apply]
  refine congrArg₂ (fun a b : EReal => a * b) (congrArg (fun x => nrow x _ k) (funext fun d => congrArg _ ?_)) (congrArg _ ?_)
  · funext a
    apply Fin.ext
    match a with
    | ⟨0, _⟩ => show ((i 0).val * 3072 + (i 1).val) / 12582912 = (i 0).val / 4096; omega
    | ⟨1, _⟩ => show ((i 0).val * 3072 + (i 1).val) / 3072 % 4096 = (i 0).val % 4096; omega
    | ⟨2, _⟩ => rfl
  · funext a
    apply Fin.ext
    match a with
    | ⟨0, _⟩ => rfl
    | ⟨1, _⟩ => show (k.val * 10240 + ((i 0).val * 3072 + (i 1).val) % 3072) / 10240 % 2048 = k.val; omega
    | ⟨2, _⟩ => show (k.val * 10240 + ((i 0).val * 3072 + (i 1).val) % 3072) % 10240 = (i 1).val; omega

end Cert.Kernel2Ideal.Hand

namespace Cert.Proof

/-- The projection of the normalised rows to queries, keys and values: kernel and reference leave one array. -/
theorem algebraic2 : Cert.algebraic_Kernel2Ideal_Reference2Ideal
    (hKernel2Ideal := Cert.Kernel2Ideal.Gen.facts) (hReference2Ideal := Cert.Reference2Ideal.Gen.facts) := by
  intro m ρ m' ρ' _ hagree
  refine ⟨fun c => Cert.Kernel2Ideal.Hand.G m c,
    (θ_run Cert.Kernel2Ideal.defs _ _).mono (fun r h c => ⟨(h c).1.trans (Cert.Kernel2Ideal.Hand.final m c), (h c).2⟩)
      (Cert.Kernel2Ideal.Value.run_blocks (F := Ideal) m ρ),
    (θ_run Cert.Reference2Ideal.defs _ _).mono (fun r h c => ⟨(h c).1.trans ?_, (h c).2⟩)
      (Cert.Reference2Ideal.Value.run (F := Ideal) m' ρ')⟩
  obtain ⟨e0, e1, e2⟩ := hagree c
  rw [Cert.Reference2Ideal.Read.val_main_v18_eq, e0, e1, e2]
  exact Cert.Kernel2Ideal.Hand.ref_eq m c

end Cert.Proof

end
-- ==== Proof.K3.lean ====
module

public import proofs.«01_k».proof.Defs
public import proofs.«01_k».proof.Proof.Rows
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel3Ideal.Hand

open Cert.Kernel3Ideal Cert.Kernel3Ideal.Gen Cert.Hand Cert.Reference3Ideal.Read

variable (m : (ℓ : Loc nD τ sig) → Buf (Elt Ideal) ℓ)

theorem hz : (![0, 0] : Fin 2 → Nat) = fun _ => 0 := funext fun a => by fin_cases a <;> rfl

/-- A row's first point leaves the normalised rows in the scratch. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S1024x2048) hz]
  simp only [View.readAt_eq_ld, h2.read_unread, h3.read_unread, View.ld_unit_zero (S := S1024x2048) hz,
    View.ld_unit_zero (S := S1x2048) hz]

/-- ... and in the output's buffer their product with the weights' block. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1024x1024) hz]
  simp only [View.readAt_eq_ld, h2.read_unread, h3.read_unread, h4.read_unread, View.ld_unit_zero (S := S1024x2048) hz,
    View.ld_unit_zero (S := S1x2048) hz, View.ld_unit_zero (S := S2048x1024) hz]
  rw [View.readCov_unit_zero (S := S1024x2048) _ hz]

/-- A later point of the row multiplies the rows the scratch holds. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero (S := S1024x1024) hz]
  simp only [View.readAt_eq_ld, h4.read_unread, h6.read_unread, View.ld_unit_zero (S := S1024x2048) hz,
    View.ld_unit_zero (S := S2048x1024) hz]

/-- ... and leaves the scratch. -/
theorem sout_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .f32) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    sout0_B_0 c i a2 h2 a3 h3 a4 h4 a5 h5 a6 h6 hc x0 x1 x2 xs = xs := rfl

/-- The normalised rows, at an index. -/
theorem pay1_apply (x : Vec Ideal S1024x2048 .f32) (g : Vec Ideal S1x2048 .f32) (j : S1024x2048.Idx) :
    k0_pay1 x g j = nrow (fun d => x (ix2 (j 0) d)) (fun d => g (ix2 0 d)) (j 1) := by
  unfold k0_pay1 nrow
  simp only [shapeCast_self]
  pointwise

/-- The product, at an index. -/
theorem pay2_apply (h : Vec Ideal S1024x2048 .bf16) (w : Vec Ideal S2048x1024 .bf16) (j : S1024x1024.Idx) :
    k0_pay2 h w j = ∑ k : Fin 2048, h (ix2 (j 0) k) * w (ix2 k (j 1)) := by
  unfold k0_pay2
  simp only [shapeCast_self]
  pointwise

/-! ## The arrays as rows and columns -/

/-- Row `R` of the input, as numbers. -/
def xr (c : Dev nD) (R : Fin 16384) (d : Fin 2048) : EReal :=
  (m ((c : Thread nD τ).loc main_arg0) : Vec Ideal S4x4096x2048 .f32) (ix3 (⟨R.val / 4096, by omega⟩ : Fin 4) (⟨R.val % 4096, Nat.mod_lt _ (by decide)⟩ : Fin 4096) d)

/-- The gain. -/
def gr (c : Dev nD) (d : Fin 2048) : EReal := (m ((c : Thread nD τ).loc main_arg1) : Vec Ideal S1x2048 .f32) (ix2 (0 : Fin 1) d)

/-- Column `C` of the weights. -/
def wc (c : Dev nD) (C : Fin 7168) (k : Fin 2048) : EReal :=
  (m ((c : Thread nD τ).loc main_arg2) : Vec Ideal S1x2048x10240 .f32) (ix3 (0 : Fin 1) k (⟨if C.val < 4096 then 6144 + C.val else C.val - 1024, by split <;> omega⟩ : Fin 10240))

/-- The product of the normalised rows with the weights. -/
def G (c : Dev nD) (i : S16384x7168.Idx) : EReal := ∑ k : Fin 2048, nrow (xr m c (i 0)) (gr m c) k * wc m c (i 1) k

theorem V_x (c : Dev nD) (i : S16384x2048.Idx) : (V m c main_v4 : Vec Ideal S16384x2048 .f32) i = xr m c (i 0) (i 1) := by
  have e : (V m c main_v4 : Vec Ideal S16384x2048 .f32)
      = shapeCast S16384x2048 (m ((c : Thread nD τ).loc main_arg0) : Vec Ideal S4x4096x2048 .f32)
          shapeCasts_S4x4096x2048_S16384x2048 := by
    unfold V
    after_results <;> rfl
  rw [e]
  exact flat_apply _ _ i

theorem V_g (c : Dev nD) (i : S1x2048.Idx) : (V m c main_v7 : Vec Ideal S1x2048 .f32) i = gr m c (i 1) := by
  have e : (V m c main_v7 : Vec Ideal S1x2048 .f32)
      = shapeCast S1x2048 (shapeCast S2048 (m ((c : Thread nD τ).loc main_arg1) : Vec Ideal S1x2048 .f32)
          shapeCasts_S1x2048_S2048) shapeCasts_S2048_S1x2048 := by
    unfold V
    after_results <;> rfl
  rw [e]
  refine (gain_apply _ _ _ i).trans (congrArg _ ?_)
  funext a
  match a with
  | ⟨0, _⟩ => exact Subsingleton.elim (α := Fin 1) _ _
  | ⟨1, _⟩ => rfl

theorem V_w (c : Dev nD) (i : S2048x7168.Idx) : (V m c main_v6 : Vec Ideal S2048x7168 .bf16) i = wc m c (i 1) (i 0) := by
  have h1 : (i 1).val < 7168 := (i 1).isLt
  have e : @Eq (S2048x7168.Idx → EReal) (V m c main_v6)
      (concatenate S2048x7168 1
        [⟨S2048x4096, extractStridedSlice S2048x4096 ![0, 6144] (shapeCast S2048x10240
          (m ((c : Thread nD τ).loc main_arg2) : Vec Ideal S1x2048x10240 .f32) shapeCasts_S1x2048x10240_S2048x10240)
          slices_S2048x10240_S2048x4096_0_6144⟩,
         ⟨S2048x3072, extractStridedSlice S2048x3072 ![0, 3072] (shapeCast S2048x10240
          (m ((c : Thread nD τ).loc main_arg2) : Vec Ideal S1x2048x10240 .f32) shapeCasts_S1x2048x10240_S2048x10240)
          slices_S2048x10240_S2048x3072_0_3072⟩]
        concatenates_S2048x4096_S2048x3072_S2048x7168_d1) := by
    unfold V
    after_results <;> rfl
  rw [e]
  refine (concatenate_pair_apply (t := S2048x7168) 1 _ _ _ i).trans ?_
  unfold wc
  split
  · rename_i hlt
    replace hlt : (i 1).val < 4096 := hlt
    refine (lead_apply _ _ _).trans (congrArg _ ?_)
    funext a
    apply Fin.ext
    match a with
    | ⟨0, _⟩ => rfl
    | ⟨1, _⟩ => exact Nat.zero_add _
    | ⟨2, _⟩ => exact (if_pos hlt).symm
  · rename_i hlt
    replace hlt : ¬(i 1).val < 4096 := hlt
    refine (lead_apply _ _ _).trans (congrArg _ ?_)
    funext a
    apply Fin.ext
    match a with
    | ⟨0, _⟩ => rfl
    | ⟨1, _⟩ => exact Nat.zero_add _
    | ⟨2, _⟩ =>
      show 3072 + ((i 1).val - 4096) = if (i 1).val < 4096 then 6144 + (i 1).val else (i 1).val - 1024
      rw [if_neg hlt]; omega

/-! ## The windows' blocks -/

theorem idx0 : ∀ t : Fin cfg0.N, win0_0.index t 0 = t.val / 7 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 7 := by decide +kernel
theorem idx3 : ∀ t : Fin cfg0.N, win0_3.index t 0 = t.val / 7 ∧ win0_3.index t 1 = t.val % 7 := by decide +kernel

/-- The row a point's block holds in its place `r`. -/
abbrev row (t : Fin cfg0.N) (r : Fin 1024) : Fin 16384 :=
  ⟨t.val / 7 * 1024 + r.val, by have h : t.val < 112 := t.isLt.trans_eq N_0; have := r.isLt; omega⟩
/-- The column a point's block holds in its place `r`. -/
abbrev col (t : Fin cfg0.N) (r : Fin 1024) : Fin 7168 :=
  ⟨t.val % 7 * 1024 + r.val, by have := r.isLt; omega⟩

theorem iblk0_apply (c : Dev nD) (t : Fin cfg0.N) (j : S1024x2048.Idx) :
    (iblk m c 0 t : Vec Ideal S1024x2048 .f32) j = xr m c (row t (j 0)) (j 1) := by
  unfold iblk
  rw [View.read_apply]
  refine (V_x m c _).trans (congrArg₂ (xr m c) (Fin.ext ?_) (Fin.ext ?_))
  · show win0_0.index t 0 * 1024 + 1 * (j 0).val = t.val / 7 * 1024 + (j 0).val
    rw [(idx0 t).1]; omega
  · show win0_0.index t 1 * 2048 + 1 * (j 1).val = (j 1).val
    rw [(idx0 t).2]; omega

theorem iblk1_apply (c : Dev nD) (t : Fin cfg0.N) (j : S1x2048.Idx) :
    (iblk m c 1 t : Vec Ideal S1x2048 .f32) j = gr m c (j 1) := by
  unfold iblk
  rw [View.read_apply]
  refine (V_g m c _).trans (congrArg (gr m c) (Fin.ext ?_))
  show win0_1.index t 1 * 2048 + 1 * (j 1).val = (j 1).val
  rw [(idx1 t).2]; omega

theorem iblk2_apply (c : Dev nD) (t : Fin cfg0.N) (j : S2048x1024.Idx) :
    (iblk m c 2 t : Vec Ideal S2048x1024 .bf16) j = wc m c (col t (j 1)) (j 0) := by
  unfold iblk
  rw [View.read_apply]
  refine (V_w m c _).trans (congrArg₂ (wc m c) (Fin.ext ?_) (Fin.ext ?_))
  · show win0_2.index t 1 * 1024 + 1 * (j 1).val = t.val % 7 * 1024 + (j 1).val
    rw [(idx2 t).2]; omega
  · show win0_2.index t 0 * 2048 + 1 * (j 0).val = (j 0).val
    rw [(idx2 t).1]; omega

/-! ## What a point leaves -/

/-- The normalised rows of a point's block. -/
abbrev hrows (c : Dev nD) (t : Fin cfg0.N) : Vec Ideal S1024x2048 .bf16 := k0_pay1 (iblk m c 0 t) (iblk m c 1 t)

/-- Within a row of blocks the normalised rows are those of the point before. -/
theorem hrows_step (c : Dev nD) (n : ℕ) (h : n + 1 < cfg0.N) (hn : ¬(n + 1) % 7 = 0) :
    hrows m c ⟨n + 1, h⟩ = hrows m c ⟨n, Nat.lt_of_succ_lt h⟩ := by
  funext j
  rw [hrows, hrows, pay1_apply, pay1_apply]
  have e : row ⟨n + 1, h⟩ (j 0) = row ⟨n, Nat.lt_of_succ_lt h⟩ (j 0) := Fin.ext (by
    show (n + 1) / 7 * 1024 + (j 0).val = n / 7 * 1024 + (j 0).val
    omega)
  refine congrArg₂ (fun a b => nrow a b (j 1)) (funext fun d => ?_) (funext fun d => ?_)
  · rw [iblk0_apply, iblk0_apply]
    exact congrArg (fun R => xr m c R d) e
  · rw [iblk1_apply, iblk1_apply]

/-- The output's buffer and the scratch after every point. -/
theorem outs_eq (c : Dev nD) : ∀ (n : ℕ) (h : n < cfg0.N),
    outsAt0 m c n h = (k0_pay2 (hrows m c ⟨n, h⟩) (iblk m c 2 ⟨n, h⟩), hrows m c ⟨n, h⟩)
  | 0, h => by rw [outsAt0_A m c ⟨0, h⟩ rfl, out_A, sout_A]
  | n + 1, h => by
    by_cases h0 : (n + 1) % 7 = 0
    · rw [outsAt0_A m c ⟨n + 1, h⟩ h0, out_A, sout_A]
    · rw [outsAt0_B m c ⟨n + 1, h⟩ h0, out_B, sout_B]
      have e : (outsAt0 m c n (Nat.lt_of_succ_lt h)).2 = hrows m c ⟨n + 1, h⟩ := by
        rw [outs_eq c n, hrows_step m c n h h0]
      show (k0_pay2 (outsAt0 m c n _).2 _, (outsAt0 m c n _).2) = _
      rw [e]

/-- What a point writes back is its block of the product. -/
theorem flushed_eq (c : Dev nD) (t : Fin cfg0.N) :
    (dats m 0 c).flushed 3 t = ((cfg0.win 3).blk t).view.read (Elt Ideal) (G m c) := by
  rw [Value.flushed3, outs_eq m c t.val t.isLt]
  funext j
  rw [View.read_apply]
  show k0_pay2 (hrows m c t) (iblk m c 2 t) j = G m c _
  have e0 : ((cfg0.win 3).blk t).view.emb j 0 = row t (j 0) := Fin.ext (by
    show win0_3.index t 0 * 1024 + 1 * (j 0).val = t.val / 7 * 1024 + (j 0).val
    rw [(idx3 t).1]; omega)
  have e1 : ((cfg0.win 3).blk t).view.emb j 1 = col t (j 1) := Fin.ext (by
    show win0_3.index t 1 * 1024 + 1 * (j 1).val = t.val % 7 * 1024 + (j 1).val
    rw [(idx3 t).2]; omega)
  rw [pay2_apply, G, e0, e1]
  refine Finset.sum_congr rfl fun k _ => congrArg₂ (fun a b : EReal => a * b) ?_ ?_
  · rw [hrows, pay1_apply]
    refine congrArg₂ (fun a b => nrow a b k) (funext fun d => ?_) (funext fun d => ?_)
    · exact iblk0_apply m c t _
    · exact iblk1_apply m c t _
  · exact iblk2_apply m c t _

/-- The result array holds the product. -/
theorem final (c : Dev nD) : (dats m 0 c).arrAt 3 cfg0.N = G m c :=
  (dats m 0 c).arrAt_eq_of_cover 3 (G m c) (fun t _ => flushed_eq m c t) (fun i => (Value.covered_iff3 i).2 (by
    have h0 : (i 0).val < 16384 := (i 0).isLt; have h1 : (i 1).val < 7168 := (i 1).isLt; omega))

/-! ## The reference -/

theorem ref_row (x0 : Vec Ideal S4x4096x2048 .f32) (x1 : Vec Ideal S1x2048 .f32) (i : S4x4096x2048.Idx) :
    val_main_v13 (F := Ideal) x0 x1 i
      = nrow (fun d => x0 (ix3 (i 0) (i 1) d)) (fun d => x1 (ix2 (0 : Fin 1) d)) (i 2) := by
  unfold nrow
  simp only [val_main_v13_apply, val_main_v12_apply, val_main_v11_apply, val_main_v0_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  refine congrArg₂ (fun a b : EReal => a * b) (congrArg₂ (fun a b : EReal => a * b) (congrArg x0 ?_)
    (congrArg (fun s : EReal => Ideal.rsqrt (Ideal.div s _ + _)) (Finset.sum_congr rfl fun d _ => ?_))) (congrArg x1 ?_)
  · funext a; match a with | ⟨0, _⟩ => rfl | ⟨1, _⟩ => rfl | ⟨2, _⟩ => rfl
  · have e : idx_main_v2 (idx_main_v3 (idx_main_v9 i)) d = ix3 (i 0) (i 1) d := by
      funext a; match a with | ⟨0, _⟩ => rfl | ⟨1, _⟩ => rfl | ⟨2, _⟩ => rfl
    rw [e]; rfl
  · funext a
    apply Fin.ext
    match a with
    | ⟨0, _⟩ => rfl
    | ⟨1, _⟩ => exact Nat.mod_eq_of_lt (i 2).isLt

/-- The reference's array is the same product. -/
theorem ref_eq (c : Dev nD) : val_main_v19 (F := Ideal) (m ((c : Thread nD τ).loc main_arg0))
    (m ((c : Thread nD τ).loc main_arg1)) (m ((c : Thread nD τ).loc main_arg2)) = G m c := by
  funext i
  have h0 : (i 0).val < 16384 := (i 0).isLt
  have h1 : (i 1).val < 7168 := (i 1).isLt
  have hr : ∀ a : Cert.Reference3Ideal.S4x4096x10240.Idx, (a 0).val = (i 0).val / 4096 → (a 1).val = (i 0).val % 4096 →
      (a 2).val = (if (i 1).val < 4096 then 6144 + (i 1).val else (i 1).val - 1024) →
      val_main_v15 (F := Ideal) (m ((c : Thread nD τ).loc main_arg0)) (m ((c : Thread nD τ).loc main_arg1))
        (m ((c : Thread nD τ).loc main_arg2)) a = G m c i := by
    intro a e0 e1 e2
    have a2 : (a 2).val < 10240 := (a 2).isLt
    rw [val_main_v15_apply, G]
    refine Finset.sum_congr rfl fun k _ => ?_
    rw [ref_row, val_main_v14_apply]
    refine congrArg₂ (fun a b : EReal => a * b) (congrArg (fun x => nrow x _ k) (funext fun d => congrArg _ ?_)) (congrArg _ ?_)
    · funext b
      apply Fin.ext
      match b with
      | ⟨0, _⟩ => exact e0
      | ⟨1, _⟩ => exact e1
      | ⟨2, _⟩ => rfl
    · funext b
      apply Fin.ext
      match b with
      | ⟨0, _⟩ => rfl
      | ⟨1, _⟩ => show (k.val * 10240 + (a 2).val) / 10240 % 2048 = k.val; omega
      | ⟨2, _⟩ => exact (by omega : (k.val * 10240 + (a 2).val) % 10240 = (a 2).val).trans e2
  rw [val_main_v19_apply]
  unfold val_main_v18
  refine (concatenate_pair_apply (t := Cert.Reference3Ideal.S4x4096x7168) 2 _ _ _ (idx_main_v19 i)).trans ?_
  have r0 : (idx_main_v19 i 0).val = (i 0).val / 4096 := by
    show ((i 0).val * 7168 + (i 1).val) / 29360128 = (i 0).val / 4096; omega
  have r1 : (idx_main_v19 i 1).val = (i 0).val % 4096 := by
    show ((i 0).val * 7168 + (i 1).val) / 7168 % 4096 = (i 0).val % 4096; omega
  have r2 : (idx_main_v19 i 2).val = (i 1).val := by
    show ((i 0).val * 7168 + (i 1).val) % 7168 = (i 1).val; omega
  split
  · rename_i hlt
    replace hlt : (i 1).val < 4096 := by rw [← r2]; exact hlt
    rw [val_main_v17_apply]
    refine hr _ ?_ ?_ ?_
    · exact r0
    · exact r1
    · rw [if_pos hlt, ← r2]; rfl
  · rename_i hlt
    replace hlt : ¬(i 1).val < 4096 := by rw [← r2]; exact hlt
    rw [val_main_v16_apply]
    refine hr _ ?_ ?_ ?_
    · exact r0
    · exact r1
    · rw [if_neg hlt, ← r2]
      show 3072 + ((idx_main_v19 i 2).val - 4096) = _
      omega

end Cert.Kernel3Ideal.Hand

namespace Cert.Proof

/-- The projection of the normalised rows to the branches and the gates: kernel and reference leave one array. -/
theorem algebraic3 : Cert.algebraic_Kernel3Ideal_Reference3Ideal
    (hKernel3Ideal := Cert.Kernel3Ideal.Gen.facts) (hReference3Ideal := Cert.Reference3Ideal.Gen.facts) := by
  intro m ρ m' ρ' _ hagree
  refine ⟨fun c => Cert.Kernel3Ideal.Hand.G m c,
    (θ_run Cert.Kernel3Ideal.defs _ _).mono (fun r h c => ⟨(h c).1.trans (Cert.Kernel3Ideal.Hand.final m c), (h c).2⟩)
      (Cert.Kernel3Ideal.Value.run_blocks (F := Ideal) m ρ),
    (θ_run Cert.Reference3Ideal.defs _ _).mono (fun r h c => ⟨(h c).1.trans ?_, (h c).2⟩)
      (Cert.Reference3Ideal.Value.run (F := Ideal) m' ρ')⟩
  obtain ⟨e0, e1, e2⟩ := hagree c
  rw [Cert.Reference3Ideal.Read.val_main_v19_eq, e0, e1, e2]
  exact Cert.Kernel3Ideal.Hand.ref_eq m c

end Cert.Proof

end
-- ==== Proof.K4.lean ====
module

public import proofs.«01_k».proof.Defs
public import proofs.«01_k».proof.Proof.Rows
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel4Ideal.Hand

open Cert.Kernel4Ideal Cert.Kernel4Ideal.Gen Cert.Hand Cert.Reference4Ideal.Read

variable (m : (ℓ : Loc nD τ sig) → Buf (Elt Ideal) ℓ)

theorem hz : (![0, 0] : Fin 2 → Nat) = fun _ => 0 := funext fun a => by fin_cases a <;> rfl

/-- A row's first point leaves the normalised rows in the scratch. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S1024x2048) hz]
  simp only [View.readAt_eq_ld, h2.read_unread, h3.read_unread, View.ld_unit_zero (S := S1024x2048) hz,
    View.ld_unit_zero (S := S1x2048) hz]

/-- ... and in the output's buffer their product with the weights' block. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1024x1024) hz]
  simp only [View.readAt_eq_ld, h2.read_unread, h3.read_unread, h4.read_unread, View.ld_unit_zero (S := S1024x2048) hz,
    View.ld_unit_zero (S := S1x2048) hz, View.ld_unit_zero (S := S2048x1024) hz]
  rw [View.readCov_unit_zero (S := S1024x2048) _ hz]

/-- A later point of the row multiplies the rows the scratch holds. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero (S := S1024x1024) hz]
  simp only [View.readAt_eq_ld, h4.read_unread, h6.read_unread, View.ld_unit_zero (S := S1024x2048) hz,
    View.ld_unit_zero (S := S2048x1024) hz]

/-- ... and leaves the scratch. -/
theorem sout_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    sout0_B_0 c i a2 h2 a3 h3 a4 h4 a5 h5 a6 h6 hc x0 x1 x2 xs = xs := rfl

/-- The normalised rows, at an index. -/
theorem pay1_apply (x : Vec Ideal S1024x2048 .f32) (g : Vec Ideal S1x2048 .f32) (j : S1024x2048.Idx) :
    k0_pay1 x g j = nrow (fun d => x (ix2 (j 0) d)) (fun d => g (ix2 0 d)) (j 1) := by
  unfold k0_pay1 nrow
  simp only [shapeCast_self]
  pointwise

/-- The product, at an index. -/
theorem pay2_apply (h : Vec Ideal S1024x2048 .bf16) (w : Vec Ideal S2048x1024 .bf16) (j : S1024x1024.Idx) :
    k0_pay2 h w j = ∑ k : Fin 2048, h (ix2 (j 0) k) * w (ix2 k (j 1)) := by
  unfold k0_pay2
  simp only [shapeCast_self]
  pointwise

/-! ## The arrays as rows and columns -/

/-- Row `R` of the input, as numbers. -/
def xr (c : Dev nD) (R : Fin 16384) (d : Fin 2048) : EReal :=
  (m ((c : Thread nD τ).loc main_arg0) : Vec Ideal S16384x2048 .f32) (ix2 R d)

/-- The gain. -/
def gr (c : Dev nD) (d : Fin 2048) : EReal := (m ((c : Thread nD τ).loc main_arg1) : Vec Ideal S1x2048 .f32) (ix2 (0 : Fin 1) d)

/-- Column `C` of the weights. -/
def wc (c : Dev nD) (C : Fin 2048) (k : Fin 2048) : EReal :=
  (m ((c : Thread nD τ).loc main_arg2) : Vec Ideal S1x2048x2048 .f32) (ix3 (0 : Fin 1) k C)

/-- The product of the normalised rows with the weights. -/
def G (c : Dev nD) (i : S16384x2048.Idx) : EReal := ∑ k : Fin 2048, nrow (xr m c (i 0)) (gr m c) k * wc m c (i 1) k

theorem V_x (c : Dev nD) (i : S16384x2048.Idx) : (V m c main_arg0 : Vec Ideal S16384x2048 .f32) i = xr m c (i 0) (i 1) := by
  rw [V_main_arg0]
  refine congrArg (m ((c : Thread nD τ).loc main_arg0) : Vec Ideal S16384x2048 .f32) ?_
  funext a
  match a with
  | ⟨0, _⟩ => rfl
  | ⟨1, _⟩ => rfl

theorem V_g (c : Dev nD) (i : S1x2048.Idx) : (V m c main_v3 : Vec Ideal S1x2048 .f32) i = gr m c (i 1) := by
  have e : (V m c main_v3 : Vec Ideal S1x2048 .f32)
      = shapeCast S1x2048 (shapeCast S2048 (m ((c : Thread nD τ).loc main_arg1) : Vec Ideal S1x2048 .f32)
          shapeCasts_S1x2048_S2048) shapeCasts_S2048_S1x2048 := by
    unfold V
    after_results <;> rfl
  rw [e]
  refine (gain_apply _ _ _ i).trans (congrArg _ ?_)
  funext a
  match a with
  | ⟨0, _⟩ => exact Subsingleton.elim (α := Fin 1) _ _
  | ⟨1, _⟩ => rfl

theorem V_w (c : Dev nD) (i : S2048x2048.Idx) : (V m c main_v2 : Vec Ideal S2048x2048 .bf16) i = wc m c (i 1) (i 0) := by
  have e : @Eq (FVec Ideal S2048x2048 .bf16) (V m c main_v2)
      (truncf .bf16 (shapeCast S2048x2048 (m ((c : Thread nD τ).loc main_arg2) : Vec Ideal S1x2048x2048 .f32)
          shapeCasts_S1x2048x2048_S2048x2048 : FVec Ideal S2048x2048 .f32) bitsLt_bf16_f32) := by
    unfold V
    after_results <;> rfl
  rw [e]
  refine (lead_apply _ _ _).trans (congrArg _ ?_)
  funext a
  match a with
  | ⟨0, _⟩ => rfl
  | ⟨1, _⟩ => rfl
  | ⟨2, _⟩ => rfl

/-! ## The windows' blocks -/

theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 2 := by decide +kernel
theorem idx3 : ∀ t : Fin cfg0.N, win0_3.index t 0 = t.val / 2 ∧ win0_3.index t 1 = t.val % 2 := by decide +kernel

/-- The row a point's block holds in its place `r`. -/
abbrev row (t : Fin cfg0.N) (r : Fin 1024) : Fin 16384 :=
  ⟨t.val / 2 * 1024 + r.val, by have h : t.val < 32 := t.isLt.trans_eq N_0; have := r.isLt; omega⟩
/-- The column a point's block holds in its place `r`. -/
abbrev col (t : Fin cfg0.N) (r : Fin 1024) : Fin 2048 :=
  ⟨t.val % 2 * 1024 + r.val, by have := r.isLt; omega⟩

theorem iblk0_apply (c : Dev nD) (t : Fin cfg0.N) (j : S1024x2048.Idx) :
    (iblk m c 0 t : Vec Ideal S1024x2048 .f32) j = xr m c (row t (j 0)) (j 1) := by
  unfold iblk
  rw [View.read_apply]
  refine (V_x m c _).trans (congrArg₂ (xr m c) (Fin.ext ?_) (Fin.ext ?_))
  · show win0_0.index t 0 * 1024 + 1 * (j 0).val = t.val / 2 * 1024 + (j 0).val
    rw [(idx0 t).1]; omega
  · show win0_0.index t 1 * 2048 + 1 * (j 1).val = (j 1).val
    rw [(idx0 t).2]; omega

theorem iblk1_apply (c : Dev nD) (t : Fin cfg0.N) (j : S1x2048.Idx) :
    (iblk m c 1 t : Vec Ideal S1x2048 .f32) j = gr m c (j 1) := by
  unfold iblk
  rw [View.read_apply]
  refine (V_g m c _).trans (congrArg (gr m c) (Fin.ext ?_))
  show win0_1.index t 1 * 2048 + 1 * (j 1).val = (j 1).val
  rw [(idx1 t).2]; omega

theorem iblk2_apply (c : Dev nD) (t : Fin cfg0.N) (j : S2048x1024.Idx) :
    (iblk m c 2 t : Vec Ideal S2048x1024 .bf16) j = wc m c (col t (j 1)) (j 0) := by
  unfold iblk
  rw [View.read_apply]
  refine (V_w m c _).trans (congrArg₂ (wc m c) (Fin.ext ?_) (Fin.ext ?_))
  · show win0_2.index t 1 * 1024 + 1 * (j 1).val = t.val % 2 * 1024 + (j 1).val
    rw [(idx2 t).2]; omega
  · show win0_2.index t 0 * 2048 + 1 * (j 0).val = (j 0).val
    rw [(idx2 t).1]; omega

/-! ## What a point leaves -/

/-- The normalised rows of a point's block. -/
abbrev hrows (c : Dev nD) (t : Fin cfg0.N) : Vec Ideal S1024x2048 .bf16 := k0_pay1 (iblk m c 0 t) (iblk m c 1 t)

/-- Within a row of blocks the normalised rows are those of the point before. -/
theorem hrows_step (c : Dev nD) (n : ℕ) (h : n + 1 < cfg0.N) (hn : ¬(n + 1) % 2 = 0) :
    hrows m c ⟨n + 1, h⟩ = hrows m c ⟨n, Nat.lt_of_succ_lt h⟩ := by
  funext j
  rw [hrows, hrows, pay1_apply, pay1_apply]
  have e : row ⟨n + 1, h⟩ (j 0) = row ⟨n, Nat.lt_of_succ_lt h⟩ (j 0) := Fin.ext (by
    show (n + 1) / 2 * 1024 + (j 0).val = n / 2 * 1024 + (j 0).val
    omega)
  refine congrArg₂ (fun a b => nrow a b (j 1)) (funext fun d => ?_) (funext fun d => ?_)
  · rw [iblk0_apply, iblk0_apply]
    exact congrArg (fun R => xr m c R d) e
  · rw [iblk1_apply, iblk1_apply]

/-- The output's buffer and the scratch after every point. -/
theorem outs_eq (c : Dev nD) : ∀ (n : ℕ) (h : n < cfg0.N),
    outsAt0 m c n h = (k0_pay2 (hrows m c ⟨n, h⟩) (iblk m c 2 ⟨n, h⟩), hrows m c ⟨n, h⟩)
  | 0, h => by rw [outsAt0_A m c ⟨0, h⟩ rfl, out_A, sout_A]
  | n + 1, h => by
    by_cases h0 : (n + 1) % 2 = 0
    · rw [outsAt0_A m c ⟨n + 1, h⟩ h0, out_A, sout_A]
    · rw [outsAt0_B m c ⟨n + 1, h⟩ h0, out_B, sout_B]
      have e : (outsAt0 m c n (Nat.lt_of_succ_lt h)).2 = hrows m c ⟨n + 1, h⟩ := by
        rw [outs_eq c n, hrows_step m c n h h0]
      show (k0_pay2 (outsAt0 m c n _).2 _, (outsAt0 m c n _).2) = _
      rw [e]

/-- What a point writes back is its block of the product. -/
theorem flushed_eq (c : Dev nD) (t : Fin cfg0.N) :
    (dats m 0 c).flushed 3 t = ((cfg0.win 3).blk t).view.read (Elt Ideal) (G m c) := by
  rw [Value.flushed3, outs_eq m c t.val t.isLt]
  funext j
  rw [View.read_apply]
  show k0_pay2 (hrows m c t) (iblk m c 2 t) j = G m c _
  have e0 : ((cfg0.win 3).blk t).view.emb j 0 = row t (j 0) := Fin.ext (by
    show win0_3.index t 0 * 1024 + 1 * (j 0).val = t.val / 2 * 1024 + (j 0).val
    rw [(idx3 t).1]; omega)
  have e1 : ((cfg0.win 3).blk t).view.emb j 1 = col t (j 1) := Fin.ext (by
    show win0_3.index t 1 * 1024 + 1 * (j 1).val = t.val % 2 * 1024 + (j 1).val
    rw [(idx3 t).2]; omega)
  rw [pay2_apply, G, e0, e1]
  refine Finset.sum_congr rfl fun k _ => congrArg₂ (fun a b : EReal => a * b) ?_ ?_
  · rw [hrows, pay1_apply]
    refine congrArg₂ (fun a b => nrow a b k) (funext fun d => ?_) (funext fun d => ?_)
    · exact iblk0_apply m c t _
    · exact iblk1_apply m c t _
  · exact iblk2_apply m c t _

/-- The result array holds the product. -/
theorem final (c : Dev nD) : (dats m 0 c).arrAt 3 cfg0.N = G m c :=
  (dats m 0 c).arrAt_eq_of_cover 3 (G m c) (fun t _ => flushed_eq m c t) (fun i => (Value.covered_iff3 i).2 (by
    have h0 : (i 0).val < 16384 := (i 0).isLt; have h1 : (i 1).val < 2048 := (i 1).isLt; omega))

/-! ## The reference -/

theorem ref_row (x0 : Vec Ideal S16384x2048 .f32) (x1 : Vec Ideal S1x2048 .f32) (i : S16384x2048.Idx) :
    val_main_v13 (F := Ideal) x0 x1 i
      = nrow (fun d => x0 (ix2 (i 0) d)) (fun d => x1 (ix2 (0 : Fin 1) d)) (i 1) := by
  unfold nrow
  simp only [val_main_v13_apply, val_main_v12_apply, val_main_v11_apply, val_main_v0_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  refine congrArg₂ (fun a b : EReal => a * b) (congrArg₂ (fun a b : EReal => a * b) (congrArg x0 ?_)
    (congrArg (fun s : EReal => Ideal.rsqrt (Ideal.div s _ + _)) (Finset.sum_congr rfl fun d _ => ?_))) (congrArg x1 ?_)
  · funext a; match a with | ⟨0, _⟩ => rfl | ⟨1, _⟩ => rfl
  · have e : idx_main_v2 (idx_main_v3 (idx_main_v9 i)) d = ix2 (i 0) d := by
      funext a; match a with | ⟨0, _⟩ => rfl | ⟨1, _⟩ => rfl
    rw [e]; rfl
  · funext a
    apply Fin.ext
    match a with
    | ⟨0, _⟩ => rfl
    | ⟨1, _⟩ => exact Nat.mod_eq_of_lt (i 1).isLt

/-- The reference's array is the same product. -/
theorem ref_eq (c : Dev nD) : val_main_v16 (F := Ideal) (m ((c : Thread nD τ).loc main_arg0))
    (m ((c : Thread nD τ).loc main_arg1)) (m ((c : Thread nD τ).loc main_arg2)) = G m c := by
  funext i
  have h0 : (i 0).val < 16384 := (i 0).isLt
  have h1 : (i 1).val < 2048 := (i 1).isLt
  rw [val_main_v16_apply, val_main_v15_apply, Ideal.truncf_def, G]
  refine Finset.sum_congr rfl fun k _ => ?_
  rw [ref_row, val_main_v14_apply]
  refine congrArg₂ (fun a b : EReal => a * b) rfl (congrArg _ ?_)
  funext a
  apply Fin.ext
  match a with
  | ⟨0, _⟩ => rfl
  | ⟨1, _⟩ => show (k.val * 2048 + (i 1).val) / 2048 % 2048 = k.val; omega
  | ⟨2, _⟩ => show (k.val * 2048 + (i 1).val) % 2048 = (i 1).val; omega

end Cert.Kernel4Ideal.Hand

namespace Cert.Proof

/-- The projection of the normalised rows to the cross attention's queries: kernel and reference leave one array. -/
theorem algebraic4 : Cert.algebraic_Kernel4Ideal_Reference4Ideal
    (hKernel4Ideal := Cert.Kernel4Ideal.Gen.facts) (hReference4Ideal := Cert.Reference4Ideal.Gen.facts) := by
  intro m ρ m' ρ' _ hagree
  refine ⟨fun c => Cert.Kernel4Ideal.Hand.G m c,
    (θ_run Cert.Kernel4Ideal.defs _ _).mono (fun r h c => ⟨(h c).1.trans (Cert.Kernel4Ideal.Hand.final m c), (h c).2⟩)
      (Cert.Kernel4Ideal.Value.run_blocks (F := Ideal) m ρ),
    (θ_run Cert.Reference4Ideal.defs _ _).mono (fun r h c => ⟨(h c).1.trans ?_, (h c).2⟩)
      (Cert.Reference4Ideal.Value.run (F := Ideal) m' ρ')⟩
  obtain ⟨e0, e1, e2⟩ := hagree c
  rw [Cert.Reference4Ideal.Read.val_main_v16_eq, e0, e1, e2]
  exact Cert.Kernel4Ideal.Hand.ref_eq m c

end Cert.Proof

end
-- ==== Proof.K5.lean ====
module

public import proofs.«01_k».proof.Defs
public import proofs.«01_k».proof.Proof.Rows
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel5Ideal.Hand

open Cert.Kernel5Ideal Cert.Kernel5Ideal.Gen Cert.Hand Cert.Reference5Ideal.Read

variable (m : (ℓ : Loc nD τ sig) → Buf (Elt Ideal) ℓ)

theorem hz : (![0, 0] : Fin 2 → Nat) = fun _ => 0 := funext fun a => by fin_cases a <;> rfl

/-- A row's first point leaves the normalised rows in the scratch. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S1024x2048) hz]
  simp only [View.readAt_eq_ld, h2.read_unread, h3.read_unread, View.ld_unit_zero (S := S1024x2048) hz,
    View.ld_unit_zero (S := S1x2048) hz]

/-- ... and in the output's buffer their product with the weights' block. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : cond0_0 i) (x0 : Vec Ideal S1024x2048 .f32) (x1 : Vec Ideal S1x2048 .f32) (x2 : Vec Ideal S2048x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1024x1024) hz]
  simp only [View.readAt_eq_ld, h2.read_unread, h3.read_unread, h4.read_unread, View.ld_unit_zero (S := S1024x2048) hz,
    View.ld_unit_zero (S := S1x2048) hz, View.ld_unit_zero (S := S2048x1024) hz]
  rw [View.readCov_unit_zero (S := S1024x2048) _ hz]

/-- A later point of the row multiplies the rows the scratch holds. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero (S := S1024x1024) hz]
  simp only [View.readAt_eq_ld, h4.read_unread, h6.read_unread, View.ld_unit_zero (S := S1024x2048) hz,
    View.ld_unit_zero (S := S2048x1024) hz]

/-- ... and leaves the scratch. -/
theorem sout_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S1024x2048 .bf16) (h6 : a6.IsWhole)
    (hc : ¬cond0_0 i) (x0 : Vec Ideal S1024x2048 .f32) (x1 : Vec Ideal S1x2048 .f32) (x2 : Vec Ideal S2048x1024 .bf16)
    (xs : Vec Ideal S1024x2048 .bf16) :
    sout0_B_0 c i a2 h2 a3 h3 a4 h4 a5 h5 a6 h6 hc x0 x1 x2 xs = xs := rfl

/-- The normalised rows, at an index. -/
theorem pay1_apply (x : Vec Ideal S1024x2048 .f32) (g : Vec Ideal S1x2048 .f32) (j : S1024x2048.Idx) :
    k0_pay1 x g j = nrow (fun d => x (ix2 (j 0) d)) (fun d => g (ix2 0 d)) (j 1) := by
  unfold k0_pay1 nrow
  simp only [shapeCast_self]
  pointwise

/-- The product, at an index. -/
theorem pay2_apply (h : Vec Ideal S1024x2048 .bf16) (w : Vec Ideal S2048x1024 .bf16) (j : S1024x1024.Idx) :
    k0_pay2 h w j = ∑ k : Fin 2048, h (ix2 (j 0) k) * w (ix2 k (j 1)) := by
  unfold k0_pay2
  simp only [shapeCast_self]
  pointwise

/-! ## The arrays as rows and columns -/

/-- Row `R` of the input, as numbers. -/
def xr (c : Dev nD) (R : Fin 1024) (d : Fin 2048) : EReal :=
  (m ((c : Thread nD τ).loc main_arg0) : Vec Ideal S4x256x2048 .f32) (ix3 (⟨R.val / 256, by omega⟩ : Fin 4) (⟨R.val % 256, Nat.mod_lt _ (by decide)⟩ : Fin 256) d)

/-- The gain. -/
def gr (c : Dev nD) (d : Fin 2048) : EReal := (m ((c : Thread nD τ).loc main_arg1) : Vec Ideal S1x2048 .f32) (ix2 (0 : Fin 1) d)

/-- Column `C` of the weights. -/
def wc (c : Dev nD) (C : Fin 2048) (k : Fin 2048) : EReal :=
  (m ((c : Thread nD τ).loc main_arg2) : Vec Ideal S1x2048x2048 .f32) (ix3 (0 : Fin 1) k C)

/-- The product of the normalised rows with the weights. -/
def G (c : Dev nD) (i : S1024x2048.Idx) : EReal := ∑ k : Fin 2048, nrow (xr m c (i 0)) (gr m c) k * wc m c (i 1) k

theorem V_x (c : Dev nD) (i : S1024x2048.Idx) : (V m c main_v0 : Vec Ideal S1024x2048 .f32) i = xr m c (i 0) (i 1) := by
  have e : (V m c main_v0 : Vec Ideal S1024x2048 .f32)
      = shapeCast S1024x2048 (m ((c : Thread nD τ).loc main_arg0) : Vec Ideal S4x256x2048 .f32)
          shapeCasts_S4x256x2048_S1024x2048 := by
    unfold V
    after_results <;> rfl
  rw [e]
  exact flat256_apply _ _ i

theorem V_g (c : Dev nD) (i : S1x2048.Idx) : (V m c main_v4 : Vec Ideal S1x2048 .f32) i = gr m c (i 1) := by
  have e : (V m c main_v4 : Vec Ideal S1x2048 .f32)
      = shapeCast S1x2048 (shapeCast S2048 (m ((c : Thread nD τ).loc main_arg1) : Vec Ideal S1x2048 .f32)
          shapeCasts_S1x2048_S2048) shapeCasts_S2048_S1x2048 := by
    unfold V
    after_results <;> rfl
  rw [e]
  refine (gain_apply _ _ _ i).trans (congrArg _ ?_)
  funext a
  match a with
  | ⟨0, _⟩ => exact Subsingleton.elim (α := Fin 1) _ _
  | ⟨1, _⟩ => rfl

theorem V_w (c : Dev nD) (i : S2048x2048.Idx) : (V m c main_v3 : Vec Ideal S2048x2048 .bf16) i = wc m c (i 1) (i 0) := by
  have e : @Eq (FVec Ideal S2048x2048 .bf16) (V m c main_v3)
      (truncf .bf16 (shapeCast S2048x2048 (m ((c : Thread nD τ).loc main_arg2) : Vec Ideal S1x2048x2048 .f32)
          shapeCasts_S1x2048x2048_S2048x2048 : FVec Ideal S2048x2048 .f32) bitsLt_bf16_f32) := by
    unfold V
    after_results <;> rfl
  rw [e]
  refine (lead_apply _ _ _).trans (congrArg _ ?_)
  funext a
  match a with
  | ⟨0, _⟩ => rfl
  | ⟨1, _⟩ => rfl
  | ⟨2, _⟩ => rfl

/-! ## The windows' blocks -/

theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 2 := by decide +kernel
theorem idx3 : ∀ t : Fin cfg0.N, win0_3.index t 0 = t.val / 2 ∧ win0_3.index t 1 = t.val % 2 := by decide +kernel

/-- The row a point's block holds in its place `r`. -/
abbrev row (t : Fin cfg0.N) (r : Fin 1024) : Fin 1024 :=
  ⟨t.val / 2 * 1024 + r.val, by have h : t.val < 2 := t.isLt.trans_eq N_0; have := r.isLt; omega⟩
/-- The column a point's block holds in its place `r`. -/
abbrev col (t : Fin cfg0.N) (r : Fin 1024) : Fin 2048 :=
  ⟨t.val % 2 * 1024 + r.val, by have := r.isLt; omega⟩

theorem iblk0_apply (c : Dev nD) (t : Fin cfg0.N) (j : S1024x2048.Idx) :
    (iblk m c 0 t : Vec Ideal S1024x2048 .f32) j = xr m c (row t (j 0)) (j 1) := by
  unfold iblk
  rw [View.read_apply]
  refine (V_x m c _).trans (congrArg₂ (xr m c) (Fin.ext ?_) (Fin.ext ?_))
  · show win0_0.index t 0 * 1024 + 1 * (j 0).val = t.val / 2 * 1024 + (j 0).val
    rw [(idx0 t).1]; omega
  · show win0_0.index t 1 * 2048 + 1 * (j 1).val = (j 1).val
    rw [(idx0 t).2]; omega

theorem iblk1_apply (c : Dev nD) (t : Fin cfg0.N) (j : S1x2048.Idx) :
    (iblk m c 1 t : Vec Ideal S1x2048 .f32) j = gr m c (j 1) := by
  unfold iblk
  rw [View.read_apply]
  refine (V_g m c _).trans (congrArg (gr m c) (Fin.ext ?_))
  show win0_1.index t 1 * 2048 + 1 * (j 1).val = (j 1).val
  rw [(idx1 t).2]; omega

theorem iblk2_apply (c : Dev nD) (t : Fin cfg0.N) (j : S2048x1024.Idx) :
    (iblk m c 2 t : Vec Ideal S2048x1024 .bf16) j = wc m c (col t (j 1)) (j 0) := by
  unfold iblk
  rw [View.read_apply]
  refine (V_w m c _).trans (congrArg₂ (wc m c) (Fin.ext ?_) (Fin.ext ?_))
  · show win0_2.index t 1 * 1024 + 1 * (j 1).val = t.val % 2 * 1024 + (j 1).val
    rw [(idx2 t).2]; omega
  · show win0_2.index t 0 * 2048 + 1 * (j 0).val = (j 0).val
    rw [(idx2 t).1]; omega

/-! ## What a point leaves -/

/-- The normalised rows of a point's block. -/
abbrev hrows (c : Dev nD) (t : Fin cfg0.N) : Vec Ideal S1024x2048 .bf16 := k0_pay1 (iblk m c 0 t) (iblk m c 1 t)

/-- Within a row of blocks the normalised rows are those of the point before. -/
theorem hrows_step (c : Dev nD) (n : ℕ) (h : n + 1 < cfg0.N) (hn : ¬(n + 1) % 2 = 0) :
    hrows m c ⟨n + 1, h⟩ = hrows m c ⟨n, Nat.lt_of_succ_lt h⟩ := by
  funext j
  rw [hrows, hrows, pay1_apply, pay1_apply]
  have e : row ⟨n + 1, h⟩ (j 0) = row ⟨n, Nat.lt_of_succ_lt h⟩ (j 0) := Fin.ext (by
    show (n + 1) / 2 * 1024 + (j 0).val = n / 2 * 1024 + (j 0).val
    omega)
  refine congrArg₂ (fun a b => nrow a b (j 1)) (funext fun d => ?_) (funext fun d => ?_)
  · rw [iblk0_apply, iblk0_apply]
    exact congrArg (fun R => xr m c R d) e
  · rw [iblk1_apply, iblk1_apply]

/-- The output's buffer and the scratch after every point. -/
theorem outs_eq (c : Dev nD) : ∀ (n : ℕ) (h : n < cfg0.N),
    outsAt0 m c n h = (k0_pay2 (hrows m c ⟨n, h⟩) (iblk m c 2 ⟨n, h⟩), hrows m c ⟨n, h⟩)
  | 0, h => by rw [outsAt0_A m c ⟨0, h⟩ rfl, out_A, sout_A]
  | n + 1, h => by
    by_cases h0 : (n + 1) % 2 = 0
    · rw [outsAt0_A m c ⟨n + 1, h⟩ h0, out_A, sout_A]
    · rw [outsAt0_B m c ⟨n + 1, h⟩ h0, out_B, sout_B]
      have e : (outsAt0 m c n (Nat.lt_of_succ_lt h)).2 = hrows m c ⟨n + 1, h⟩ := by
        rw [outs_eq c n, hrows_step m c n h h0]
      show (k0_pay2 (outsAt0 m c n _).2 _, (outsAt0 m c n _).2) = _
      rw [e]

/-- What a point writes back is its block of the product. -/
theorem flushed_eq (c : Dev nD) (t : Fin cfg0.N) :
    (dats m 0 c).flushed 3 t = ((cfg0.win 3).blk t).view.read (Elt Ideal) (G m c) := by
  rw [Value.flushed3, outs_eq m c t.val t.isLt]
  funext j
  rw [View.read_apply]
  show k0_pay2 (hrows m c t) (iblk m c 2 t) j = G m c _
  have e0 : ((cfg0.win 3).blk t).view.emb j 0 = row t (j 0) := Fin.ext (by
    show win0_3.index t 0 * 1024 + 1 * (j 0).val = t.val / 2 * 1024 + (j 0).val
    rw [(idx3 t).1]; omega)
  have e1 : ((cfg0.win 3).blk t).view.emb j 1 = col t (j 1) := Fin.ext (by
    show win0_3.index t 1 * 1024 + 1 * (j 1).val = t.val % 2 * 1024 + (j 1).val
    rw [(idx3 t).2]; omega)
  rw [pay2_apply, G, e0, e1]
  refine Finset.sum_congr rfl fun k _ => congrArg₂ (fun a b : EReal => a * b) ?_ ?_
  · rw [hrows, pay1_apply]
    refine congrArg₂ (fun a b => nrow a b k) (funext fun d => ?_) (funext fun d => ?_)
    · exact iblk0_apply m c t _
    · exact iblk1_apply m c t _
  · exact iblk2_apply m c t _

/-- The result array holds the product. -/
theorem final (c : Dev nD) : (dats m 0 c).arrAt 3 cfg0.N = G m c :=
  (dats m 0 c).arrAt_eq_of_cover 3 (G m c) (fun t _ => flushed_eq m c t) (fun i => (Value.covered_iff3 i).2 (by
    have h0 : (i 0).val < 1024 := (i 0).isLt; have h1 : (i 1).val < 2048 := (i 1).isLt; omega))

/-! ## The reference -/

theorem ref_row (x0 : Vec Ideal S4x256x2048 .f32) (x1 : Vec Ideal S1x2048 .f32) (i : S4x256x2048.Idx) :
    val_main_v13 (F := Ideal) x0 x1 i
      = nrow (fun d => x0 (ix3 (i 0) (i 1) d)) (fun d => x1 (ix2 (0 : Fin 1) d)) (i 2) := by
  unfold nrow
  simp only [val_main_v13_apply, val_main_v12_apply, val_main_v11_apply, val_main_v0_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  refine congrArg₂ (fun a b : EReal => a * b) (congrArg₂ (fun a b : EReal => a * b) (congrArg x0 ?_)
    (congrArg (fun s : EReal => Ideal.rsqrt (Ideal.div s _ + _)) (Finset.sum_congr rfl fun d _ => ?_))) (congrArg x1 ?_)
  · funext a; match a with | ⟨0, _⟩ => rfl | ⟨1, _⟩ => rfl | ⟨2, _⟩ => rfl
  · have e : idx_main_v2 (idx_main_v3 (idx_main_v9 i)) d = ix3 (i 0) (i 1) d := by
      funext a; match a with | ⟨0, _⟩ => rfl | ⟨1, _⟩ => rfl | ⟨2, _⟩ => rfl
    rw [e]; rfl
  · funext a
    apply Fin.ext
    match a with
    | ⟨0, _⟩ => rfl
    | ⟨1, _⟩ => exact Nat.mod_eq_of_lt (i 2).isLt

/-- The reference's array is the same product. -/
theorem ref_eq (c : Dev nD) : val_main_v17 (F := Ideal) (m ((c : Thread nD τ).loc main_arg0))
    (m ((c : Thread nD τ).loc main_arg1)) (m ((c : Thread nD τ).loc main_arg2)) = G m c := by
  funext i
  have h0 : (i 0).val < 1024 := (i 0).isLt
  have h1 : (i 1).val < 2048 := (i 1).isLt
  rw [val_main_v17_apply, val_main_v16_apply, val_main_v15_apply, Ideal.truncf_def, G]
  refine Finset.sum_congr rfl fun k _ => ?_
  rw [ref_row, val_main_v14_apply]
  refine congrArg₂ (fun a b : EReal => a * b) (congrArg (fun x => nrow x _ k) (funext fun d => congrArg _ ?_)) (congrArg _ ?_)
  · funext a
    apply Fin.ext
    match a with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => rfl
  · funext a
    apply Fin.ext
    match a with
    | ⟨0, _⟩ => rfl
    | ⟨1, _⟩ => show (k.val * 2048 + ((i 0).val * 2048 + (i 1).val) % 2048) / 2048 % 2048 = k.val; omega
    | ⟨2, _⟩ => show (k.val * 2048 + ((i 0).val * 2048 + (i 1).val) % 2048) % 2048 = (i 1).val; omega

end Cert.Kernel5Ideal.Hand

namespace Cert.Proof

/-- The projection of the normalised memory rows to the cross attention's keys: kernel and reference leave one array. -/
theorem algebraic5 : Cert.algebraic_Kernel5Ideal_Reference5Ideal
    (hKernel5Ideal := Cert.Kernel5Ideal.Gen.facts) (hReference5Ideal := Cert.Reference5Ideal.Gen.facts) := by
  intro m ρ m' ρ' _ hagree
  refine ⟨fun c => Cert.Kernel5Ideal.Hand.G m c,
    (θ_run Cert.Kernel5Ideal.defs _ _).mono (fun r h c => ⟨(h c).1.trans (Cert.Kernel5Ideal.Hand.final m c), (h c).2⟩)
      (Cert.Kernel5Ideal.Value.run_blocks (F := Ideal) m ρ),
    (θ_run Cert.Reference5Ideal.defs _ _).mono (fun r h c => ⟨(h c).1.trans ?_, (h c).2⟩)
      (Cert.Reference5Ideal.Value.run (F := Ideal) m' ρ')⟩
  obtain ⟨e0, e1, e2⟩ := hagree c
  rw [Cert.Reference5Ideal.Read.val_main_v17_eq, e0, e1, e2]
  exact Cert.Kernel5Ideal.Hand.ref_eq m c

end Cert.Proof

end
-- ==== Proof.F6.lean ====
module

public import proofs.«01_k».proof.Proof.Gen.Kernel6Ideal.Frame
public import proofs.«01_k».proof.Proof.Gen.Kernel6Ideal.Skeleton
public import Idealize.ShloMosaic.Lib.WritesUnit
public import Idealize.ShloMosaic.Lib.Pipeline.FrameBody
public import Idealize.ShloMosaic.Lib.Pipeline.Value
public import Idealize.ShloMosaic.Lib.Pipeline.ValueKit.Tiles
public import Idealize.ShloMosaic.Lib.Ring
public import Idealize.ShloMosaic.Lib.Tactic
public import Idealize.ShloMosaic.Lib.WordCmp
public import Idealize.ShloMosaic.Lib.Claim
public import Idealize.ShloMosaic.Adequacy
public import Idealize.ShloMosaic.Init

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A buffer that one store has covered holds what was stored. -/
theorem read_one {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  funext fun y => View.read_writes_cons_unit_of_mem v f inb w [] y y h fun a => (Nat.zero_add _).symm

/-- The branch is taken at the first of a row's two points. -/
theorem first_iff : ∀ t : Fin cfg0.N, k0_cond1 (grid0.coords t) = 1#1 ↔ t.val % 2 = 0 := by decide +kernel

set_option maxHeartbeats 4000000 in
/-- The body at a row's first point: it leaves the normalised rows in the scratch, their transpose in the second result's
    buffer and their product with the weights' block in the first one's. -/
theorem body_first (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S2048x1024 .bf16) (h6 : a6.IsWhole)
    (a7 : Memref sig .tc .vmem S1024x2048 .bf16) (h7 : a7.IsWhole) (hc : k0_cond1 i = 1#1)
    (x0 : Vec F S1024x2048 .f32) (x1 : Vec F S1x2048 .f32) (x2 : Vec F S2048x1024 .bf16) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay4 (k0_pay2 x0 x1) x2) ∗ owns (c : Thread nD τ) a6 fullShare (k0_pay3 x0 x1)
            ∗ owns (c : Thread nD τ) a7 fullShare (k0_pay2 x0 x1)) -∗ K ⟨⟩))
      ⊢ wp frame (wpE (defs₀ (F := F)) Variants.none c none) E (cc0_norm_matmul i a2 h2 a3 h3 a4 h4 a5 h5 a6 h6 a7 h7) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_one _ _ hz _ _).trans ?_
    sl_unfold_words
    simp only [View.readAt_eq_ld, h2.read_unread, h3.read_unread, h4.read_unread, View.ld_unit_zero (S := S1024x2048) hz,
      View.ld_unit_zero (S := S1x2048) hz, View.ld_unit_zero (S := S2048x1024) hz]
    rw [View.readCov_unit_zero (S := S1024x2048) _ hz]
  isplitl [H4]
  · iexists _; isplitr
    swap; · iexact H4
    ipureintro
    refine (read_one _ _ hz _ _).trans ?_
    simp only [View.readAt_eq_ld, h2.read_unread, h3.read_unread, View.ld_unit_zero (S := S1024x2048) hz,
      View.ld_unit_zero (S := S1x2048) hz]
  iexists _; isplitr
  swap; · iexact HS
  ipureintro
  refine (read_one _ _ hz _ _).trans ?_
  simp only [View.readAt_eq_ld, h2.read_unread, h3.read_unread, View.ld_unit_zero (S := S1024x2048) hz,
    View.ld_unit_zero (S := S1x2048) hz]

set_option maxHeartbeats 4000000 in
/-- The body at a row's second point: it multiplies the rows the scratch holds with the weights' block and leaves the
    scratch and the second result's buffer as they were. -/
theorem body_second (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1024x1024 .bf16) (h5 : a5.IsWhole) (a6 : Memref sig .tc .vmem S2048x1024 .bf16) (h6 : a6.IsWhole)
    (a7 : Memref sig .tc .vmem S1024x2048 .bf16) (h7 : a7.IsWhole) (hc : ¬k0_cond1 i = 1#1)
    (x2 : Vec F S2048x1024 .bf16) (xs : Vec F S1024x2048 .bf16) (E : Set ℕ) (K : PUnit → sProp 𝕄) :
    iprop(owns (c : Thread nD τ) a4 fullShare x2 ∗ (∃ d, owns (c : Thread nD τ) a5 fullShare d) ∗ owns (c : Thread nD τ) a7 fullShare xs
        ∗ (iprop(owns (c : Thread nD τ) a4 fullShare x2 ∗ owns (c : Thread nD τ) a5 fullShare (k0_pay4 xs x2)
            ∗ owns (c : Thread nD τ) a7 fullShare xs) -∗ K ⟨⟩))
      ⊢ wp frame (wpE (defs₀ (F := F)) Variants.none c none) E (cc0_norm_matmul i a2 h2 a3 h3 a4 h4 a5 h5 a6 h6 a7 h7) K := by
  simp only [cc0_norm_matmul_eq_skeleton]; unfold cc0_norm_matmul_skel
  unfold owns
  iintro ⟨⟨%f2, %hf2, H2⟩, ⟨%d3, %f3, -, H3⟩, ⟨%fs, %hfs, HS⟩, Hk⟩
  obtain rfl := h4.eq_unread hf2; obtain rfl := h7.eq_unread hfs
  sl_exec (disch := first | sl_exact hc)
  sl_step
  iapply Hk
  isplitl [H2]
  · iexists _; isplitr; · ipureintro; exact h4.read_unread _
    iexact H2
  isplitl [H3]
  · iexists _; isplitr
    swap; · iexact H3
    ipureintro
    refine (read_one _ _ hz _ _).trans ?_
    simp only [View.readAt_eq_ld, h4.read_unread, h7.read_unread, View.ld_unit_zero (S := S1024x2048) hz,
      View.ld_unit_zero (S := S2048x1024) hz]
  iexists _; isplitr; · ipureintro; exact h7.read_unread _
  iexact HS

/-! ## The proof data -/

/-- The first of the two points that point `t`'s row takes. -/
def ev (t : Fin cfg0.N) : Fin cfg0.N := ⟨t.val / 2 * 2, lt_of_le_of_lt (Nat.div_mul_le_self _ _) t.isLt⟩

theorem ev_even (t : Fin cfg0.N) (h : t.val % 2 = 0) : ev t = t := Fin.ext (show t.val / 2 * 2 = t.val by omega)

theorem ev_pred (t : Fin cfg0.N) (h : ¬t.val % 2 = 0) (k : Fin cfg0.N) (hk : k.val = t.val - 1) : ev k = ev t :=
  Fin.ext (show k.val / 2 * 2 = t.val / 2 * 2 by omega)

/-- The point before `t`. -/
abbrev prv (t : Fin cfg0.N) : Fin cfg0.N := ⟨t.val - 1, Nat.lt_of_le_of_lt (Nat.sub_le _ _) t.isLt⟩

/-- The normalised rows of point `t`, as the scratch holds them after it. -/
def rows (c : Dev nD) (t : Fin cfg0.N) : Vec F S1024x2048 .bf16 := k0_pay2 (iblk m c 0 (ev t)) (iblk m c 1 (ev t))

/-- Their transpose, as the second result's buffer holds it after point `t`. -/
def rowsT (c : Dev nD) (t : Fin cfg0.N) : Vec F S2048x1024 .bf16 := k0_pay3 (iblk m c 0 (ev t)) (iblk m c 1 (ev t))

/-- Their product with the weights' block. -/
def prod (c : Dev nD) (t : Fin cfg0.N) : Vec F S1024x1024 .bf16 := k0_pay4 (rows m c t) (iblk m c 2 t)

/-- The scratch as a memref. -/
abbrev scr : Memref sig .tc .vmem S1024x2048 .bf16 := Memref.whole cc0_scratch0

/-- The launch's invariant with the scratch owned as a memref. -/
theorem PhiA_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-- Between points: before the first one the launch's invariant; later the scratch at the rows of the point before. -/
def Inv (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem Inv_pos (c : Dev nD) (n : ℕ) (h : n ≤ cfg0.N) (hz : n ≠ 0) :
    Inv m c n h = iprop(iprop(owns (c : Thread nD τ) scr fullShare (rows m c ⟨n - 1, by omega⟩)) ∗ (∃ r, prngReg c r)) := by
  cases n with
  | zero => exact absurd rfl hz
  | succ n => rfl

/-- The invariant at any moment gives the launch's: what the scratch holds is forgotten. -/
theorem Inv_any (c : Dev nD) (n : ℕ) (h : n ≤ cfg0.N) : Inv m c n h ⊢ Pipeline.ΦA spec0 c := by
  by_cases hz : n = 0
  · subst hz; exact .rfl
  · rw [Inv_pos m c n h hz, PhiA_eq]
    iintro ⟨HS, Hg⟩
    isplitl [HS]
    · iexists _; iexact HS
    iexact Hg

/-- The proof data: the arrays as the region finds them; after each point every input's buffer at its block and the
    results' at the product and at the transposed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => rowsT m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prod m c t := by dsimp only [dats]
theorem after_4 (c : Dev nD) (t : Fin cfg0.N) : (dats m 0 c).after 4 t = rowsT m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The second result's window is idle exactly at a row's second point. -/
theorem idle_iff (t : Fin cfg0.N) : cfg0.idle 4 (cfg0.grid.coords t) = true ↔ ¬t.val % 2 = 0 := by
  rw [← first_iff t]
  show (!(k0_cond1 (grid0.coords t) == 1#1)) = true ↔ _
  simp

/-- At a row's second point the second result's buffer still holds what the first point left in it. -/
theorem before_4 (c : Dev nD) (t : Fin cfg0.N) (h : ¬t.val % 2 = 0) (d) : (dats m 0 c).before 4 t d = rowsT m c t := by
  have ht : t.val ≠ 0 := fun e => h (by rw [e])
  have hp : (t.val - 1) % 2 = 0 := by omega
  have hfl : (cfg0.win 4).flush (prv t) = false := by
    rw [← Bool.not_eq_true, flush0_4]; show ¬(t.val - 1) % 2 = 1; omega
  have hid : cfg0.idle 4 (cfg0.grid.coords (prv t)) = false := by
    rw [← Bool.not_eq_true, idle_iff]; exact fun h' => h' hp
  rw [(dats m 0 c).before_of_pos 4 t ht ((cfg0.win 4).fetch_out rfl t), hfl, if_neg Bool.false_ne_true]
  unfold Dat.left; rw [hid]
  show (dats m 0 c).kept 4 _ d = _
  unfold Dat.kept
  rw [Pipeline.fill_of_clip_none 4 _ (fun _ => rfl) d ((dats m 0 c).after 4 (prv t)), Window.fill_cut, after_4]
  unfold rowsT
  rw [ev_pred t h (prv t) rfl]

/-! ## The body at any point -/

abbrev stg0 (t : Fin cfg0.N) : Memref sig .tc .vmem S1024x2048 .f32 := win0_0.stage (cfg0.slots t 0)
abbrev stg1 (t : Fin cfg0.N) : Memref sig .tc .vmem S1x2048 .f32 := win0_1.stage (cfg0.slots t 1)
abbrev stg2 (t : Fin cfg0.N) : Memref sig .tc .vmem S2048x1024 .bf16 := win0_2.stage (cfg0.slots t 2)
abbrev stg3 (t : Fin cfg0.N) : Memref sig .tc .vmem S1024x1024 .bf16 := win0_3.stage (cfg0.slots t 3)
abbrev stg4 (t : Fin cfg0.N) : Memref sig .tc .vmem S2048x1024 .bf16 := win0_4.stage (cfg0.slots t 4)

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

set_option maxHeartbeats 3200000 in
/-- The body at any point leaves what the proof data say: by its two cases. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl, after_0, after_1, after_2, after_3, after_4,
    Inv_at m c t, show (dats m 0 c).Φ t.succ
      = iprop(iprop(owns (c : Thread nD τ) scr fullShare (rows m c t)) ∗ (∃ r, prngReg c r)) from rfl]
  by_cases h : t.val % 2 = 0
  · unfold prod rows rowsT
    rw [ev_even t h]
    refine (sep_mono (Inv_any m c t.val (Nat.le_of_lt t.isLt)) .rfl).trans ?_
    rw [PhiA_eq]
    iintro ⟨⟨HS, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · simp only [before_4 m c t h]
    rw [Inv_pos m c t.val _ (fun e => h (by rw [e]))]
    unfold prod
    rw [show rows m c (prv t) = rows m c t by unfold rows; rw [ev_pred t h (prv t) rfl]]
    iintro ⟨⟨HS, Hg⟩, Ho, ⟨%d0, H0⟩, ⟨%d1, H1⟩, ⟨%d2, H2⟩, ⟨%d3, H3⟩, ⟨%d4, H4⟩⟩
    iapply (body_second c (grid0.coords t) _ _ _ _ _ _ _ _ _ _ _ _ (fun e => h ((first_iff t).mp e)) (iblk m c 2 t) (rows m c t) Set.univ _)
    isplitl [H2]; · iexact H2
    isplitl [H3]; · iexists _; iexact H3
    isplitl [HS]; · iexact HS
    iintro ⟨H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem row (t : Fin cfg0.N) : defs₀ (F := F) .tc cfg0.body (cfg0.bodyArgs t (cfg0.slots t)) = bodyAt0 t := by
  unfold defs₀; rw [Defs.onTc_tc]

/-- The body obligation, at every point: where the second result's window is idle the point writes it back, so its buffer is
    handed back at the transposed rows there too. -/
theorem obligation (c : Dev nD) : BodyObligation (dats (F := F) m 0 c) (defs₀ (F := F)) Variants.none () Set.univ := fun t => by
  rw [bigSep_W0, bigSep_W0, row]
  refine triple_restated (body_sound m c t) rfl .rfl fun _ => ?_
  dsimp only
  by_cases h : t.val % 2 = 0
  · have hi : idle0 4 (grid0.coords t) = false := by rw [← Bool.not_eq_true]; exact fun h' => (idle_iff t).mp h' h
    rw [hi]
    exact .rfl
  · have hi : idle0 4 (grid0.coords t) = true := (idle_iff t).mpr h
    have hf : (win0 4).flush t = true := (flush0_4 t).mpr (by omega)
    rw [hi, hf]
    exact .rfl

/-! ## The run and the frame -/

-- the implicit arguments are found by unifying through plain definitions
set_option backward.isDefEq.respectTransparency.types false in
/-- The run, every semaphore counter at zero at its end. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun c => show Inv m c (Fin.last cfg0.N).val _ ⊢ _ from Inv_any m c _ _)

/-- The run: every array of the pipeline ends at what the proof data give, every other buffer as the region found it. -/
theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel6Ideal.Hand

end
-- ==== Proof.K6.lean ====
module

public import proofs.«01_k».proof.Defs
public import proofs.«01_k».proof.Proof.Rows
public import proofs.«01_k».proof.Proof.F6
public import proofs.«01_k».proof.Proof.Gen.Kernel6
public import proofs.«01_k».proof.Proof.Gen.Reference6Ideal.Run
public import proofs.«01_k».proof.Proof.Gen.Reference6Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel6Ideal.Hand

open Cert.Kernel6Ideal Cert.Kernel6Ideal.Gen Cert.Hand Cert.Reference6Ideal.Read

variable (m : (ℓ : Loc nD τ sig) → Buf (Elt Ideal) ℓ)

/-- The normalised rows, at an index. -/
theorem pay1_apply (x : Vec Ideal S1024x2048 .f32) (g : Vec Ideal S1x2048 .f32) (j : S1024x2048.Idx) :
    k0_pay1 x g j = nrow (fun d => x (ix2 (j 0) d)) (fun d => g (ix2 0 d)) (j 1) := by
  unfold k0_pay1 nrow
  simp only [shapeCast_self]
  pointwise

/-- Their transpose, at an index. -/
theorem pay3_apply (x : Vec Ideal S1024x2048 .f32) (g : Vec Ideal S1x2048 .f32) (j : S2048x1024.Idx) :
    k0_pay3 x g j = k0_pay1 x g (ix2 (j 1) (j 0)) := by
  unfold k0_pay3
  generalize k0_pay1 x g = y
  pointwise

/-- The product, at an index. -/
theorem pay4_apply (h : Vec Ideal S1024x2048 .bf16) (w : Vec Ideal S2048x1024 .bf16) (j : S1024x1024.Idx) :
    k0_pay4 h w j = ∑ k : Fin 2048, h (ix2 (j 0) k) * w (ix2 k (j 1)) := by
  unfold k0_pay4
  simp only [shapeCast_self]
  pointwise

/-! ## The arrays as rows and columns -/

/-- Row `R` of the input, as numbers. -/
def xr (c : Dev nD) (R : Fin 16384) (d : Fin 2048) : EReal :=
  (m ((c : Thread nD τ).loc main_arg0) : Vec Ideal S16384x2048 .f32) (ix2 R d)

/-- The gain. -/
def gr (c : Dev nD) (d : Fin 2048) : EReal := (m ((c : Thread nD τ).loc main_arg1) : Vec Ideal S1x2048 .f32) (ix2 (0 : Fin 1) d)

/-- Column `C` of the weights. -/
def wc (c : Dev nD) (C : Fin 2048) (k : Fin 2048) : EReal :=
  (m ((c : Thread nD τ).loc main_arg2) : Vec Ideal S1x2048x2048 .f32) (ix3 (0 : Fin 1) k C)

/-- The product of the normalised rows with the weights. -/
def G (c : Dev nD) (i : S16384x2048.Idx) : EReal := ∑ k : Fin 2048, nrow (xr m c (i 0)) (gr m c) k * wc m c (i 1) k

/-- The normalised rows, transposed. -/
def H (c : Dev nD) (i : S2048x16384.Idx) : EReal := nrow (xr m c (i 1)) (gr m c) (i 0)

theorem V_x (c : Dev nD) (i : S16384x2048.Idx) : (V m c main_arg0 : Vec Ideal S16384x2048 .f32) i = xr m c (i 0) (i 1) := by
  rw [V_main_arg0]
  refine congrArg (m ((c : Thread nD τ).loc main_arg0) : Vec Ideal S16384x2048 .f32) ?_
  funext a
  match a with
  | ⟨0, _⟩ => rfl
  | ⟨1, _⟩ => rfl

theorem V_g (c : Dev nD) (i : S1x2048.Idx) : (V m c main_v3 : Vec Ideal S1x2048 .f32) i = gr m c (i 1) := by
  have e : (V m c main_v3 : Vec Ideal S1x2048 .f32)
      = shapeCast S1x2048 (shapeCast S2048 (m ((c : Thread nD τ).loc main_arg1) : Vec Ideal S1x2048 .f32)
          shapeCasts_S1x2048_S2048) shapeCasts_S2048_S1x2048 := by
    unfold V
    after_results <;> rfl
  rw [e]
  refine (gain_apply _ _ _ i).trans (congrArg _ ?_)
  funext a
  match a with
  | ⟨0, _⟩ => exact Subsingleton.elim (α := Fin 1) _ _
  | ⟨1, _⟩ => rfl

theorem V_w (c : Dev nD) (i : S2048x2048.Idx) : (V m c main_v2 : Vec Ideal S2048x2048 .bf16) i = wc m c (i 1) (i 0) := by
  have e : @Eq (FVec Ideal S2048x2048 .bf16) (V m c main_v2)
      (truncf .bf16 (shapeCast S2048x2048 (m ((c : Thread nD τ).loc main_arg2) : Vec Ideal S1x2048x2048 .f32)
          shapeCasts_S1x2048x2048_S2048x2048 : FVec Ideal S2048x2048 .f32) bitsLt_bf16_f32) := by
    unfold V
    after_results <;> rfl
  rw [e]
  refine (lead_apply _ _ _).trans (congrArg _ ?_)
  funext a
  match a with
  | ⟨0, _⟩ => rfl
  | ⟨1, _⟩ => rfl
  | ⟨2, _⟩ => rfl

/-! ## The windows' blocks -/

theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 2 := by decide +kernel
theorem idx3 : ∀ t : Fin cfg0.N, win0_3.index t 0 = t.val / 2 ∧ win0_3.index t 1 = t.val % 2 := by decide +kernel

theorem idx4 : ∀ t : Fin cfg0.N, win0_4.index t 0 = 0 ∧ win0_4.index t 1 = t.val / 2 := by decide +kernel

/-- The row a point's block holds in its place `r`. -/
abbrev line (t : Fin cfg0.N) (r : Fin 1024) : Fin 16384 :=
  ⟨t.val / 2 * 1024 + r.val, by have h : t.val < 32 := t.isLt.trans_eq N_0; have := r.isLt; omega⟩
/-- The column a point's block holds in its place `r`. -/
abbrev col (t : Fin cfg0.N) (r : Fin 1024) : Fin 2048 :=
  ⟨t.val % 2 * 1024 + r.val, by have := r.isLt; omega⟩

theorem iblk0_apply (c : Dev nD) (t : Fin cfg0.N) (j : S1024x2048.Idx) :
    (iblk m c 0 t : Vec Ideal S1024x2048 .f32) j = xr m c (line t (j 0)) (j 1) := by
  unfold iblk
  rw [View.read_apply]
  refine (V_x m c _).trans (congrArg₂ (xr m c) (Fin.ext ?_) (Fin.ext ?_))
  · show win0_0.index t 0 * 1024 + 1 * (j 0).val = t.val / 2 * 1024 + (j 0).val
    rw [(idx0 t).1]; omega
  · show win0_0.index t 1 * 2048 + 1 * (j 1).val = (j 1).val
    rw [(idx0 t).2]; omega

theorem iblk1_apply (c : Dev nD) (t : Fin cfg0.N) (j : S1x2048.Idx) :
    (iblk m c 1 t : Vec Ideal S1x2048 .f32) j = gr m c (j 1) := by
  unfold iblk
  rw [View.read_apply]
  refine (V_g m c _).trans (congrArg (gr m c) (Fin.ext ?_))
  show win0_1.index t 1 * 2048 + 1 * (j 1).val = (j 1).val
  rw [(idx1 t).2]; omega

theorem iblk2_apply (c : Dev nD) (t : Fin cfg0.N) (j : S2048x1024.Idx) :
    (iblk m c 2 t : Vec Ideal S2048x1024 .bf16) j = wc m c (col t (j 1)) (j 0) := by
  unfold iblk
  rw [View.read_apply]
  refine (V_w m c _).trans (congrArg₂ (wc m c) (Fin.ext ?_) (Fin.ext ?_))
  · show win0_2.index t 1 * 1024 + 1 * (j 1).val = t.val % 2 * 1024 + (j 1).val
    rw [(idx2 t).2]; omega
  · show win0_2.index t 0 * 2048 + 1 * (j 0).val = (j 0).val
    rw [(idx2 t).1]; omega

/-! ## What a point leaves -/

/-- The normalised rows of a point's block. -/
theorem nrow_at (c : Dev nD) (t : Fin cfg0.N) (j : S1024x2048.Idx) :
    k0_pay1 (iblk m c 0 (ev t)) (iblk m c 1 (ev t)) j = nrow (xr m c (line t (j 0))) (gr m c) (j 1) := by
  rw [pay1_apply]
  refine congrArg₂ (fun a b => nrow a b (j 1)) (funext fun d => ?_) (funext fun d => ?_)
  · refine (iblk0_apply m c (ev t) _).trans (congrArg (fun R => xr m c R d) (Fin.ext ?_))
    show t.val / 2 * 2 / 2 * 1024 + (j 0).val = t.val / 2 * 1024 + (j 0).val
    omega
  · exact iblk1_apply m c (ev t) _

/-- What a point writes back of the first result is its block of the product. -/
theorem flushed_3 (c : Dev nD) (t : Fin cfg0.N) :
    (dats m 0 c).flushed 3 t = ((cfg0.win 3).blk t).view.read (Elt Ideal) (G m c) := by
  show (cfg0.win 3).cut (grid0.coords t) ((dats m 0 c).after 3 t) = _
  rw [after_3]
  funext j
  rw [View.read_apply]
  show k0_pay4 (rows m c t) (iblk m c 2 t) j = G m c _
  have e0 : ((cfg0.win 3).blk t).view.emb j 0 = line t (j 0) := Fin.ext (by
    show win0_3.index t 0 * 1024 + 1 * (j 0).val = t.val / 2 * 1024 + (j 0).val
    rw [(idx3 t).1]; omega)
  have e1 : ((cfg0.win 3).blk t).view.emb j 1 = col t (j 1) := Fin.ext (by
    show win0_3.index t 1 * 1024 + 1 * (j 1).val = t.val % 2 * 1024 + (j 1).val
    rw [(idx3 t).2]; omega)
  rw [pay4_apply, G, e0, e1]
  refine Finset.sum_congr rfl fun k _ => congrArg₂ (fun a b : EReal => a * b) ?_ (iblk2_apply m c t _)
  unfold rows k0_pay2
  rw [shapeCast_self]
  exact nrow_at m c t _

/-- What a point writes back of the second result is its block of the transposed rows. -/
theorem flushed_4 (c : Dev nD) (t : Fin cfg0.N) :
    (dats m 0 c).flushed 4 t = ((cfg0.win 4).blk t).view.read (Elt Ideal) (H m c) := by
  show (cfg0.win 4).cut (grid0.coords t) ((dats m 0 c).after 4 t) = _
  rw [after_4]
  funext j
  rw [View.read_apply]
  show rowsT m c t j = H m c _
  have e0 : ((cfg0.win 4).blk t).view.emb j 0 = j 0 := Fin.ext (by
    show win0_4.index t 0 * 2048 + 1 * (j 0).val = (j 0).val
    rw [(idx4 t).1]; omega)
  have e1 : ((cfg0.win 4).blk t).view.emb j 1 = line t (j 1) := Fin.ext (by
    show win0_4.index t 1 * 1024 + 1 * (j 1).val = t.val / 2 * 1024 + (j 1).val
    rw [(idx4 t).2]; omega)
  unfold rowsT
  rw [pay3_apply, H, e0, e1]
  exact nrow_at m c t _

/-- The first result's array holds the product. -/
theorem final_3 (c : Dev nD) : (dats m 0 c).arrAt 3 cfg0.N = G m c :=
  (dats m 0 c).arrAt_eq_of_cover 3 (G m c) (fun t _ => flushed_3 m c t) fun i => by
    have h0 : (i 0 : Nat) < 16384 := (i 0).isLt
    have h1 : (i 1 : Nat) < 2048 := (i 1).isLt
    have hN : cfg0.N = 32 := N_0
    refine ⟨⟨(i 0).val / 1024 * 2 + (i 1).val / 1024, by omega⟩, flush0_3 _, ?_⟩
    generalize ht : (⟨(i 0).val / 1024 * 2 + (i 1).val / 1024, _⟩ : Fin cfg0.N) = t
    have hv : t.val = (i 0).val / 1024 * 2 + (i 1).val / 1024 := by rw [← ht]
    show i ∈ ((View.whole main_v4_0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(idx3 t).1]; omega
    | ⟨1, _⟩ => show win0_3.index t 1 * 1024 ≤ (i 1 : Nat) ∧ (i 1 : Nat) < win0_3.index t 1 * 1024 + 1024
                rw [(idx3 t).2]; omega

/-- The second result's array holds the transposed rows: each row's second point writes its block. -/
theorem final_4 (c : Dev nD) : (dats m 0 c).arrAt 4 cfg0.N = H m c :=
  (dats m 0 c).arrAt_eq_of_cover 4 (H m c) (fun t _ => flushed_4 m c t) fun i => by
    have h0 : (i 0 : Nat) < 2048 := (i 0).isLt
    have h1 : (i 1 : Nat) < 16384 := (i 1).isLt
    have hN : cfg0.N = 32 := N_0
    refine ⟨⟨(i 1).val / 1024 * 2 + 1, by omega⟩, (flush0_4 _).mpr (by show ((i 1).val / 1024 * 2 + 1) % 2 = 1; omega), ?_⟩
    generalize ht : (⟨(i 1).val / 1024 * 2 + 1, _⟩ : Fin cfg0.N) = t
    have hv : t.val = (i 1).val / 1024 * 2 + 1 := by rw [← ht]
    show i ∈ ((View.whole main_v4_1).slice (win0_4.rect t)).set
    rw [View.set_slice_whole, Rect.mem_set_unit]
    intro a
    match a with
    | ⟨0, _⟩ => show win0_4.index t 0 * 2048 ≤ (i 0 : Nat) ∧ (i 0 : Nat) < win0_4.index t 0 * 2048 + 2048
                rw [(idx4 t).1]; omega
    | ⟨1, _⟩ => show win0_4.index t 1 * 1024 ≤ (i 1 : Nat) ∧ (i 1 : Nat) < win0_4.index t 1 * 1024 + 1024
                rw [(idx4 t).2]; omega

/-- The run: the two results' arrays at the product and at the transposed rows, the arguments unchanged. -/
theorem run_values (ρ : Dev nD → PrngReg) :
    θ_run defs (onTc (τ := τ) (main (F := Ideal))) ⟨m, fun _ => 0, ρ⟩ (fun r => ∀ c : Dev nD,
      r.2.mem ((c.tc : Thread nD τ).loc main_v4_0) = G m c
      ∧ r.2.mem ((c.tc : Thread nD τ).loc main_v4_1) = H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c), ((h.1 c).1 4).trans (final_4 m c), h.2 c⟩)
    (θ_run_and (run m ρ) (frame_of m ρ (dats m) (A_eq m) (run m ρ)))

/-! ## The reference -/

theorem ref_row (x0 : Vec Ideal S16384x2048 .f32) (x1 : Vec Ideal S1x2048 .f32) (i : S16384x2048.Idx) :
    val_main_v13 (F := Ideal) x0 x1 i
      = nrow (fun d => x0 (ix2 (i 0) d)) (fun d => x1 (ix2 (0 : Fin 1) d)) (i 1) := by
  unfold nrow
  simp only [val_main_v13_apply, val_main_v12_apply, val_main_v11_apply, val_main_v0_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  refine congrArg₂ (fun a b : EReal => a * b) (congrArg₂ (fun a b : EReal => a * b) (congrArg x0 ?_)
    (congrArg (fun s : EReal => Ideal.rsqrt (Ideal.div s _ + _)) (Finset.sum_congr rfl fun d _ => ?_))) (congrArg x1 ?_)
  · funext a; match a with | ⟨0, _⟩ => rfl | ⟨1, _⟩ => rfl
  · have e : idx_main_v2 (idx_main_v3 (idx_main_v9 i)) d = ix2 (i 0) d := by
      funext a; match a with | ⟨0, _⟩ => rfl | ⟨1, _⟩ => rfl
    rw [e]; rfl
  · funext a
    apply Fin.ext
    match a with
    | ⟨0, _⟩ => rfl
    | ⟨1, _⟩ => exact Nat.mod_eq_of_lt (i 1).isLt

/-- The reference's first array is the same product. -/
theorem ref_eq (c : Dev nD) : val_main_v16 (F := Ideal) (m ((c : Thread nD τ).loc main_arg0))
    (m ((c : Thread nD τ).loc main_arg1)) (m ((c : Thread nD τ).loc main_arg2)) = G m c := by
  funext i
  have h0 : (i 0).val < 16384 := (i 0).isLt
  have h1 : (i 1).val < 2048 := (i 1).isLt
  rw [val_main_v16_apply, val_main_v15_apply, Ideal.truncf_def, G]
  refine Finset.sum_congr rfl fun k _ => ?_
  rw [ref_row, val_main_v14_apply]
  refine congrArg₂ (fun a b : EReal => a * b) rfl (congrArg _ ?_)
  funext a
  apply Fin.ext
  match a with
  | ⟨0, _⟩ => rfl
  | ⟨1, _⟩ => show (k.val * 2048 + (i 1).val) / 2048 % 2048 = k.val; omega
  | ⟨2, _⟩ => show (k.val * 2048 + (i 1).val) % 2048 = (i 1).val; omega

/-- ... and its second one holds the same transposed rows. -/
theorem refT_eq (c : Dev nD) : val_main_v18 (F := Ideal) (m ((c : Thread nD τ).loc main_arg0))
    (m ((c : Thread nD τ).loc main_arg1)) = H m c := by
  funext i
  rw [val_main_v18_apply, val_main_v17_apply, Ideal.truncf_def, ref_row]
  rfl

/-! ## The call itself -/

set_option maxRecDepth 16384 in
/-- The idealized program has the call's text: the bodies are one program, -/
theorem body_eq i a2 h2 a3 h3 a4 h4 a5 h5 a6 h6 a7 h7 : Cert.Kernel6.cc0_norm_matmul (F := Bits) i a2 h2 a3 h3 a4 h4 a5 h5 a6 h6 a7 h7
    = Cert.Kernel6Ideal.cc0_norm_matmul (F := Bits) i a2 h2 a3 h3 a4 h4 a5 h5 a6 h6 a7 h7 := by
  unfold Cert.Kernel6.cc0_norm_matmul Cert.Kernel6Ideal.cc0_norm_matmul
  rfl

/-- and so are the tables of bodies. -/
theorem table_eq : Cert.Kernel6.defs₀ (F := Bits) = Cert.Kernel6Ideal.defs₀ := by
  unfold Cert.Kernel6.defs₀ Cert.Kernel6Ideal.defs₀
  refine congrArg (Defs.onTc (τ := Cert.Kernel6.τ) (sig := Cert.Kernel6.sig)) ?_
  funext a b
  match a, b with
  | 0, (t, s) => exact body_eq _ _ _ _ _ _ _ _ _ _ _ _ _

end Cert.Kernel6Ideal.Hand

namespace Cert.Proof

/-- The projection of the normalised rows to the experts' queries, with the normalised rows as a second result: kernel and
    reference leave the same two arrays. -/
theorem algebraic6 : Cert.algebraic_Kernel6Ideal_Reference6Ideal
    (hKernel6Ideal := Cert.Kernel6Ideal.Gen.facts) (hReference6Ideal := Cert.Reference6Ideal.Gen.facts) := by
  intro m ρ m' ρ' _ hagree
  refine ⟨fun c => Cert.Kernel6Ideal.Hand.G m c, fun c => Cert.Kernel6Ideal.Hand.H m c,
    Cert.Kernel6Ideal.Hand.run_values m ρ,
    (θ_run Cert.Reference6Ideal.defs _ _).mono (fun r h c => ⟨(h c).1.trans ?_, (h c).2.1.trans ?_, (h c).2.2⟩)
      (Cert.Reference6Ideal.Value.run (F := Ideal) m' ρ')⟩
  · obtain ⟨e0, e1, e2⟩ := hagree c
    rw [Cert.Reference6Ideal.Read.val_main_v16_eq, e0, e1, e2]
    exact Cert.Kernel6Ideal.Hand.ref_eq m c
  · obtain ⟨e0, e1, e2⟩ := hagree c
    rw [Cert.Reference6Ideal.Read.val_main_v18_eq, e0, e1]
    exact Cert.Kernel6Ideal.Hand.refT_eq m c

/-- The frame of the call itself, from the run shown over any values. -/
theorem frame6 : Cert.quiescent_Kernel6 (hKernel6 := Cert.Kernel6.Gen.facts) := fun m ρ _ => by
  have h := Cert.Kernel6Ideal.Hand.frame (F := Bits) m ρ
  unfold Cert.Kernel6Ideal.defs at h
  rw [← Cert.Kernel6Ideal.Hand.table_eq] at h
  exact h

end Cert.Proof

end
-- ==== Proof.K7.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel7Ideal.Hand

open Cert.Kernel7Ideal Cert.Kernel7Ideal.Gen

variable (m : (ℓ : Loc nD τ sig) → Buf (Elt Ideal) ℓ)

theorem hz : (![0, 0] : Fin 2 → Nat) = fun _ => 0 := funext fun a => by fin_cases a <;> rfl

/-- What a point leaves in the output's buffer is the body's one product, added to the residual block. -/
theorem out_eq (x0 : Vec Ideal S512x2048 .bf16) (x1 : Vec Ideal S2048x2048 .bf16) (x2 : Vec Ideal S512x2048 .f32) :
    out0_3 x0 x1 x2 = k0_pay1 x2 x0 x1 := by
  unfold out0_3
  rw [View.canon_unit_zero hz, View.ld_unit_zero (S := S512x2048) hz, View.ld_unit_zero (S := S512x2048) hz,
    View.ld_unit_zero (S := S2048x2048) hz]

/-- The body's payload at an index. -/
theorem pay_apply (r : Vec Ideal S512x2048 .f32) (a : Vec Ideal S512x2048 .bf16) (w : Vec Ideal S2048x2048 .bf16)
    (j : S512x2048.Idx) :
    k0_pay1 r a w j = r j + ∑ k : Fin 2048, a (ix2 (j 0) k) * w (ix2 k (j 1)) := by
  unfold k0_pay1
  simp only [shapeCast_self]
  pointwise

/-- The index maps, point by point: the row blocks move with the point, the weights stay. -/
theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel

/-- The rounded weights, as the host leaves them for the region. -/
theorem V_w (c : Dev nD) : (V m c main_v1 : Vec Ideal S2048x2048 .bf16)
    = Cert.Reference7Ideal.Read.val_main_v1 (F := Ideal) (m ((c : Thread nD τ).loc main_arg1)) := by
  unfold V
  after_results <;> rfl

/-- Row `512 t + r` of the arrays, as an index. -/
abbrev row (t : Fin cfg0.N) (j : S512x2048.Idx) : S16384x2048.Idx := fun a => match a with
  | ⟨0, _⟩ => ⟨t.val * 512 + (j 0).val, by
      have h : t.val < 32 := t.isLt.trans_eq N_0
      have h0 : (j 0).val < 512 := (j 0).isLt
      show t.val * 512 + (j 0).val < 16384; omega⟩
  | ⟨1, _⟩ => ⟨(j 1).val, (j 1).isLt⟩

theorem iblk0_apply (c : Dev nD) (t : Fin cfg0.N) (j : S512x2048.Idx) :
    (iblk m c 0 t : Vec Ideal S512x2048 .bf16) j = m ((c : Thread nD τ).loc main_arg0) (row t j) := by
  unfold iblk
  rw [View.read_apply]
  show V m c main_arg0 _ = _
  rw [V_main_arg0]
  congr 1
  funext a
  apply Fin.ext
  match a with
  | ⟨0, _⟩ => show win0_0.index t 0 * 512 + 1 * (j 0).val = t.val * 512 + (j 0).val; rw [(idx0 t).1]; omega
  | ⟨1, _⟩ => show win0_0.index t 1 * 2048 + 1 * (j 1).val = (j 1).val; rw [(idx0 t).2]; omega

theorem iblk2_apply (c : Dev nD) (t : Fin cfg0.N) (j : S512x2048.Idx) :
    (iblk m c 2 t : Vec Ideal S512x2048 .f32) j = m ((c : Thread nD τ).loc main_arg2) (row t j) := by
  unfold iblk
  rw [View.read_apply]
  show V m c main_arg2 _ = _
  rw [V_main_arg2]
  congr 1
  funext a
  apply Fin.ext
  match a with
  | ⟨0, _⟩ => show win0_2.index t 0 * 512 + 1 * (j 0).val = t.val * 512 + (j 0).val; rw [(idx2 t).1]; omega
  | ⟨1, _⟩ => show win0_2.index t 1 * 2048 + 1 * (j 1).val = (j 1).val; rw [(idx2 t).2]; omega

theorem iblk1_apply (c : Dev nD) (t : Fin cfg0.N) (j : S2048x2048.Idx) :
    (iblk m c 1 t : Vec Ideal S2048x2048 .bf16) j
      = Cert.Reference7Ideal.Read.val_main_v1 (F := Ideal) (m ((c : Thread nD τ).loc main_arg1)) j := by
  unfold iblk
  rw [View.read_apply]
  refine (congrFun (V_w m c) _).trans ?_
  congr 1
  funext a
  apply Fin.ext
  match a with
  | ⟨0, _⟩ => show win0_1.index t 0 * 2048 + 1 * (j 0).val = (j 0).val; rw [(idx1 t).1]; omega
  | ⟨1, _⟩ => show win0_1.index t 1 * 2048 + 1 * (j 1).val = (j 1).val; rw [(idx1 t).2]; omega

/-- The array the reference computes, of the kernel's arguments. -/
abbrev G (c : Dev nD) : S16384x2048.Idx → EReal :=
  Cert.Reference7Ideal.Read.val_main_v3 (F := Ideal) (m ((c : Thread nD τ).loc main_arg0))
    (m ((c : Thread nD τ).loc main_arg1)) (m ((c : Thread nD τ).loc main_arg2))

/-- Each point writes back its block of the reference's array. -/
theorem flushed_eq (c : Dev nD) (t : Fin cfg0.N) :
    (dats m 0 c).flushed 3 t = ((cfg0.win 3).blk t).view.read (Elt Ideal) (G m c) := by
  rw [Value.flushed3, out_eq]
  funext j
  rw [View.read_apply]
  show k0_pay1 (iblk m c 2 t) (iblk m c 0 t) (iblk m c 1 t) j = G m c _
  have e : ((cfg0.win 3).blk t).view.emb j = row t j := by
    funext a
    apply Fin.ext
    match a with
    | ⟨0, _⟩ => show win0_3.index t 0 * 512 + 1 * (j 0).val = t.val * 512 + (j 0).val; rw [(idx3 t).1]; omega
    | ⟨1, _⟩ => show win0_3.index t 1 * 2048 + 1 * (j 1).val = (j 1).val; rw [(idx3 t).2]; omega
  rw [e, pay_apply, G, Cert.Reference7Ideal.Read.val_main_v3_apply, Cert.Reference7Ideal.Read.val_main_v2_apply, iblk2_apply]
  refine congrArg₂ (fun a b : EReal => a + b) rfl (Finset.sum_congr rfl fun k _ => ?_)
  rw [iblk0_apply, iblk1_apply, Cert.Reference7Ideal.Read.val_main_v0_apply]
  refine congrArg₂ (fun a b : EReal => a * b) (congrArg _ ?_) (congrArg _ ?_)
  · funext a
    match a with
    | ⟨0, _⟩ => rfl
    | ⟨1, _⟩ => rfl
  · funext a
    match a with
    | ⟨0, _⟩ => rfl
    | ⟨1, _⟩ => rfl

/-- So the result array is the reference's. -/
theorem final (c : Dev nD) : (dats m 0 c).arrAt 3 cfg0.N = G m c :=
  (dats m 0 c).arrAt_eq_of_cover 3 (G m c) (fun t _ => flushed_eq m c t) fun i => by
    have h0 : (i 0 : Nat) < 16384 := (i 0).isLt
    have h1 : (i 1 : Nat) < 2048 := (i 1).isLt
    have hN : cfg0.N = 32 := N_0
    refine ⟨⟨(i 0).val / 512, by omega⟩, flush0_3 _, ?_⟩
    generalize ht : (⟨(i 0).val / 512, _⟩ : Fin cfg0.N) = t
    have hv : t.val = (i 0).val / 512 := by rw [← ht]
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(idx3 t).1]; omega
    | ⟨1, _⟩ => show win0_3.index t 1 * 2048 ≤ (i 1 : Nat) ∧ (i 1 : Nat) < win0_3.index t 1 * 2048 + 2048
                rw [(idx3 t).2]; omega

end Cert.Kernel7Ideal.Hand

namespace Cert.Proof

/-- The product added to the residual stream: kernel and reference leave one array. -/
theorem algebraic7 : Cert.algebraic_Kernel7Ideal_Reference7Ideal
    (hKernel7Ideal := Cert.Kernel7Ideal.Gen.facts) (hReference7Ideal := Cert.Reference7Ideal.Gen.facts) := by
  intro m ρ m' ρ' _ hagree
  refine ⟨fun c => Cert.Kernel7Ideal.Hand.G m c,
    (θ_run Cert.Kernel7Ideal.defs _ _).mono (fun r h c => ⟨(h c).1.trans (Cert.Kernel7Ideal.Hand.final m c), (h c).2⟩)
      (Cert.Kernel7Ideal.Value.run_blocks (F := Ideal) m ρ),
    (θ_run Cert.Reference7Ideal.defs _ _).mono (fun r h c => ⟨(h c).1.trans ?_, (h c).2⟩)
      (Cert.Reference7Ideal.Value.run (F := Ideal) m' ρ')⟩
  obtain ⟨e0, e1, e2⟩ := hagree c
  rw [Cert.Reference7Ideal.Read.val_main_v3_eq, e0, e1, e2]

end Cert.Proof

end
-- ==== Proof.K8.lean ====
module

public import proofs.«01_k».proof.Defs
public import proofs.«01_k».proof.Proof.Rows
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.Value
public import Idealize.ShloMosaic.Lib.Pipeline.ValueKit.Tiles
public import Idealize.ShloMosaic.Lib.Tactic
public import Idealize.ShloMosaic.Lib.KernelVsHost

@[expose] public section
noncomputable section
open Idealize.ShloMosaic Idealize.ShloMosaic.TcCoe Idealize.SL.Sem
namespace Cert.Kernel8Ideal.Hand
open Cert.Hand Cert.Kernel8Ideal Cert.Kernel8Ideal.Gen Cert.Reference8Ideal.Read

theorem hz : (![0, 0] : Fin 2 → Nat) = fun _ => 0 := funext fun a => by fin_cases a <;> rfl

/-- The row of the convolution's weights that tap `d` reads. -/
abbrev tap (x : Vec Ideal S3x1024 .f32) (d : Fin 3) : Vec Ideal S1x1024 .f32 := fun j => x (ix2 d (j 1))

theorem tap_eq (x : Vec Ideal S3x1024 .f32) (d : Fin 3) (inb : ∀ a, (![d.val, 0] : Fin 2 → Nat) a + S1x1024.size a ≤ S3x1024.size a) :
    View.ld x (Rect.unit (s := S3x1024) ![d.val, 0] S1x1024.size inb) = tap x d := by
  funext j
  refine View.ld_unit_apply_of _ _ _ _ _ _ fun a => ?_
  match a with
  | ⟨0, _⟩ => show d.val = d.val + (j 0).val; have : (j 0).val < 1 := (j 0).isLt; omega
  | ⟨1, _⟩ => exact (Nat.zero_add _).symm

/-- What one point leaves in the output's buffer: the gated sum of the two products. -/
theorem out_A (c : Dev nD) (i : grid0.Coords) (a2 : Memref sig .tc .vmem S512x1024 .bf16) (h2 : a2.IsWhole)
    (a3 : Memref sig .tc .vmem S512x1024 .f32) (h3 : a3.IsWhole)
    (a4 : Memref sig .tc .vmem S512x1024 .f32) (h4 : a4.IsWhole)
    (a5 : Memref sig .tc .vmem S512x1024 .f32) (h5 : a5.IsWhole)
    (a6 : Memref sig .tc .vmem S8x1024 .f32) (h6 : a6.IsWhole)
    (a7 : Memref sig .tc .vmem S8x1024 .f32) (h7 : a7.IsWhole)
    (a8 : Memref sig .tc .vmem S3x1024 .f32) (h8 : a8.IsWhole)
    (a9 : Memref sig .tc .vmem S1x1024 .f32) (h9 : a9.IsWhole)
    (a10 : Memref sig .tc .vmem S1024x2048 .bf16) (h10 : a10.IsWhole)
    (a11 : Memref sig .tc .vmem S1024x2048 .bf16) (h11 : a11.IsWhole)
    (a12 : Memref sig .tc .vmem S512x2048 .f32) (h12 : a12.IsWhole)
    (a13 : Memref sig .tc .vmem S512x2048 .f32) (h13 : a13.IsWhole)
    (a14 : Memref sig .tc .vmem S512x2048 .bf16) (h14 : a14.IsWhole)
    (a15 : Memref sig .tc .vmem S512x1024 .bf16) (h15 : a15.IsWhole)
    (hc : cond0_0 i) (x0 : Vec Ideal S512x1024 .bf16) (x1 : Vec Ideal S512x1024 .f32) (x2 : Vec Ideal S512x1024 .f32) (x3 : Vec Ideal S512x1024 .f32) (x4 : Vec Ideal S8x1024 .f32) (x5 : Vec Ideal S8x1024 .f32) (x6 : Vec Ideal S3x1024 .f32) (x7 : Vec Ideal S1x1024 .f32) (x8 : Vec Ideal S1024x2048 .bf16) (x9 : Vec Ideal S1024x2048 .bf16) (x10 : Vec Ideal S512x2048 .f32) (x11 : Vec Ideal S512x2048 .f32) :
    out0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11
      = k0_pay2 x0 x8 (k0_pay1 (k0_pay3 x3 x1) (k0_pay5 (BitVec.ofNat 32 (i 0).val) x3 x1 x5 x4) k0_pay6
          (k0_pay7 (BitVec.ofNat 32 (i 0).val) x3 x1 x5 x4) (k0_pay8 (BitVec.ofNat 32 (i 0).val) x5 x4)
          (tap x6 0) x7 (tap x6 1) (tap x6 2) x2) x9 x10 x11 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  unfold kernelRun0_A
  dsimp only
  sl_unfold_words
  rw [View.canon_unit_zero (S := S512x2048) hz]
  simp only [View.readAt_eq_ld, h2.read_unread, h3.read_unread, h4.read_unread, h5.read_unread, h6.read_unread, h7.read_unread,
    h8.read_unread, h9.read_unread, h10.read_unread, h11.read_unread, h12.read_unread, h13.read_unread,
    View.ld_unit_zero (S := S512x1024) hz, View.ld_unit_zero (S := S8x1024) hz, View.ld_unit_zero (S := S1x1024) hz,
    View.ld_unit_zero (S := S1024x2048) hz, View.ld_unit_zero (S := S512x2048) hz]
  rw [View.readCov_unit_zero (S := S512x1024) _ hz]
  rw [show View.ld x6 (Rect.unit (s := S3x1024) ![0, 0] S1x1024.size inb_S3x1024_S1x1024_0_0) = tap x6 0 from tap_eq x6 0 _,
    show View.ld x6 (Rect.unit (s := S3x1024) ![1, 0] S1x1024.size inb_S3x1024_S1x1024_1_0) = tap x6 1 from tap_eq x6 1 _,
    show View.ld x6 (Rect.unit (s := S3x1024) ![2, 0] S1x1024.size inb_S3x1024_S1x1024_2_0) = tap x6 2 from tap_eq x6 2 _]

/-! ## The body's arithmetic at an index -/

/-- 0 at the first block of a sequence and 1 at the others, as the word the body forms. -/
def keepw (a : BitVec 32) : BitVec 32 :=
  let d : BitVec 32 := Scalar.select (Scalar.cmpi .eq 8#32 0#32) 1#32 8#32
  let r : BitVec 32 := Scalar.remsi a d
  let neg : BitVec 1 := Scalar.andi (Scalar.xori (Scalar.cmpi .slt r 0#32) (Scalar.cmpi .slt d 0#32)) (Scalar.cmpi .ne r 0#32)
  Scalar.extui (Scalar.cmpi .ne (Scalar.select neg (Scalar.addi r d) r) 0#32)

/-- A selection by the row's number, as a case distinction. -/
theorem sel_eq (r : Fin 512) (n : Fin 512) (p q : EReal) :
    Scalar.select (IntOp.cmpi CmpIPredicate.eq (BitVec.ofNat 32 r.val) (BitVec.ofNat 32 n.val)) p q = if r.val = n.val then p else q := by
  have e : (IntOp.cmpi CmpIPredicate.eq (BitVec.ofNat 32 r.val) (BitVec.ofNat 32 n.val)) = if r.val = n.val then 1#1 else 0#1 := by
    by_cases h : r.val = n.val
    · rw [if_pos h, h]; simp [IntOp.cmpi]
    · rw [if_neg h]
      have hn : BitVec.ofNat 32 r.val ≠ BitVec.ofNat 32 n.val := fun hh => h (by
        have := congrArg BitVec.toNat hh
        simp only [BitVec.toNat_ofNat] at this
        omega)
      show BitVec.ofBool (BitVec.ofNat 32 r.val == BitVec.ofNat 32 n.val) = 0#1
      rw [beq_eq_false_iff_ne.2 hn]; rfl
  rw [e]
  by_cases h : r.val = n.val
  · rw [if_pos h, if_pos h]; rfl
  · rw [if_neg h, if_neg h]; rfl

theorem pay3_apply (p q : Vec Ideal S512x1024 .f32) (j : S512x1024.Idx) : k0_pay3 p q j = p j * q j := by
  unfold k0_pay3
  pointwise

theorem pay4_apply (a : BitVec 32) (x y : Vec Ideal S8x1024 .f32) (j : S8x1024.Idx) :
    k0_pay4 a x y j = x j * y j * (((keepw a).toInt : ℝ) : EReal) := by
  unfold k0_pay4 keepw
  pointwise

theorem pay5_apply (a : BitVec 32) (p q : Vec Ideal S512x1024 .f32) (x y : Vec Ideal S8x1024 .f32) (j : S512x1024.Idx) :
    k0_pay5 a p q x y j
      = if (j 0).val = 0 then k0_pay4 a x y (ix2 (7 : Fin 8) (j 1))
        else k0_pay3 p q (ix2 (⟨((j 0).val + 512 - 1) % 512, Nat.mod_lt _ (by decide)⟩ : Fin 512) (j 1)) := by
  unfold k0_pay5
  simp only [shapeCast_self]
  generalize k0_pay4 a x y = H
  generalize k0_pay3 p q = Z
  pointwise
  exact sel_eq (j 0) 0 _ _

theorem pay7_apply (a : BitVec 32) (p q : Vec Ideal S512x1024 .f32) (x y : Vec Ideal S8x1024 .f32) (j : S512x1024.Idx) :
    k0_pay7 a p q x y j
      = if (j 0).val = 1 then k0_pay4 a x y (ix2 (7 : Fin 8) (j 1))
        else k0_pay3 p q (ix2 (⟨((j 0).val + 512 - 2) % 512, Nat.mod_lt _ (by decide)⟩ : Fin 512) (j 1)) := by
  unfold k0_pay7
  simp only [shapeCast_self]
  generalize k0_pay4 a x y = H
  generalize k0_pay3 p q = Z
  pointwise
  exact sel_eq (j 0) 1 _ _

theorem pay8_apply (a : BitVec 32) (x y : Vec Ideal S8x1024 .f32) (j : S1x1024.Idx) :
    k0_pay8 a x y j = k0_pay4 a x y (ix2 (6 : Fin 8) (j 1)) := by
  unfold k0_pay8
  generalize k0_pay4 a x y = H
  pointwise

theorem pay1_apply (v22 v48 : Vec Ideal S512x1024 .f32) (v58 : Vec Ideal S512x1024 .f32) (v59 w0 b w1 w2 : Vec Ideal S1x1024 .f32)
    (g : Vec Ideal S512x1024 .f32) (j : S512x1024.Idx) :
    k0_pay1 v22 v48 k0_pay6 v58 v59 w0 b w1 w2 g j
      = g j * ((if (j 0).val = 0 then v59 (ix2 (0 : Fin 1) (j 1)) else v58 j) * w0 (ix2 (0 : Fin 1) (j 1)) + b (ix2 (0 : Fin 1) (j 1))
          + v48 j * w1 (ix2 (0 : Fin 1) (j 1)) + v22 j * w2 (ix2 (0 : Fin 1) (j 1))) := by
  have e : ∀ p q : EReal, Scalar.select (k0_pay6 j) p q = if (j 0).val = 0 then p else q := fun p q => by
    unfold k0_pay6
    pointwise
    exact sel_eq (j 0) 0 _ _
  unfold k0_pay1
  simp only [shapeCast_self]
  generalize k0_pay6 = M at e ⊢
  pointwise
  rw [e]

theorem pay2_apply (x0 : Vec Ideal S512x1024 .bf16) (wa : Vec Ideal S1024x2048 .bf16) (y : Vec Ideal S512x1024 .bf16)
    (wc : Vec Ideal S1024x2048 .bf16) (ga gb : Vec Ideal S512x2048 .f32) (j : S512x2048.Idx) :
    k0_pay2 x0 wa y wc ga gb j
      = Ideal.logistic (ga j) * ∑ k : Fin 1024, x0 (ix2 (j 0) k) * wa (ix2 k (j 1))
        + Ideal.logistic (gb j) * ∑ k : Fin 1024, y (ix2 (j 0) k) * wc (ix2 k (j 1)) := by
  unfold k0_pay2
  simp only [shapeCast_self]
  pointwise

/-! ## The mathematics -/

/-- What is convolved: the product of two of the branch's parts. -/
def z (B : Vec Ideal S16384x7168 .f32) (R : Fin 16384) (k : Fin 1024) : EReal :=
  (B (ix2 R (⟨6144 + k.val, by omega⟩ : Fin 7168)) : EReal) * (B (ix2 R (⟨4096 + k.val, by omega⟩ : Fin 7168)) : EReal)

/-- Its value `d` rows before, within the sequence; 0 in front of the sequence. -/
def back (B : Vec Ideal S16384x7168 .f32) (R : Fin 16384) (d : ℕ) (k : Fin 1024) : EReal :=
  if R.val % 4096 < d then 0 else z B ⟨R.val - d, by have := R.isLt; omega⟩ k

/-- The gated convolution. -/
def conv (B : Vec Ideal S16384x7168 .f32) (W : Fin 3 → Fin 1024 → EReal) (b : Fin 1024 → EReal) (R : Fin 16384) (k : Fin 1024) : EReal :=
  (B (ix2 R (⟨5120 + k.val, by omega⟩ : Fin 7168)) : EReal)
    * (back B R 2 k * W 0 k + b k + back B R 1 k * W 1 k + z B R k * W 2 k)

/-- The two branches' gated sum. -/
def merged (A : Vec Ideal S16384x1024 .bf16) (B : Vec Ideal S16384x7168 .f32) (W : Fin 3 → Fin 1024 → EReal) (b : Fin 1024 → EReal)
    (wa wc : Fin 1024 → Fin 2048 → EReal) (R : Fin 16384) (C : Fin 2048) : EReal :=
  Ideal.logistic (B (ix2 R (⟨C.val, by omega⟩ : Fin 7168)) : EReal) * ∑ k : Fin 1024, (A (ix2 R k) : EReal) * wa k C
    + Ideal.logistic (B (ix2 R (⟨2048 + C.val, by omega⟩ : Fin 7168)) : EReal) * ∑ k : Fin 1024, conv B W b R k * wc k C

variable (m : (ℓ : Loc nD τ sig) → Buf (Elt Ideal) ℓ)

abbrev aA (c : Dev nD) : Vec Ideal S16384x1024 .bf16 := m ((c : Thread nD τ).loc main_arg0)
abbrev aB (c : Dev nD) : Vec Ideal S16384x7168 .f32 := m ((c : Thread nD τ).loc main_arg1)
def aW (c : Dev nD) (d : Fin 3) (k : Fin 1024) : EReal := (m ((c : Thread nD τ).loc main_arg2) : Vec Ideal S1x3x1024 .f32) (ix3 (0 : Fin 1) d k)
def ab (c : Dev nD) (k : Fin 1024) : EReal := (m ((c : Thread nD τ).loc main_arg3) : Vec Ideal S1x1024 .f32) (ix2 (0 : Fin 1) k)
def wa (c : Dev nD) (k : Fin 1024) (C : Fin 2048) : EReal := (m ((c : Thread nD τ).loc main_arg4) : Vec Ideal S1x1024x2048 .f32) (ix3 (0 : Fin 1) k C)
def wc (c : Dev nD) (k : Fin 1024) (C : Fin 2048) : EReal := (m ((c : Thread nD τ).loc main_arg5) : Vec Ideal S1x1024x2048 .f32) (ix3 (0 : Fin 1) k C)

/-- The result, as one array. -/
def G (c : Dev nD) (i : S16384x2048.Idx) : EReal :=
  merged (aA m c) (aB m c) (aW m c) (ab m c) (wa m c) (wc m c) (i 0) (i 1)

/-! ## The arrays the call is given -/

theorem V_w (c : Dev nD) (i : S3x1024.Idx) : (V m c main_v0 : Vec Ideal S3x1024 .f32) i = aW m c (i 0) (i 1) := by
  have e : (V m c main_v0 : Vec Ideal S3x1024 .f32)
      = shapeCast S3x1024 (m ((c : Thread nD τ).loc main_arg2) : Vec Ideal S1x3x1024 .f32) shapeCasts_S1x3x1024_S3x1024 := by
    unfold V
    after_results <;> rfl
  rw [e]
  exact lead_apply _ _ i

theorem V_b (c : Dev nD) (i : S1x1024.Idx) : (V m c main_v6 : Vec Ideal S1x1024 .f32) i = ab m c (i 1) := by
  have e : (V m c main_v6 : Vec Ideal S1x1024 .f32)
      = shapeCast S1x1024 (shapeCast S1024 (m ((c : Thread nD τ).loc main_arg3) : Vec Ideal S1x1024 .f32)
          shapeCasts_S1x1024_S1024) shapeCasts_S1024_S1x1024 := by
    unfold V
    after_results <;> rfl
  rw [e, shapeCast_shapeCast]
  refine congrArg (m ((c : Thread nD τ).loc main_arg3) : Vec Ideal S1x1024 .f32) ?_
  funext a
  match a with
  | ⟨0, _⟩ => exact Subsingleton.elim (α := Fin 1) _ _
  | ⟨1, _⟩ => rfl

theorem V_wa (c : Dev nD) (i : S1024x2048.Idx) : (V m c main_v3 : Vec Ideal S1024x2048 .bf16) i = wa m c (i 0) (i 1) := by
  have e : @Eq (FVec Ideal S1024x2048 .bf16) (V m c main_v3)
      (truncf .bf16 (shapeCast S1024x2048 (m ((c : Thread nD τ).loc main_arg4) : Vec Ideal S1x1024x2048 .f32)
        shapeCasts_S1x1024x2048_S1024x2048 : FVec Ideal S1024x2048 .f32) bitsLt_bf16_f32) := by
    unfold V
    after_results <;> rfl
  rw [e]
  exact lead_apply _ _ _

theorem V_wc (c : Dev nD) (i : S1024x2048.Idx) : (V m c main_v5 : Vec Ideal S1024x2048 .bf16) i = wc m c (i 0) (i 1) := by
  have e : @Eq (FVec Ideal S1024x2048 .bf16) (V m c main_v5)
      (truncf .bf16 (shapeCast S1024x2048 (m ((c : Thread nD τ).loc main_arg5) : Vec Ideal S1x1024x2048 .f32)
        shapeCasts_S1x1024x2048_S1024x2048 : FVec Ideal S1024x2048 .f32) bitsLt_bf16_f32) := by
    unfold V
    after_results <;> rfl
  rw [e]
  exact lead_apply _ _ _

/-! ## The windows' blocks -/

theorem idx0 : ∀ t : Fin cfg0.N, win0_0.index t 0 = t.val ∧ win0_0.index t 1 = 0 := by decide +kernel
theorem idx1 : ∀ t : Fin cfg0.N, win0_1.index t 0 = t.val ∧ win0_1.index t 1 = 4 := by decide +kernel
theorem idx2 : ∀ t : Fin cfg0.N, win0_2.index t 0 = t.val ∧ win0_2.index t 1 = 5 := by decide +kernel
theorem idx3 : ∀ t : Fin cfg0.N, win0_3.index t 0 = t.val ∧ win0_3.index t 1 = 6 := by decide +kernel
theorem idx4 : ∀ t : Fin cfg0.N, win0_4.index t 0 = t.val * 64 - 1 ∧ win0_4.index t 1 = 4 := by decide +kernel
theorem idx5 : ∀ t : Fin cfg0.N, win0_5.index t 0 = t.val * 64 - 1 ∧ win0_5.index t 1 = 6 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = t.val ∧ win0_10.index t 1 = 0 := by decide +kernel
theorem idx11 : ∀ t : Fin cfg0.N, win0_11.index t 0 = t.val ∧ win0_11.index t 1 = 1 := by decide +kernel
theorem idx12 : ∀ t : Fin cfg0.N, win0_12.index t 0 = t.val ∧ win0_12.index t 1 = 0 := by decide +kernel

/-- The factor that drops the rows in front of a sequence. -/
theorem keep_eq : ∀ t : Fin cfg0.N, keepw (BitVec.ofNat 32 ((grid0.coords t) 0).val) = if t.val % 8 = 0 then 0#32 else 1#32 := by
  decide +kernel

/-- The row a point's block holds in its place `r`. -/
abbrev row (t : Fin cfg0.N) (r : Fin 512) : Fin 16384 :=
  ⟨t.val * 512 + r.val, by have h : t.val < 32 := t.isLt.trans_eq N_0; have := r.isLt; omega⟩

theorem iblk0_apply (c : Dev nD) (t : Fin cfg0.N) (j : S512x1024.Idx) :
    (iblk m c 0 t : Vec Ideal S512x1024 .bf16) j = aA m c (ix2 (row t (j 0)) (j 1)) := by
  unfold iblk
  rw [View.read_apply]
  refine congrArg (aA m c) (funext fun a => Fin.ext ?_)
  match a with
  | ⟨0, _⟩ =>
    show win0_0.index t 0 * 512 + 1 * (j 0).val = t.val * 512 + (j 0).val
    rw [(idx0 t).1]; omega
  | ⟨1, _⟩ =>
    show win0_0.index t 1 * 1024 + 1 * (j 1).val = (j 1).val
    rw [(idx0 t).2]; omega

theorem iblk1_apply (c : Dev nD) (t : Fin cfg0.N) (j : S512x1024.Idx) :
    (iblk m c 1 t : Vec Ideal S512x1024 .f32) j
      = aB m c (ix2 (row t (j 0)) (⟨4096 + (j 1).val, by have : (j 1).val < 1024 := (j 1).isLt; omega⟩ : Fin 7168)) := by
  unfold iblk
  rw [View.read_apply]
  refine congrArg (aB m c) (funext fun a => Fin.ext ?_)
  match a with
  | ⟨0, _⟩ =>
    show win0_1.index t 0 * 512 + 1 * (j 0).val = t.val * 512 + (j 0).val
    rw [(idx1 t).1]; omega
  | ⟨1, _⟩ =>
    show win0_1.index t 1 * 1024 + 1 * (j 1).val = 4096 + (j 1).val
    rw [(idx1 t).2]; omega

theorem iblk2_apply (c : Dev nD) (t : Fin cfg0.N) (j : S512x1024.Idx) :
    (iblk m c 2 t : Vec Ideal S512x1024 .f32) j
      = aB m c (ix2 (row t (j 0)) (⟨5120 + (j 1).val, by have : (j 1).val < 1024 := (j 1).isLt; omega⟩ : Fin 7168)) := by
  unfold iblk
  rw [View.read_apply]
  refine congrArg (aB m c) (funext fun a => Fin.ext ?_)
  match a with
  | ⟨0, _⟩ =>
    show win0_2.index t 0 * 512 + 1 * (j 0).val = t.val * 512 + (j 0).val
    rw [(idx2 t).1]; omega
  | ⟨1, _⟩ =>
    show win0_2.index t 1 * 1024 + 1 * (j 1).val = 5120 + (j 1).val
    rw [(idx2 t).2]; omega

theorem iblk3_apply (c : Dev nD) (t : Fin cfg0.N) (j : S512x1024.Idx) :
    (iblk m c 3 t : Vec Ideal S512x1024 .f32) j
      = aB m c (ix2 (row t (j 0)) (⟨6144 + (j 1).val, by have : (j 1).val < 1024 := (j 1).isLt; omega⟩ : Fin 7168)) := by
  unfold iblk
  rw [View.read_apply]
  refine congrArg (aB m c) (funext fun a => Fin.ext ?_)
  match a with
  | ⟨0, _⟩ =>
    show win0_3.index t 0 * 512 + 1 * (j 0).val = t.val * 512 + (j 0).val
    rw [(idx3 t).1]; omega
  | ⟨1, _⟩ =>
    show win0_3.index t 1 * 1024 + 1 * (j 1).val = 6144 + (j 1).val
    rw [(idx3 t).2]; omega

theorem iblk4_apply (c : Dev nD) (t : Fin cfg0.N) (j : S8x1024.Idx) :
    (iblk m c 4 t : Vec Ideal S8x1024 .f32) j
      = aB m c (ix2 (⟨(t.val * 64 - 1) * 8 + (j 0).val, by
          have h : t.val < 32 := t.isLt.trans_eq N_0; have : (j 0).val < 8 := (j 0).isLt; omega⟩ : Fin 16384)
          (⟨4096 + (j 1).val, by have : (j 1).val < 1024 := (j 1).isLt; omega⟩ : Fin 7168)) := by
  unfold iblk
  rw [View.read_apply]
  refine congrArg (aB m c) (funext fun a => Fin.ext ?_)
  match a with
  | ⟨0, _⟩ =>
    show win0_4.index t 0 * 8 + 1 * (j 0).val = (t.val * 64 - 1) * 8 + (j 0).val
    rw [(idx4 t).1]; omega
  | ⟨1, _⟩ =>
    show win0_4.index t 1 * 1024 + 1 * (j 1).val = 4096 + (j 1).val
    rw [(idx4 t).2]; omega

theorem iblk5_apply (c : Dev nD) (t : Fin cfg0.N) (j : S8x1024.Idx) :
    (iblk m c 5 t : Vec Ideal S8x1024 .f32) j
      = aB m c (ix2 (⟨(t.val * 64 - 1) * 8 + (j 0).val, by
          have h : t.val < 32 := t.isLt.trans_eq N_0; have : (j 0).val < 8 := (j 0).isLt; omega⟩ : Fin 16384)
          (⟨6144 + (j 1).val, by have : (j 1).val < 1024 := (j 1).isLt; omega⟩ : Fin 7168)) := by
  unfold iblk
  rw [View.read_apply]
  refine congrArg (aB m c) (funext fun a => Fin.ext ?_)
  match a with
  | ⟨0, _⟩ =>
    show win0_5.index t 0 * 8 + 1 * (j 0).val = (t.val * 64 - 1) * 8 + (j 0).val
    rw [(idx5 t).1]; omega
  | ⟨1, _⟩ =>
    show win0_5.index t 1 * 1024 + 1 * (j 1).val = 6144 + (j 1).val
    rw [(idx5 t).2]; omega

theorem iblk6_apply (c : Dev nD) (t : Fin cfg0.N) (j : S3x1024.Idx) :
    (iblk m c 6 t : Vec Ideal S3x1024 .f32) j = aW m c (j 0) (j 1) := by
  unfold iblk
  rw [View.read_apply]
  refine (V_w m c _).trans (congrArg₂ (aW m c) (Fin.ext ?_) (Fin.ext ?_))
  · show win0_6.index t 0 * 3 + 1 * (j 0).val = (j 0).val
    rw [(idx6 t).1]; omega
  · show win0_6.index t 1 * 1024 + 1 * (j 1).val = (j 1).val
    rw [(idx6 t).2]; omega

theorem iblk7_apply (c : Dev nD) (t : Fin cfg0.N) (j : S1x1024.Idx) :
    (iblk m c 7 t : Vec Ideal S1x1024 .f32) j = ab m c (j 1) := by
  unfold iblk
  rw [View.read_apply]
  refine (V_b m c _).trans (congrArg (ab m c) (Fin.ext ?_))
  show win0_7.index t 1 * 1024 + 1 * (j 1).val = (j 1).val
  rw [(idx7 t).2]; omega

theorem iblk8_apply (c : Dev nD) (t : Fin cfg0.N) (j : S1024x2048.Idx) :
    (iblk m c 8 t : Vec Ideal S1024x2048 .bf16) j = wa m c (j 0) (j 1) := by
  unfold iblk
  rw [View.read_apply]
  refine (V_wa m c _).trans (congrArg₂ (wa m c) (Fin.ext ?_) (Fin.ext ?_))
  · show win0_8.index t 0 * 1024 + 1 * (j 0).val = (j 0).val
    rw [(idx8 t).1]; omega
  · show win0_8.index t 1 * 2048 + 1 * (j 1).val = (j 1).val
    rw [(idx8 t).2]; omega

theorem iblk9_apply (c : Dev nD) (t : Fin cfg0.N) (j : S1024x2048.Idx) :
    (iblk m c 9 t : Vec Ideal S1024x2048 .bf16) j = wc m c (j 0) (j 1) := by
  unfold iblk
  rw [View.read_apply]
  refine (V_wc m c _).trans (congrArg₂ (wc m c) (Fin.ext ?_) (Fin.ext ?_))
  · show win0_9.index t 0 * 1024 + 1 * (j 0).val = (j 0).val
    rw [(idx9 t).1]; omega
  · show win0_9.index t 1 * 2048 + 1 * (j 1).val = (j 1).val
    rw [(idx9 t).2]; omega

theorem x10_apply (c : Dev nD) (t : Fin cfg0.N) (j : S512x2048.Idx) :
    (X0_10 m c t : Vec Ideal S512x2048 .f32) j
      = aB m c (ix2 (row t (j 0)) (⟨(j 1).val, by have : (j 1).val < 2048 := (j 1).isLt; omega⟩ : Fin 7168)) := by
  unfold X0_10 Pipeline.Window.fill
  rw [dif_pos (moved0_10 t j)]
  unfold iblk
  rw [View.read_apply]
  refine congrArg (aB m c) (funext fun a => Fin.ext ?_)
  match a with
  | ⟨0, _⟩ =>
    show win0_10.index t 0 * 512 + 1 * (j 0).val = t.val * 512 + (j 0).val
    rw [(idx10 t).1]; omega
  | ⟨1, _⟩ =>
    show win0_10.index t 1 * 2048 + 1 * (j 1).val = (j 1).val
    rw [(idx10 t).2]; omega

theorem x11_apply (c : Dev nD) (t : Fin cfg0.N) (j : S512x2048.Idx) :
    (X0_11 m c t : Vec Ideal S512x2048 .f32) j
      = aB m c (ix2 (row t (j 0)) (⟨2048 + (j 1).val, by have : (j 1).val < 2048 := (j 1).isLt; omega⟩ : Fin 7168)) := by
  unfold X0_11 Pipeline.Window.fill
  rw [dif_pos (moved0_11 t j)]
  unfold iblk
  rw [View.read_apply]
  refine congrArg (aB m c) (funext fun a => Fin.ext ?_)
  match a with
  | ⟨0, _⟩ =>
    show win0_11.index t 0 * 512 + 1 * (j 0).val = t.val * 512 + (j 0).val
    rw [(idx11 t).1]; omega
  | ⟨1, _⟩ =>
    show win0_11.index t 1 * 2048 + 1 * (j 1).val = 2048 + (j 1).val
    rw [(idx11 t).2]; omega

/-! ## What a point leaves -/

/-- The product in a point's block. -/
theorem z_blk (c : Dev nD) (t : Fin cfg0.N) (j : S512x1024.Idx) :
    k0_pay3 (iblk m c 3 t) (iblk m c 1 t) j = z (aB m c) (row t (j 0)) (j 1) := by
  rw [pay3_apply]
  unfold z
  exact congrArg₂ (fun a b : EReal => a * b) (iblk3_apply m c t j) (iblk1_apply m c t j)

/-- The last rows of the block before, and 0 at the start of a sequence. -/
theorem z_halo (c : Dev nD) (t : Fin cfg0.N) (e : Fin 2) (k : Fin 1024) :
    k0_pay4 (BitVec.ofNat 32 ((grid0.coords t) 0).val) (iblk m c 5 t) (iblk m c 4 t) (ix2 (⟨6 + e.val, by omega⟩ : Fin 8) k)
      = if t.val % 8 = 0 then 0 else z (aB m c) ⟨t.val * 512 - 2 + e.val, by have h : t.val < 32 := t.isLt.trans_eq N_0; omega⟩ k := by
  rw [pay4_apply, keep_eq]
  by_cases h : t.val % 8 = 0
  · rw [if_pos h, if_pos h]
    simp
  · rw [if_neg h, if_neg h]
    unfold z
    refine Eq.trans (congrArg (fun a : EReal => _ * a) (show (((1#32 : BitVec 32).toInt : ℝ) : EReal) = 1 by simp)) ?_
    rw [mul_one]
    refine congrArg₂ (fun a b : EReal => a * b) ((iblk5_apply m c t _).trans (congrArg (aB m c) ?_))
      ((iblk4_apply m c t _).trans (congrArg (aB m c) ?_)) <;>
    · funext a
      apply Fin.ext
      match a with
      | ⟨0, _⟩ => show (t.val * 64 - 1) * 8 + (6 + e.val) = t.val * 512 - 2 + e.val; omega
      | ⟨1, _⟩ => rfl

/-- One row back. -/
theorem back1_blk (c : Dev nD) (t : Fin cfg0.N) (j : S512x1024.Idx) :
    k0_pay5 (BitVec.ofNat 32 ((grid0.coords t) 0).val) (iblk m c 3 t) (iblk m c 1 t) (iblk m c 5 t) (iblk m c 4 t) j
      = back (aB m c) (row t (j 0)) 1 (j 1) := by
  have hj : (j 0).val < 512 := (j 0).isLt
  rw [pay5_apply]
  unfold back
  by_cases h : (j 0).val = 0
  · rw [if_pos h]
    refine (z_halo m c t 1 (j 1)).trans ?_
    by_cases h8 : t.val % 8 = 0
    · rw [if_pos h8, if_pos (show (t.val * 512 + (j 0).val) % 4096 < 1 by omega)]
    · rw [if_neg h8, if_neg (show ¬(t.val * 512 + (j 0).val) % 4096 < 1 by omega)]
      exact congrArg (fun R => z (aB m c) R (j 1)) (Fin.ext (by show t.val * 512 - 2 + 1 = t.val * 512 + (j 0).val - 1; omega))
  · rw [if_neg h, z_blk, if_neg (show ¬(t.val * 512 + (j 0).val) % 4096 < 1 by omega)]
    exact congrArg (fun R => z (aB m c) R (j 1)) (Fin.ext (by
      show t.val * 512 + ((j 0).val + 512 - 1) % 512 = t.val * 512 + (j 0).val - 1; omega))

/-- Two rows back. -/
theorem back2_blk (c : Dev nD) (t : Fin cfg0.N) (j : S512x1024.Idx) :
    (if (j 0).val = 0 then k0_pay8 (BitVec.ofNat 32 ((grid0.coords t) 0).val) (iblk m c 5 t) (iblk m c 4 t) (ix2 (0 : Fin 1) (j 1))
      else k0_pay7 (BitVec.ofNat 32 ((grid0.coords t) 0).val) (iblk m c 3 t) (iblk m c 1 t) (iblk m c 5 t) (iblk m c 4 t) j)
      = back (aB m c) (row t (j 0)) 2 (j 1) := by
  have hj : (j 0).val < 512 := (j 0).isLt
  rw [pay7_apply, pay8_apply]
  unfold back
  by_cases h : (j 0).val = 0
  · rw [if_pos h]
    refine (z_halo m c t 0 (j 1)).trans ?_
    by_cases h8 : t.val % 8 = 0
    · rw [if_pos h8, if_pos (show (t.val * 512 + (j 0).val) % 4096 < 2 by omega)]
    · rw [if_neg h8, if_neg (show ¬(t.val * 512 + (j 0).val) % 4096 < 2 by omega)]
      exact congrArg (fun R => z (aB m c) R (j 1)) (Fin.ext (by show t.val * 512 - 2 + 0 = t.val * 512 + (j 0).val - 2; omega))
  · rw [if_neg h]
    by_cases h1 : (j 0).val = 1
    · rw [if_pos h1]
      refine (z_halo m c t 1 (j 1)).trans ?_
      by_cases h8 : t.val % 8 = 0
      · rw [if_pos h8, if_pos (show (t.val * 512 + (j 0).val) % 4096 < 2 by omega)]
      · rw [if_neg h8, if_neg (show ¬(t.val * 512 + (j 0).val) % 4096 < 2 by omega)]
        exact congrArg (fun R => z (aB m c) R (j 1)) (Fin.ext (by show t.val * 512 - 2 + 1 = t.val * 512 + (j 0).val - 2; omega))
    · rw [if_neg h1, z_blk, if_neg (show ¬(t.val * 512 + (j 0).val) % 4096 < 2 by omega)]
      exact congrArg (fun R => z (aB m c) R (j 1)) (Fin.ext (by
        show t.val * 512 + ((j 0).val + 512 - 2) % 512 = t.val * 512 + (j 0).val - 2; omega))

/-- What a point writes back is its block of the result. -/
theorem flushed_eq (c : Dev nD) (t : Fin cfg0.N) :
    (dats m 0 c).flushed 12 t = ((cfg0.win 12).blk t).view.read (Elt Ideal) (G m c) := by
  rw [Value.flushed12_A, out_A]
  funext j
  rw [View.read_apply]
  have e : ((cfg0.win 12).blk t).view.emb j = ix2 (row t (j 0)) (j 1) := funext fun a => Fin.ext (by
    match a with
    | ⟨0, _⟩ =>
      show win0_12.index t 0 * 512 + 1 * (j 0).val = t.val * 512 + (j 0).val
      rw [(idx12 t).1]; omega
    | ⟨1, _⟩ =>
      show win0_12.index t 1 * 2048 + 1 * (j 1).val = (j 1).val
      rw [(idx12 t).2]; omega)
  rw [e]
  refine (pay2_apply _ _ _ _ _ _ j).trans ?_
  show _ = merged (aA m c) (aB m c) (aW m c) (ab m c) (wa m c) (wc m c) (row t (j 0)) (j 1)
  unfold merged
  refine congrArg₂ (fun a b : EReal => a + b)
    (congrArg₂ (fun a b : EReal => a * b) (congrArg Ideal.logistic (x10_apply m c t j)) (Finset.sum_congr rfl fun k _ => ?_))
    (congrArg₂ (fun a b : EReal => a * b) (congrArg Ideal.logistic (x11_apply m c t j)) (Finset.sum_congr rfl fun k _ => ?_))
  · exact congrArg₂ (fun a b : EReal => a * b) (iblk0_apply m c t _) (iblk8_apply m c t _)
  · refine congrArg₂ (fun a b : EReal => a * b) ?_ (iblk9_apply m c t _)
    rw [pay1_apply]
    unfold conv
    refine congrArg₂ (fun a b : EReal => a * b) (iblk2_apply m c t _) ?_
    refine congrArg₂ (fun a b : EReal => a + b) (congrArg₂ (fun a b : EReal => a + b) (congrArg₂ (fun a b : EReal => a + b)
      (congrArg₂ (fun a b : EReal => a * b) (back2_blk m c t _) (iblk6_apply m c t _)) (iblk7_apply m c t _))
      (congrArg₂ (fun a b : EReal => a * b) (back1_blk m c t _) (iblk6_apply m c t _)))
      (congrArg₂ (fun a b : EReal => a * b) (z_blk m c t _) (iblk6_apply m c t _))

/-- The result array. -/
theorem final (c : Dev nD) : (dats m 0 c).arrAt 12 cfg0.N = G m c :=
  (dats m 0 c).arrAt_eq_of_cover 12 (G m c) (fun t _ => flushed_eq m c t) fun i => by
    have h0 : (i 0 : Nat) < 16384 := (i 0).isLt
    have h1 : (i 1 : Nat) < 2048 := (i 1).isLt
    have hN : cfg0.N = 32 := N_0
    refine ⟨⟨(i 0).val / 512, by omega⟩, flush0_12 _, ?_⟩
    generalize ht : (⟨(i 0).val / 512, _⟩ : Fin cfg0.N) = t
    have hv : t.val = (i 0).val / 512 := by rw [← ht]
    show i ∈ ((View.whole main_v7).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [(idx12 t).1]; omega
    | ⟨1, _⟩ => show win0_12.index t 1 * 2048 ≤ (i 1 : Nat) ∧ (i 1 : Nat) < win0_12.index t 1 * 2048 + 2048
                rw [(idx12 t).2]; omega

/-! ## The reference -/

section Ref
open Cert.Reference8Ideal (S4x4096x7168 S4x4096x1024 S4x4098x1024 S4x4096x2048)

variable (x0 : Vec Ideal S16384x1024 .bf16) (x1 : Vec Ideal S16384x7168 .f32) (x2 : Vec Ideal S1x3x1024 .f32) (x3 : Vec Ideal S1x1024 .f32)
  (x4 x5 : Vec Ideal S1x1024x2048 .f32)

/-- The flat row of a sequence's position. -/
abbrev flat (b : Fin 4) (p : Fin 4096) : Fin 16384 := ⟨b.val * 4096 + p.val, by omega⟩

/-- The branch, at a sequence's position. -/
theorem ref_branch (i : S4x4096x7168.Idx) : val_main_v0 (F := Ideal) x1 i = x1 (ix2 (flat (i 0) (i 1)) (i 2)) := by
  have h2 : (i 2).val < 7168 := (i 2).isLt
  rw [val_main_v0_apply]
  refine congrArg x1 (funext fun a => Fin.ext ?_)
  match a with
  | ⟨0, _⟩ => show (((i 0).val * 4096 + (i 1).val) * 7168 + (i 2).val) / 7168 = (i 0).val * 4096 + (i 1).val; omega
  | ⟨1, _⟩ => show (((i 0).val * 4096 + (i 1).val) * 7168 + (i 2).val) % 7168 = (i 2).val; omega

theorem ref_z (i : S4x4096x1024.Idx) : val_main_v10 (F := Ideal) x1 i = z x1 (flat (i 0) (i 1)) (i 2) := by
  rw [val_main_v10_apply, val_main_v5_apply, val_main_v3_apply, ref_branch, ref_branch]
  rfl

/-- The padded product: two rows of zeros in front. -/
theorem ref_pad (i : S4x4098x1024.Idx) : val_main_v13 (F := Ideal) x1 i
    = if h : (i 1).val < 2 then 0 else z x1 (flat (i 0) ⟨(i 1).val - 2, by have : (i 1).val < 4098 := (i 1).isLt; omega⟩) (i 2) := by
  have h1 : (i 1).val < 4098 := (i 1).isLt
  unfold val_main_v13
  by_cases h : (i 1).val < 2
  · rw [dif_pos h]
    refine (pad_apply_of_not_inside _ _ _ _ _ _ _ i (1 : Fin 3) (fun hh => ?_)).trans ?_
    · have h2 : 2 ≤ (i 1).val := hh.1
      omega
    · show (((0#32 : BitVec 32).toInt : ℝ) : EReal) = 0
      simp
  · rw [dif_neg h]
    refine (pad_apply_of_inside _ _ _ _ _ _ _ i
      (ix3 (i 0) (⟨(i 1).val - 2, by omega⟩ : Fin 4096) (i 2)) (fun a => ?_)).trans (ref_z x1 _)
    match a with
    | ⟨0, _⟩ => show (i 0).val = 0 + (i 0).val * (0 + 1); omega
    | ⟨1, _⟩ => show (i 1).val = 2 + ((i 1).val - 2) * (0 + 1); omega
    | ⟨2, _⟩ => show (i 2).val = 0 + (i 2).val * (0 + 1); omega

/-- The product `2 - d` rows back, `d` the tap. -/
theorem ref_back (b : Fin 4) (p : Fin 4096) (k : Fin 1024) (d : ℕ) (hd : d ≤ 2) (q : Fin 4098) (hq : q.val = d + p.val) :
    val_main_v13 (F := Ideal) x1 (ix3 b q k) = back x1 (flat b p) (2 - d) k := by
  rw [ref_pad]
  unfold back
  by_cases h : q.val < 2
  · rw [dif_pos (show ((ix3 b q k : S4x4098x1024.Idx) 1).val < 2 from h),
      if_pos (show (b.val * 4096 + p.val) % 4096 < 2 - d by omega)]
  · rw [dif_neg (show ¬((ix3 b q k : S4x4098x1024.Idx) 1).val < 2 from h),
      if_neg (show ¬(b.val * 4096 + p.val) % 4096 < 2 - d by omega)]
    exact congrArg (fun R => z x1 R k) (Fin.ext (by show b.val * 4096 + (q.val - 2) = b.val * 4096 + p.val - (2 - d); omega))

theorem back_zero (R : Fin 16384) (k : Fin 1024) : back x1 R 0 k = z x1 R k := by
  unfold back
  rw [if_neg (Nat.not_lt_zero _)]; rfl

abbrev rW (x2 : Vec Ideal S1x3x1024 .f32) (d : Fin 3) (k : Fin 1024) : EReal := x2 (ix3 (0 : Fin 1) d k)
abbrev rb (x3 : Vec Ideal S1x1024 .f32) (k : Fin 1024) : EReal := x3 (ix2 (0 : Fin 1) k)
abbrev rw2 (x4 : Vec Ideal S1x1024x2048 .f32) (k : Fin 1024) (C : Fin 2048) : EReal := x4 (ix3 (0 : Fin 1) k C)

theorem ref_taps (i : S3x1024.Idx) : val_main_v11 (F := Ideal) x2 i = rW x2 (i 0) (i 1) := by
  have h0 : (i 0).val < 3 := (i 0).isLt
  have h1 : (i 1).val < 1024 := (i 1).isLt
  rw [val_main_v11_apply]
  refine congrArg x2 (funext fun a => Fin.ext ?_)
  match a with
  | ⟨0, _⟩ => rfl
  | ⟨1, _⟩ => show ((i 0).val * 1024 + (i 1).val) / 1024 % 3 = (i 0).val; omega
  | ⟨2, _⟩ => show ((i 0).val * 1024 + (i 1).val) % 1024 = (i 1).val; omega

theorem ref_w0 (i : S4x4096x1024.Idx) : val_main_v18 (F := Ideal) x2 i = rW x2 0 (i 2) := by
  rw [val_main_v18_apply, val_main_v17_apply, val_main_v16_apply, val_main_v15_apply, ref_taps]
  exact congrArg₂ (rW x2) (Fin.ext rfl) (Fin.ext (Nat.mod_eq_of_lt (i 2).isLt))
theorem ref_w1 (i : S4x4096x1024.Idx) : val_main_v27 (F := Ideal) x2 i = rW x2 1 (i 2) := by
  rw [val_main_v27_apply, val_main_v26_apply, val_main_v25_apply, val_main_v24_apply, ref_taps]
  exact congrArg₂ (rW x2) (Fin.ext rfl) (Fin.ext (Nat.mod_eq_of_lt (i 2).isLt))
theorem ref_w2 (i : S4x4096x1024.Idx) : val_main_v34 (F := Ideal) x2 i = rW x2 2 (i 2) := by
  rw [val_main_v34_apply, val_main_v33_apply, val_main_v32_apply, val_main_v31_apply, ref_taps]
  exact congrArg₂ (rW x2) (Fin.ext rfl) (Fin.ext (Nat.mod_eq_of_lt (i 2).isLt))
theorem ref_b (i : S4x4096x1024.Idx) : val_main_v21 (F := Ideal) x3 i = rb x3 (i 2) := by
  rw [val_main_v21_apply, val_main_v20_apply, val_main_v12_apply]
  refine congrArg x3 (funext fun a => Fin.ext ?_)
  match a with
  | ⟨0, _⟩ => rfl
  | ⟨1, _⟩ => exact Nat.mod_eq_of_lt (i 2).isLt

theorem ref_conv (i : S4x4096x1024.Idx) :
    val_main_v37 (F := Ideal) x1 x2 x3 i = conv x1 (rW x2) (rb x3) (flat (i 0) (i 1)) (i 2) := by
  have h1 : (i 1).val < 4096 := (i 1).isLt
  have e0 : val_main_v14 (F := Ideal) x1 i = back x1 (flat (i 0) (i 1)) 2 (i 2) := by
    rw [val_main_v14_apply]
    refine (congrArg _ (show _ = ix3 (i 0) (⟨(i 1).val, by omega⟩ : Fin 4098) (i 2) from ?_)).trans
      (ref_back x1 (i 0) (i 1) (i 2) 0 (by decide) _ (Nat.zero_add _).symm)
    funext a; match a with | ⟨0, _⟩ => rfl | ⟨1, _⟩ => rfl | ⟨2, _⟩ => rfl
  have e1 : val_main_v23 (F := Ideal) x1 i = back x1 (flat (i 0) (i 1)) 1 (i 2) := by
    rw [val_main_v23_apply]
    refine (congrArg _ (show _ = ix3 (i 0) (⟨1 + (i 1).val, by omega⟩ : Fin 4098) (i 2) from ?_)).trans
      (ref_back x1 (i 0) (i 1) (i 2) 1 (by decide) _ rfl)
    funext a; match a with | ⟨0, _⟩ => rfl | ⟨1, _⟩ => rfl | ⟨2, _⟩ => rfl
  have e2 : val_main_v30 (F := Ideal) x1 i = z x1 (flat (i 0) (i 1)) (i 2) := by
    rw [val_main_v30_apply]
    refine ((congrArg _ (show _ = ix3 (i 0) (⟨2 + (i 1).val, by omega⟩ : Fin 4098) (i 2) from ?_)).trans
      (ref_back x1 (i 0) (i 1) (i 2) 2 (by decide) _ rfl)).trans (back_zero x1 _ _)
    funext a; match a with | ⟨0, _⟩ => rfl | ⟨1, _⟩ => rfl | ⟨2, _⟩ => rfl
  rw [val_main_v37_apply, val_main_v36_apply, val_main_v29_apply, val_main_v22_apply, val_main_v19_apply, val_main_v28_apply,
    val_main_v35_apply, e0, e1, e2, ref_w0, ref_w1, ref_w2, ref_b, val_main_v4_apply, ref_branch]
  rfl

theorem one : Ideal.ofBits .f32 0x3F800000#32 = 1 := by
  simp [Ideal.ofBits, Ideal.ieee, -EReal.coe_mul]
  norm_num

theorem ref_ga (i : S4x4096x2048.Idx) : val_main_v45 (F := Ideal) x1 i
    = Ideal.logistic (x1 (ix2 (flat (i 0) (i 1)) (⟨(i 2).val, by have : (i 2).val < 2048 := (i 2).isLt; omega⟩ : Fin 7168)) : EReal) := by
  simp only [val_main_v45_apply, val_main_v44_apply, val_main_v43_apply, val_main_v42_apply, val_main_v41_apply, val_main_v40_apply,
    val_main_v1_apply, val_main_cst_apply, val_main_cst_0_apply, ref_branch, Ideal.ofBits_def, one]
  rfl
theorem ref_gb (i : S4x4096x2048.Idx) : val_main_v52 (F := Ideal) x1 i
    = Ideal.logistic (x1 (ix2 (flat (i 0) (i 1)) (⟨2048 + (i 2).val, by have : (i 2).val < 2048 := (i 2).isLt; omega⟩ : Fin 7168)) : EReal) := by
  simp only [val_main_v52_apply, val_main_v51_apply, val_main_v50_apply, val_main_v49_apply, val_main_v48_apply, val_main_v47_apply,
    val_main_v2_apply, val_main_cst_1_apply, val_main_cst_2_apply, ref_branch, Ideal.ofBits_def, one]
  rfl

theorem ref_wa (i : S1024x2048.Idx) : val_main_v8 (F := Ideal) x4 i = rw2 x4 (i 0) (i 1) := by
  have h0 : (i 0).val < 1024 := (i 0).isLt
  have h1 : (i 1).val < 2048 := (i 1).isLt
  rw [val_main_v8_apply]
  refine congrArg x4 (funext fun a => Fin.ext ?_)
  match a with
  | ⟨0, _⟩ => rfl
  | ⟨1, _⟩ => show ((i 0).val * 2048 + (i 1).val) / 2048 % 1024 = (i 0).val; omega
  | ⟨2, _⟩ => show ((i 0).val * 2048 + (i 1).val) % 2048 = (i 1).val; omega
theorem ref_wc (i : S1024x2048.Idx) : val_main_v38 (F := Ideal) x5 i = rw2 x5 (i 0) (i 1) := by
  have h0 : (i 0).val < 1024 := (i 0).isLt
  have h1 : (i 1).val < 2048 := (i 1).isLt
  rw [val_main_v38_apply]
  refine congrArg x5 (funext fun a => Fin.ext ?_)
  match a with
  | ⟨0, _⟩ => rfl
  | ⟨1, _⟩ => show ((i 0).val * 2048 + (i 1).val) / 2048 % 1024 = (i 0).val; omega
  | ⟨2, _⟩ => show ((i 0).val * 2048 + (i 1).val) % 2048 = (i 1).val; omega

theorem ref_att (i : S4x4096x1024.Idx) : val_main_v7 (F := Ideal) x0 i = x0 (ix2 (flat (i 0) (i 1)) (i 2)) := by
  have h2 : (i 2).val < 1024 := (i 2).isLt
  rw [val_main_v7_apply, val_main_v6_apply]
  refine congrArg x0 (funext fun a => Fin.ext ?_)
  match a with
  | ⟨0, _⟩ => show (((i 0).val * 4096 + (i 1).val) * 1024 + (i 2).val) / 1024 = (i 0).val * 4096 + (i 1).val; omega
  | ⟨1, _⟩ => show (((i 0).val * 4096 + (i 1).val) * 1024 + (i 2).val) % 1024 = (i 2).val; omega

/-- The reference's result is the same gated sum. -/
theorem ref_merged (R : Fin 16384) (C : Fin 2048) : val_main_v56 (F := Ideal) x0 x1 x2 x3 x4 x5 (ix2 R C)
    = merged x0 x1 (rW x2) (rb x3) (rw2 x4) (rw2 x5) R C := by
  have h0 : R.val < 16384 := R.isLt
  have h1 : C.val < 2048 := C.isLt
  have ei : idx_main_v55 (ix2 R C) = ix3 (⟨R.val / 4096, by omega⟩ : Fin 4) (⟨R.val % 4096, Nat.mod_lt _ (by decide)⟩ : Fin 4096) C := by
    funext a
    apply Fin.ext
    match a with
    | ⟨0, _⟩ => show (R.val * 2048 + C.val) / 8388608 = R.val / 4096; omega
    | ⟨1, _⟩ => show (R.val * 2048 + C.val) / 2048 % 4096 = R.val % 4096; omega
    | ⟨2, _⟩ => show (R.val * 2048 + C.val) % 2048 = C.val; omega
  have ef : flat (⟨R.val / 4096, by omega⟩ : Fin 4) (⟨R.val % 4096, Nat.mod_lt _ (by decide)⟩ : Fin 4096) = R :=
    Fin.ext (by show R.val / 4096 * 4096 + R.val % 4096 = R.val; omega)
  rw [val_main_v56_apply, val_main_v55_apply, ei, Ideal.truncf_def]
  rw [val_main_v54_apply, val_main_v46_apply, val_main_v53_apply,
    ref_ga, ref_gb, val_main_v9_apply, val_main_v39_apply]
  unfold merged
  refine congrArg₂ (fun a b : EReal => a + b)
    (congrArg₂ (fun a b : EReal => a * b) (congrArg Ideal.logistic (congrArg x1 ?_)) (Finset.sum_congr rfl fun k _ => ?_))
    (congrArg₂ (fun a b : EReal => a * b) (congrArg Ideal.logistic (congrArg x1 ?_)) (Finset.sum_congr rfl fun k _ => ?_))
  · exact congrArg (fun R : Fin 16384 => ix2 R (⟨C.val, by omega⟩ : Fin 7168)) ef
  · rw [ref_att, ref_wa]
    exact congrArg (fun R : Fin 16384 => (x0 (ix2 R k) : EReal) * rw2 x4 k C) ef
  · exact congrArg (fun R : Fin 16384 => ix2 R (⟨2048 + C.val, by omega⟩ : Fin 7168)) ef
  · rw [ref_conv, ref_wc]
    exact congrArg (fun R : Fin 16384 => conv x1 (rW x2) (rb x3) R k * rw2 x5 k C) ef

end Ref

end Cert.Kernel8Ideal.Hand

namespace Cert.Proof

/-- The gated sum of the attention and convolution branches: kernel and reference leave one array. -/
theorem algebraic8 : Cert.algebraic_Kernel8Ideal_Reference8Ideal
    (hKernel8Ideal := Cert.Kernel8Ideal.Gen.facts) (hReference8Ideal := Cert.Reference8Ideal.Gen.facts) := by
  intro m ρ m' ρ' _ hagree
  refine ⟨fun c => Cert.Kernel8Ideal.Hand.G m c,
    (θ_run Cert.Kernel8Ideal.defs _ _).mono (fun r h c => ⟨(h c).1.trans (Cert.Kernel8Ideal.Hand.final m c), (h c).2⟩)
      (Cert.Kernel8Ideal.Value.run_blocks (F := Ideal) m ρ),
    (θ_run Cert.Reference8Ideal.defs _ _).mono (fun r h c => ⟨(h c).1.trans ?_, (h c).2⟩)
      (Cert.Reference8Ideal.Value.run (F := Ideal) m' ρ')⟩
  obtain ⟨e0, e1, e2, e3, e4, e5⟩ := hagree c
  rw [Cert.Reference8Ideal.Read.val_main_v56_eq, e0, e1, e2, e3, e4, e5]
  funext i
  rw [show i = ix2 (⟨(i 0).val, (i 0).isLt⟩ : Fin 16384) (⟨(i 1).val, (i 1).isLt⟩ : Fin 2048) from
    funext fun a => match a with | ⟨0, _⟩ => rfl | ⟨1, _⟩ => rfl]
  exact Cert.Kernel8Ideal.Hand.ref_merged _ _ _ _ _ _ _ _

end Cert.Proof

end
-- ==== Proof.K9.lean ====
module

public import proofs.«01_k».proof.Defs
public import proofs.«01_k».proof.Proof.Soft
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.Value
public import Idealize.ShloMosaic.Lib.Pipeline.ValueKit.Tiles
public import Idealize.ShloMosaic.Lib.Tactic

@[expose] public section

noncomputable section

open Idealize.ShloMosaic Idealize.ShloMosaic.TcCoe Idealize.SL.Sem

namespace Cert.Kernel9Ideal.Hand

open Cert.Kernel9Ideal Cert.Kernel9Ideal.Gen Cert.Hand Cert.Reference9Ideal.Read

variable (m : (ℓ : Loc nD τ sig) → Buf (Elt Ideal) ℓ)

/-! ## One head of one block -/

/-- The scale of the scores. -/
theorem scale : Named.named (F := Ideal) κ "scale" (φ := .f32) 0x3D3504F3#32 = (((Real.sqrt 512)⁻¹ : ℝ) : EReal) :=
  IdealRules.named_const.ideal_named_scalar _ _ _ _ rfl

/-- A head's output at an index: the values weighted by the softmax of the scaled products. -/
theorem head_apply (q : Vec Ideal S512x512 .bf16) (k v : Vec Ideal S256x512 .bf16) (j : S512x512.Idx) :
    k0_pay2 q k v j = att (fun n : Fin 256 => (∑ d : Fin 512, q (ix2 (j 0) d) * k (ix2 n d)) * (((Real.sqrt 512)⁻¹ : ℝ) : EReal))
      (fun n => v (ix2 n (j 1))) := by
  rw [← scale]
  unfold k0_pay2 att soft mx
  simp only [shapeCast_self]
  pointwise

theorem pay_1 (q : Vec Ideal S512x512 .bf16) (k v : Vec Ideal S256x512 .bf16) : k0_pay4 (k0_pay3 q k) v = k0_pay2 q k v := rfl
theorem pay_2 (q : Vec Ideal S512x512 .bf16) (k v : Vec Ideal S256x512 .bf16) : k0_pay5 q k v = k0_pay2 q k v := rfl
theorem pay_3 (q : Vec Ideal S512x512 .bf16) (k v : Vec Ideal S256x512 .bf16) :
    k0_pay1 (k0_pay6 q k) (k0_pay7 q k) v = k0_pay2 q k v := rfl

/-- Column `d` of the head column `C` is of. -/
abbrev hcol (C : Fin 2048) (d : Fin 512) : Fin 2048 := ⟨C.val / 512 * 512 + d.val, by have := C.isLt; have := d.isLt; omega⟩

/-- The block a point leaves, of the blocks it reads. -/
def blk (x0 : Vec Ideal S512x2048 .bf16) (x1 x2 : Vec Ideal S256x2048 .bf16) (j : S512x2048.Idx) : EReal :=
  att (fun n : Fin 256 => (∑ d : Fin 512, x0 (ix2 (j 0) (hcol (j 1) d)) * x1 (ix2 n (hcol (j 1) d))) * (((Real.sqrt 512)⁻¹ : ℝ) : EReal))
    (fun n => x2 (ix2 n (j 1)))

/-- A head's piece agrees with the block. -/
theorem piece (o : Nat) (ho : o % 512 = 0) (i0 : ∀ a, (![0, o] : Fin 2 → Nat) a + S512x512.size a ≤ S512x2048.size a)
    (i1 : ∀ a, (![0, o] : Fin 2 → Nat) a + S256x512.size a ≤ S256x2048.size a)
    (x0 : Vec Ideal S512x2048 .bf16) (x1 x2 : Vec Ideal S256x2048 .bf16)
    (x : (Rect.unit (s := S512x2048) ![0, o] S512x512.size i0).shape.Idx) :
    k0_pay2 (View.ld x0 (Rect.unit (s := S512x2048) ![0, o] S512x512.size i0))
      (View.ld x1 (Rect.unit (s := S256x2048) ![0, o] S256x512.size i1))
      (View.ld x2 (Rect.unit (s := S256x2048) ![0, o] S256x512.size i1)) x
      = blk x0 x1 x2 ((Rect.unit (s := S512x2048) ![0, o] S512x512.size i0).emb x) := by
  have e0 : ((Rect.unit (s := S512x2048) ![0, o] S512x512.size i0).emb x 0).val = (x 0).val := by
    show 0 + 1 * (x 0).val = _; omega
  have e1 : ((Rect.unit (s := S512x2048) ![0, o] S512x512.size i0).emb x 1).val = o + (x 1).val := by
    show o + 1 * (x 1).val = _; omega
  have h1 : (x 1).val < 512 := (x 1).isLt
  rw [head_apply, blk]
  refine congrArg₂ att (funext fun n => congrArg (fun s : EReal => s * _) (Finset.sum_congr rfl fun d _ =>
    congrArg₂ (fun a b : EReal => a * b) ?_ ?_)) (funext fun n => ?_)
  · have hd := d.isLt
    refine View.ld_unit_apply_of _ _ _ _ _ _ fun a => ?_
    match a with
    | ⟨0, _⟩ => exact e0.trans (Nat.zero_add _).symm
    | ⟨1, _⟩ => show ((Rect.unit (s := S512x2048) ![0, o] S512x512.size i0).emb x 1).val / 512 * 512 + d.val = o + d.val; omega
  · have hd := d.isLt
    refine View.ld_unit_apply_of _ _ _ _ _ _ fun a => ?_
    match a with
    | ⟨0, _⟩ => exact (Nat.zero_add _).symm
    | ⟨1, _⟩ => show ((Rect.unit (s := S512x2048) ![0, o] S512x512.size i0).emb x 1).val / 512 * 512 + d.val = o + d.val; omega
  · refine View.ld_unit_apply_of _ _ _ _ _ _ fun a => ?_
    match a with
    | ⟨0, _⟩ => exact (Nat.zero_add _).symm
    | ⟨1, _⟩ => exact e1

/-- What a point leaves in the output's buffer. -/
theorem out_eq (x0 : Vec Ideal S512x2048 .bf16) (x1 x2 : Vec Ideal S256x2048 .bf16) : out0_3 x0 x1 x2 = blk x0 x1 x2 := by
  funext y
  unfold out0_3
  rw [pay_1, pay_2, pay_3]
  refine View.canon_apply_of_pieces (Val := Elt Ideal) (e := .bf16) (blk x0 x1 x2) _ ?_ y (cover0_3 _ _ _ _ y)
  intro p hp
  simp only [List.mem_cons, List.not_mem_nil, or_false] at hp
  rcases hp with rfl | rfl | rfl | rfl
  · exact piece 1536 rfl _ _ x0 x1 x2
  · exact piece 1024 rfl _ _ x0 x1 x2
  · exact piece 512 rfl _ _ x0 x1 x2
  · exact piece 0 rfl _ _ x0 x1 x2

/-! ## The whole array -/

theorem idx0 : ∀ t : Fin cfg0.N, win0_0.index t 0 = t.val ∧ win0_0.index t 1 = 0 := by decide +kernel
theorem idx1 : ∀ t : Fin cfg0.N, win0_1.index t 0 = t.val / 8 ∧ win0_1.index t 1 = 0 := by decide +kernel
theorem idx2 : ∀ t : Fin cfg0.N, win0_2.index t 0 = t.val / 8 ∧ win0_2.index t 1 = 0 := by decide +kernel
theorem idx3 : ∀ t : Fin cfg0.N, win0_3.index t 0 = t.val ∧ win0_3.index t 1 = 0 := by decide +kernel

/-- The queries, keys and values as numbers. -/
def qa (c : Dev nD) (R : Fin 16384) (C : Fin 2048) : EReal := (m ((c : Thread nD τ).loc main_arg0) : Vec Ideal S16384x2048 .bf16) (ix2 R C)
def ka (c : Dev nD) (R : Fin 1024) (C : Fin 2048) : EReal := (m ((c : Thread nD τ).loc main_arg1) : Vec Ideal S1024x2048 .bf16) (ix2 R C)
def va (c : Dev nD) (R : Fin 1024) (C : Fin 2048) : EReal := (m ((c : Thread nD τ).loc main_arg2) : Vec Ideal S1024x2048 .bf16) (ix2 R C)

/-- Memory row `n` of the sequence that row `R` is of. -/
abbrev mrow (R : Fin 16384) (n : Fin 256) : Fin 1024 := ⟨R.val / 4096 * 256 + n.val, by have := R.isLt; have := n.isLt; omega⟩

/-- The attention of every row to its sequence's memory, head by head. -/
def G (c : Dev nD) (i : S16384x2048.Idx) : EReal :=
  att (fun n : Fin 256 => (∑ d : Fin 512, qa m c (i 0) (hcol (i 1) d) * ka m c (mrow (i 0) n) (hcol (i 1) d)) * (((Real.sqrt 512)⁻¹ : ℝ) : EReal))
    (fun n => va m c (mrow (i 0) n) (i 1))

/-- The row a point's block holds in its place `r`. -/
abbrev row (t : Fin cfg0.N) (r : Fin 512) : Fin 16384 :=
  ⟨t.val * 512 + r.val, by have h : t.val < 32 := t.isLt.trans_eq N_0; have := r.isLt; omega⟩

/-- The memory row a point's block holds in its place `n`. -/
abbrev krow (t : Fin cfg0.N) (n : Fin 256) : Fin 1024 :=
  ⟨t.val / 8 * 256 + n.val, by have h : t.val < 32 := t.isLt.trans_eq N_0; have := n.isLt; omega⟩

theorem iblk0_apply (c : Dev nD) (t : Fin cfg0.N) (j : S512x2048.Idx) :
    (iblk m c 0 t : Vec Ideal S512x2048 .bf16) j = qa m c (row t (j 0)) (j 1) := by
  unfold iblk
  rw [View.read_apply]
  show V m c main_arg0 _ = _
  rw [V_main_arg0]
  refine congrArg (m ((c : Thread nD τ).loc main_arg0) : Vec Ideal S16384x2048 .bf16) ?_
  funext a
  apply Fin.ext
  match a with
  | ⟨0, _⟩ => show win0_0.index t 0 * 512 + 1 * (j 0).val = t.val * 512 + (j 0).val; rw [(idx0 t).1]; omega
  | ⟨1, _⟩ => show win0_0.index t 1 * 2048 + 1 * (j 1).val = (j 1).val; rw [(idx0 t).2]; omega

theorem iblk1_apply (c : Dev nD) (t : Fin cfg0.N) (j : S256x2048.Idx) :
    (iblk m c 1 t : Vec Ideal S256x2048 .bf16) j = ka m c (krow t (j 0)) (j 1) := by
  unfold iblk
  rw [View.read_apply]
  show V m c main_arg1 _ = _
  rw [V_main_arg1]
  refine congrArg (m ((c : Thread nD τ).loc main_arg1) : Vec Ideal S1024x2048 .bf16) ?_
  funext a
  apply Fin.ext
  match a with
  | ⟨0, _⟩ => show win0_1.index t 0 * 256 + 1 * (j 0).val = t.val / 8 * 256 + (j 0).val; rw [(idx1 t).1]; omega
  | ⟨1, _⟩ => show win0_1.index t 1 * 2048 + 1 * (j 1).val = (j 1).val; rw [(idx1 t).2]; omega

theorem iblk2_apply (c : Dev nD) (t : Fin cfg0.N) (j : S256x2048.Idx) :
    (iblk m c 2 t : Vec Ideal S256x2048 .bf16) j = va m c (krow t (j 0)) (j 1) := by
  unfold iblk
  rw [View.read_apply]
  show V m c main_arg2 _ = _
  rw [V_main_arg2]
  refine congrArg (m ((c : Thread nD τ).loc main_arg2) : Vec Ideal S1024x2048 .bf16) ?_
  funext a
  apply Fin.ext
  match a with
  | ⟨0, _⟩ => show win0_2.index t 0 * 256 + 1 * (j 0).val = t.val / 8 * 256 + (j 0).val; rw [(idx2 t).1]; omega
  | ⟨1, _⟩ => show win0_2.index t 1 * 2048 + 1 * (j 1).val = (j 1).val; rw [(idx2 t).2]; omega

/-- What a point writes back is its block of the array. -/
theorem flushed_eq (c : Dev nD) (t : Fin cfg0.N) :
    (dats m 0 c).flushed 3 t = ((cfg0.win 3).blk t).view.read (Elt Ideal) (G m c) := by
  rw [Value.flushed3, out_eq]
  funext j
  rw [View.read_apply]
  show blk (iblk m c 0 t) (iblk m c 1 t) (iblk m c 2 t) j = G m c _
  have h0 : (j 0).val < 512 := (j 0).isLt
  have e0 : ((cfg0.win 3).blk t).view.emb j 0 = row t (j 0) := Fin.ext (by
    show win0_3.index t 0 * 512 + 1 * (j 0).val = t.val * 512 + (j 0).val
    rw [(idx3 t).1]; omega)
  have e1 : ((cfg0.win 3).blk t).view.emb j 1 = j 1 := Fin.ext (by
    show win0_3.index t 1 * 2048 + 1 * (j 1).val = (j 1).val
    rw [(idx3 t).2]; omega)
  have ek : ∀ n : Fin 256, krow t n = mrow (row t (j 0)) n := fun n => Fin.ext (by
    show t.val / 8 * 256 + n.val = (t.val * 512 + (j 0).val) / 4096 * 256 + n.val
    omega)
  rw [blk, G, e0, e1]
  refine congrArg₂ att (funext fun n => congrArg (fun s : EReal => s * _) (Finset.sum_congr rfl fun d _ =>
    congrArg₂ (fun a b : EReal => a * b) ?_ ?_)) (funext fun n => ?_)
  · exact iblk0_apply m c t _
  · rw [← ek]; exact iblk1_apply m c t _
  · rw [← ek]; exact iblk2_apply m c t _

/-- The result array holds the attention. -/
theorem final (c : Dev nD) : (dats m 0 c).arrAt 3 cfg0.N = G m c :=
  (dats m 0 c).arrAt_eq_of_cover 3 (G m c) (fun t _ => flushed_eq m c t) fun i => by
    have h0 : (i 0 : Nat) < 16384 := (i 0).isLt
    have h1 : (i 1 : Nat) < 2048 := (i 1).isLt
    have hN : cfg0.N = 32 := N_0
    refine ⟨⟨(i 0).val / 512, by omega⟩, flush0_3 _, ?_⟩
    generalize ht : (⟨(i 0).val / 512, _⟩ : Fin cfg0.N) = t
    have hv : t.val = (i 0).val / 512 := by rw [← ht]
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(idx3 t).1]; omega
    | ⟨1, _⟩ => show win0_3.index t 1 * 2048 ≤ (i 1 : Nat) ∧ (i 1 : Nat) < win0_3.index t 1 * 2048 + 2048
                rw [(idx3 t).2]; omega

/-! ## The reference -/

/-- The reference's scores. -/
theorem ref_score (c : Dev nD) (a : Cert.Reference9Ideal.S4x4x4096x256.Idx) (R : Fin 16384) (C : Fin 2048) (n : Fin 256)
    (hR : R.val = (a 0).val * 4096 + (a 2).val) (hC : C.val / 512 = (a 1).val) (hn : n.val = (a 3).val) :
    val_main_v9 (F := Ideal) (m ((c : Thread nD τ).loc main_arg0)) (m ((c : Thread nD τ).loc main_arg1)) a
      = (∑ d : Fin 512, qa m c R (hcol C d) * ka m c (mrow R n) (hcol C d)) * (((Real.sqrt 512)⁻¹ : ℝ) : EReal) := by
  have h0 : (a 0).val < 4 := (a 0).isLt
  have h1 : (a 1).val < 4 := (a 1).isLt
  have h2 : (a 2).val < 4096 := (a 2).isLt
  have h3 : (a 3).val < 256 := (a 3).isLt
  rw [val_main_v9_apply, val_main_v6_apply, val_main_v8_apply, val_main_v7_apply, val_main_cst_apply, Ideal.hostDivf_def,
    Ideal.hostUnary_sqrt_def, Ideal.ofBits_def, div_sqrt_512]
  refine congrArg (fun s : EReal => s * _) (Finset.sum_congr rfl fun d _ => ?_)
  have hd := d.isLt
  rw [val_main_v1_apply, val_main_v0_apply, val_main_v3_apply, val_main_v2_apply]
  refine congrArg₂ (fun a b : EReal => a * b) (congrArg (m ((c : Thread nD τ).loc main_arg0) : Vec Ideal S16384x2048 .bf16) ?_)
    (congrArg (m ((c : Thread nD τ).loc main_arg1) : Vec Ideal S1024x2048 .bf16) ?_)
  · funext b
    apply Fin.ext
    match b with
    | ⟨0, _⟩ => show ((((a 0).val * 4096 + (a 2).val) * 4 + (a 1).val) * 512 + d.val) / 2048 = R.val; omega
    | ⟨1, _⟩ => show ((((a 0).val * 4096 + (a 2).val) * 4 + (a 1).val) * 512 + d.val) % 2048 = C.val / 512 * 512 + d.val; omega
  · funext b
    apply Fin.ext
    match b with
    | ⟨0, _⟩ => show ((((a 0).val * 256 + (a 3).val) * 4 + (a 1).val) * 512 + d.val) / 2048 = R.val / 4096 * 256 + n.val; omega
    | ⟨1, _⟩ => show ((((a 0).val * 256 + (a 3).val) * 4 + (a 1).val) * 512 + d.val) % 2048 = C.val / 512 * 512 + d.val; omega

/-- The largest score of a row. -/
theorem ref_max (x0 : Vec Ideal Cert.Reference9Ideal.S16384x2048 .bf16) (x1 : Vec Ideal Cert.Reference9Ideal.S1024x2048 .bf16)
    (a : Cert.Reference9Ideal.S4x4x4096.Idx) :
    val_main_v12 (F := Ideal) x0 x1 a = mx (fun n : Fin 256 => val_main_v9 (F := Ideal) x0 x1 (ix4 (a 0) (a 1) (a 2) n)) := by
  have e : val_main_v10 (F := Ideal) x0 x1 a = mx (fun n : Fin 256 => val_main_v9 (F := Ideal) x0 x1 (ix4 (a 0) (a 1) (a 2) n)) := by
    unfold val_main_v10 mx
    generalize val_main_v9 (F := Ideal) x0 x1 = y
    pointwise
    rfl
  rw [val_main_v12_apply, val_main_v11_apply, val_main_cst_1_apply, e, Ideal.maximumf_def, Ideal.ofBits_def]
  exact max_mx _

/-- The reference's weights. -/
theorem ref_soft (x0 : Vec Ideal Cert.Reference9Ideal.S16384x2048 .bf16) (x1 : Vec Ideal Cert.Reference9Ideal.S1024x2048 .bf16)
    (a : Cert.Reference9Ideal.S4x4x4096x256.Idx) :
    val_main_v20 (F := Ideal) x0 x1 a
      = soft (fun n : Fin 256 => val_main_v9 (F := Ideal) x0 x1 (ix4 (a 0) (a 1) (a 2) n)) (a 3) := by
  have hs : ∀ b : Cert.Reference9Ideal.S4x4x4096x256.Idx, val_main_v16 (F := Ideal) x0 x1 b
      = Ideal.exp (val_main_v9 (F := Ideal) x0 x1 b
        - mx (fun n : Fin 256 => val_main_v9 (F := Ideal) x0 x1 (ix4 (b 0) (b 1) (b 2) n))) := by
    intro b
    rw [val_main_v16_apply, val_main_v15_apply, val_main_v14_apply, val_main_v13_apply, ref_max]
    rfl
  have ea : a = ix4 (a 0) (a 1) (a 2) (a 3) := by
    funext b
    match b with
    | ⟨0, _⟩ => rfl
    | ⟨1, _⟩ => rfl
    | ⟨2, _⟩ => rfl
    | ⟨3, _⟩ => rfl
  rw [val_main_v20_apply, val_main_v19_apply, val_main_v18_apply, val_main_v17_apply, val_main_cst_2_apply,
    Ideal.hostDivf_def, Ideal.ofBits_def, Ideal.ofBits_zero_f32, zero_add, hs]
  unfold soft
  refine congrArg₂ Ideal.div ?_ (Finset.sum_congr rfl fun n _ => ?_)
  · exact congrArg (fun p => Ideal.exp (val_main_v9 (F := Ideal) x0 x1 p - _)) ea
  · rw [hs]
    refine congrArg (fun p => Ideal.exp (val_main_v9 (F := Ideal) x0 x1 p - _)) ?_
    funext b
    match b with
    | ⟨0, _⟩ => rfl
    | ⟨1, _⟩ => rfl
    | ⟨2, _⟩ => rfl
    | ⟨3, _⟩ => rfl

/-- The reference's array is the same attention. -/
theorem ref_eq (c : Dev nD) : val_main_v25 (F := Ideal) (m ((c : Thread nD τ).loc main_arg0))
    (m ((c : Thread nD τ).loc main_arg1)) (m ((c : Thread nD τ).loc main_arg2)) = G m c := by
  funext i
  have h0 : (i 0).val < 16384 := (i 0).isLt
  have h1 : (i 1).val < 2048 := (i 1).isLt
  rw [val_main_v25_apply, val_main_v24_apply, val_main_v23_apply, val_main_v22_apply, val_main_v21_apply, Ideal.truncf_def, G, att]
  have p0 : (idx_main_v22 (idx_main_v23 (idx_main_v24 i)) 0).val = (i 0).val / 4096 := by
    show ((((i 0).val * 2048 + (i 1).val) / 8388608 * 4096 + ((i 0).val * 2048 + (i 1).val) / 2048 % 4096) * 2048
      + ((i 0).val * 2048 + (i 1).val) % 2048) / 8388608 = _
    omega
  have p1 : (idx_main_v22 (idx_main_v23 (idx_main_v24 i)) 1).val = (i 1).val / 512 := by
    show ((((i 0).val * 2048 + (i 1).val) / 8388608 * 4096 + ((i 0).val * 2048 + (i 1).val) / 2048 % 4096) * 2048
      + ((i 0).val * 2048 + (i 1).val) % 2048) / 512 % 4 = _
    omega
  have p2 : (idx_main_v22 (idx_main_v23 (idx_main_v24 i)) 2).val = (i 1).val % 512 := by
    show ((((i 0).val * 2048 + (i 1).val) / 8388608 * 4096 + ((i 0).val * 2048 + (i 1).val) / 2048 % 4096) * 2048
      + ((i 0).val * 2048 + (i 1).val) % 2048) % 512 = _
    omega
  have p3 : (idx_main_v22 (idx_main_v23 (idx_main_v24 i)) 3).val = (i 0).val % 4096 := by
    show ((((i 0).val * 2048 + (i 1).val) / 8388608 * 4096 + ((i 0).val * 2048 + (i 1).val) / 2048 % 4096) * 2048
      + ((i 0).val * 2048 + (i 1).val) % 2048) / 2048 % 4096 = _
    omega
  generalize idx_main_v22 (idx_main_v23 (idx_main_v24 i)) = p at p0 p1 p2 p3
  refine Finset.sum_congr rfl fun n _ => ?_
  rw [mul_comm, ref_soft]
  refine congrArg₂ (fun a b : EReal => a * b) (congrArg₂ soft (funext fun n' => ?_) rfl) ?_
  · refine ref_score m c _ (i 0) (i 1) n' ?_ ?_ rfl
    · show (i 0).val = (p 0).val * 4096 + (p 3).val; omega
    · show (i 1).val / 512 = (p 1).val; omega
  · rw [val_main_v5_apply, val_main_v4_apply]
    refine congrArg (m ((c : Thread nD τ).loc main_arg2) : Vec Ideal S1024x2048 .bf16) ?_
    have hn := n.isLt
    funext b
    apply Fin.ext
    match b with
    | ⟨0, _⟩ => show ((((p 0).val * 256 + n.val) * 4 + (p 1).val) * 512 + (p 2).val) / 2048 = (i 0).val / 4096 * 256 + n.val; omega
    | ⟨1, _⟩ => show ((((p 0).val * 256 + n.val) * 4 + (p 1).val) * 512 + (p 2).val) % 2048 = (i 1).val; omega

end Cert.Kernel9Ideal.Hand

namespace Cert.Proof

/-- The attention to the memory: kernel and reference leave one array. -/
theorem algebraic9 : Cert.algebraic_Kernel9Ideal_Reference9Ideal
    (hKernel9Ideal := Cert.Kernel9Ideal.Gen.facts) (hReference9Ideal := Cert.Reference9Ideal.Gen.facts) := by
  intro m ρ m' ρ' _ hagree
  refine ⟨fun c => Cert.Kernel9Ideal.Hand.G m c,
    (θ_run Cert.Kernel9Ideal.defs _ _).mono (fun r h c => ⟨(h c).1.trans (Cert.Kernel9Ideal.Hand.final m c), (h c).2⟩)
      (Cert.Kernel9Ideal.Value.run_blocks (F := Ideal) m ρ),
    (θ_run Cert.Reference9Ideal.defs _ _).mono (fun r h c => ⟨(h c).1.trans ?_, (h c).2⟩)
      (Cert.Reference9Ideal.Value.run (F := Ideal) m' ρ')⟩
  obtain ⟨e0, e1, e2⟩ := hagree c
  rw [Cert.Reference9Ideal.Read.val_main_v25_eq, e0, e1, e2]
  exact Cert.Kernel9Ideal.Hand.ref_eq m c

end Cert.Proof

end
-- ==== Proof.K10.lean ====
module

public import proofs.«01_k».proof.Defs
public import proofs.«01_k».proof.Proof.Rows
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem

namespace Cert.Kernel10Ideal.Hand

open Cert.Kernel10Ideal Cert.Kernel10Ideal.Gen Cert.Hand Cert.Reference10Ideal.Read

variable (m : (ℓ : Loc nD τ sig) → Buf (Elt Ideal) ℓ)

theorem hz : (![0, 0] : Fin 2 → Nat) = fun _ => 0 := funext fun a => by fin_cases a <;> rfl

/-- What a point leaves in the output's buffer is the body's one payload. -/
theorem out_eq (x0 x1 : Vec Ideal S512x2048 .f32) (x2 : Vec Ideal S1x2048 .f32) : out0_3 x0 x1 x2 = k0_pay1 x0 x1 x2 := by
  unfold out0_3
  rw [View.canon_unit_zero hz, View.ld_unit_zero (S := S512x2048) hz, View.ld_unit_zero (S := S512x2048) hz,
    View.ld_unit_zero (S := S1x2048) hz]

/-- The payload at an index: the sum's row, normalised. -/
theorem pay_apply (x y : Vec Ideal S512x2048 .f32) (g : Vec Ideal S1x2048 .f32) (j : S512x2048.Idx) :
    k0_pay1 x y g j = nrow (fun d => x (ix2 (j 0) d) + y (ix2 (j 0) d)) (fun d => g (ix2 (0 : Fin 1) d)) (j 1) := by
  unfold k0_pay1 nrow
  simp only [shapeCast_self]
  pointwise

/-- The index maps, point by point: the row blocks move with the point, the gain stays. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel

/-- The gain as the host leaves it for the region. -/
theorem V_g (c : Dev nD) (i : S1x2048.Idx) : (V m c main_v0 : Vec Ideal S1x2048 .f32) i
    = (m ((c : Thread nD τ).loc main_arg2) : Vec Ideal S2048 .f32) (ix1 (i 1)) := by
  have e : (V m c main_v0 : Vec Ideal S1x2048 .f32)
      = shapeCast S1x2048 (m ((c : Thread nD τ).loc main_arg2) : Vec Ideal S2048 .f32) shapeCasts_S2048_S1x2048 := by
    unfold V
    after_results <;> rfl
  rw [e]
  refine shapeCast_apply _ _ _ _ ?_
  show (S2048.rowMajor (ix1 (⟨(i 1).val, (i 1).isLt⟩ : Fin 2048))).val = (S1x2048.rowMajor i).val
  rewrite [Shape.rowMajor_val_one, Shape.rowMajor_val_two]
  have h0 : (i 0).val < 1 := (i 0).isLt
  show (i 1).val = (i 0).val * 2048 + (i 1).val
  omega

/-- Row `512 t + r` of the arrays, as an index. -/
abbrev row (t : Fin cfg0.N) (j : S512x2048.Idx) : S16384x2048.Idx := fun a => match a with
  | ⟨0, _⟩ => ⟨t.val * 512 + (j 0).val, by
      have h : t.val < 32 := t.isLt.trans_eq N_0
      have h0 : (j 0).val < 512 := (j 0).isLt
      show t.val * 512 + (j 0).val < 16384; omega⟩
  | ⟨1, _⟩ => ⟨(j 1).val, (j 1).isLt⟩

theorem iblk0_apply (c : Dev nD) (t : Fin cfg0.N) (j : S512x2048.Idx) :
    (iblk m c 0 t : Vec Ideal S512x2048 .f32) j = m ((c : Thread nD τ).loc main_arg0) (row t j) := by
  unfold iblk
  rw [View.read_apply]
  show V m c main_arg0 _ = _
  rw [V_main_arg0]
  congr 1
  funext a
  apply Fin.ext
  match a with
  | ⟨0, _⟩ => show win0_0.index t 0 * 512 + 1 * (j 0).val = t.val * 512 + (j 0).val; rw [(idx0 t).1]; omega
  | ⟨1, _⟩ => show win0_0.index t 1 * 2048 + 1 * (j 1).val = (j 1).val; rw [(idx0 t).2]; omega

theorem iblk1_apply (c : Dev nD) (t : Fin cfg0.N) (j : S512x2048.Idx) :
    (iblk m c 1 t : Vec Ideal S512x2048 .f32) j = m ((c : Thread nD τ).loc main_arg1) (row t j) := by
  unfold iblk
  rw [View.read_apply]
  show V m c main_arg1 _ = _
  rw [V_main_arg1]
  congr 1
  funext a
  apply Fin.ext
  match a with
  | ⟨0, _⟩ => show win0_1.index t 0 * 512 + 1 * (j 0).val = t.val * 512 + (j 0).val; rw [(idx1 t).1]; omega
  | ⟨1, _⟩ => show win0_1.index t 1 * 2048 + 1 * (j 1).val = (j 1).val; rw [(idx1 t).2]; omega

theorem iblk2_apply (c : Dev nD) (t : Fin cfg0.N) (j : S1x2048.Idx) :
    (iblk m c 2 t : Vec Ideal S1x2048 .f32) j = (m ((c : Thread nD τ).loc main_arg2) : Vec Ideal S2048 .f32) (ix1 (j 1)) := by
  unfold iblk
  rw [View.read_apply]
  refine (V_g m c _).trans (congrArg _ ?_)
  funext a
  apply Fin.ext
  match a with
  | ⟨0, _⟩ => show win0_2.index t 1 * 2048 + 1 * (j 1).val = (j 1).val; rw [(idx2 t).2]; omega

/-- The residual rows and the experts' output, as numbers. -/
def xa (c : Dev nD) (p : S16384x2048.Idx) : EReal := (m ((c : Thread nD τ).loc main_arg0) : Vec Ideal S16384x2048 .f32) p
def xb (c : Dev nD) (p : S16384x2048.Idx) : EReal := (m ((c : Thread nD τ).loc main_arg1) : Vec Ideal S16384x2048 .f32) p

/-- The array of all normalised rows. -/
def G (c : Dev nD) (i : S16384x2048.Idx) : EReal :=
  nrow (fun d => xa m c (ix2 (i 0) d)
      + xb m c (ix2 (i 0) d))
    (fun d => (m ((c : Thread nD τ).loc main_arg2) : Vec Ideal S2048 .f32) (ix1 d)) (i 1)

/-- Each point writes back its block of the array. -/
theorem flushed_eq (c : Dev nD) (t : Fin cfg0.N) :
    (dats m 0 c).flushed 3 t = ((cfg0.win 3).blk t).view.read (Elt Ideal) (G m c) := by
  rw [Value.flushed3, out_eq]
  funext j
  rw [View.read_apply]
  show k0_pay1 (iblk m c 0 t) (iblk m c 1 t) (iblk m c 2 t) j = G m c _
  have e : ((cfg0.win 3).blk t).view.emb j = row t j := by
    funext a
    apply Fin.ext
    match a with
    | ⟨0, _⟩ => show win0_3.index t 0 * 512 + 1 * (j 0).val = t.val * 512 + (j 0).val; rw [(idx3 t).1]; omega
    | ⟨1, _⟩ => show win0_3.index t 1 * 2048 + 1 * (j 1).val = (j 1).val; rw [(idx3 t).2]; omega
  rw [e, pay_apply, G]
  refine congrArg₂ (fun a b => nrow a b (j 1)) (funext fun d => ?_) (funext fun d => ?_)
  · rw [iblk0_apply, iblk1_apply]
    have e2 : row t (ix2 (j 0) d) = ix2 (row t j 0) d := by
      funext a
      match a with
      | ⟨0, _⟩ => rfl
      | ⟨1, _⟩ => rfl
    rw [e2]; rfl
  · exact iblk2_apply m c t _

/-- The result array holds the normalised rows. -/
theorem final (c : Dev nD) : (dats m 0 c).arrAt 3 cfg0.N = G m c :=
  (dats m 0 c).arrAt_eq_of_cover 3 (G m c) (fun t _ => flushed_eq m c t) fun i => by
    have h0 : (i 0 : Nat) < 16384 := (i 0).isLt
    have h1 : (i 1 : Nat) < 2048 := (i 1).isLt
    have hN : cfg0.N = 32 := N_0
    refine ⟨⟨(i 0).val / 512, by omega⟩, flush0_3 _, ?_⟩
    generalize ht : (⟨(i 0).val / 512, _⟩ : Fin cfg0.N) = t
    have hv : t.val = (i 0).val / 512 := by rw [← ht]
    show i ∈ ((View.whole main_v1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(idx3 t).1]; omega
    | ⟨1, _⟩ => show win0_3.index t 1 * 2048 ≤ (i 1 : Nat) ∧ (i 1 : Nat) < win0_3.index t 1 * 2048 + 2048
                rw [(idx3 t).2]; omega

/-! ## The reference -/

/-- The reference's array is the same. -/
theorem ref_eq (c : Dev nD) : val_main_v16 (F := Ideal) (m ((c : Thread nD τ).loc main_arg0))
    (m ((c : Thread nD τ).loc main_arg1)) (m ((c : Thread nD τ).loc main_arg2)) = G m c := by
  funext i
  have h0 : (i 0).val < 16384 := (i 0).isLt
  have h1 : (i 1).val < 2048 := (i 1).isLt
  unfold G nrow
  simp only [val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  have er : ∀ d : Fin 2048, idx_main_v0 (idx_main_v4 (idx_main_v5 (idx_main_v11 (idx_main_v16 i))) d) = ix2 (i 0) d := by
    intro d
    have hd := d.isLt
    funext a
    apply Fin.ext
    match a with
    | ⟨0, _⟩ =>
      show ((((i 0).val * 2048 + (i 1).val) / 8388608 * 4096 + ((i 0).val * 2048 + (i 1).val) / 2048 % 4096) * 2048 + d.val) / 2048 = (i 0).val
      omega
    | ⟨1, _⟩ =>
      show ((((i 0).val * 2048 + (i 1).val) / 8388608 * 4096 + ((i 0).val * 2048 + (i 1).val) / 2048 % 4096) * 2048 + d.val) % 2048 = d.val
      omega
  have ei : idx_main_v0 (idx_main_v16 i) = ix2 (i 0) (i 1) := by
    funext a
    apply Fin.ext
    match a with
    | ⟨0, _⟩ =>
      show ((((i 0).val * 2048 + (i 1).val) / 8388608 * 4096 + ((i 0).val * 2048 + (i 1).val) / 2048 % 4096) * 2048 + ((i 0).val * 2048 + (i 1).val) % 2048) / 2048 = (i 0).val
      omega
    | ⟨1, _⟩ =>
      show ((((i 0).val * 2048 + (i 1).val) / 8388608 * 4096 + ((i 0).val * 2048 + (i 1).val) / 2048 % 4096) * 2048 + ((i 0).val * 2048 + (i 1).val) % 2048) % 2048 = (i 1).val
      omega
  refine congrArg₂ (fun a b : EReal => a * b) (congrArg₂ (fun a b : EReal => a * b)
    (congrArg (fun p : S16384x2048.Idx => xa m c p
      + xb m c p) ei)
    (congrArg (fun s : EReal => Ideal.rsqrt (Ideal.div s _ + _)) (Finset.sum_congr rfl fun d _ =>
      congrArg (fun p : S16384x2048.Idx => (xa m c p
        + xb m c p)
        * (xa m c p
        + xb m c p)) (er d)))) (congrArg _ ?_)
  funext a
  apply Fin.ext
  match a with
  | ⟨0, _⟩ =>
    show ((i 0).val * 2048 + (i 1).val) % 2048 = (i 1).val
    omega

end Cert.Kernel10Ideal.Hand

namespace Cert.Proof

/-- The normalised sum of the residual rows and the experts' output: kernel and reference leave one array. -/
theorem algebraic10 : Cert.algebraic_Kernel10Ideal_Reference10Ideal
    (hKernel10Ideal := Cert.Kernel10Ideal.Gen.facts) (hReference10Ideal := Cert.Reference10Ideal.Gen.facts) := by
  intro m ρ m' ρ' _ hagree
  refine ⟨fun c => Cert.Kernel10Ideal.Hand.G m c,
    (θ_run Cert.Kernel10Ideal.defs _ _).mono (fun r h c => ⟨(h c).1.trans (Cert.Kernel10Ideal.Hand.final m c), (h c).2⟩)
      (Cert.Kernel10Ideal.Value.run_blocks (F := Ideal) m ρ),
    (θ_run Cert.Reference10Ideal.defs _ _).mono (fun r h c => ⟨(h c).1.trans ?_, (h c).2⟩)
      (Cert.Reference10Ideal.Value.run (F := Ideal) m' ρ')⟩
  obtain ⟨e0, e1, e2⟩ := hagree c
  rw [Cert.Reference10Ideal.Read.val_main_v16_eq, e0, e1, e2]
  exact Cert.Kernel10Ideal.Hand.ref_eq m c

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.K1
public import proofs.«01_k».proof.Proof.K2
public import proofs.«01_k».proof.Proof.K3
public import proofs.«01_k».proof.Proof.K4
public import proofs.«01_k».proof.Proof.K5
public import proofs.«01_k».proof.Proof.K6
public import proofs.«01_k».proof.Proof.K7
public import proofs.«01_k».proof.Proof.K8
public import proofs.«01_k».proof.Proof.K9
public import proofs.«01_k».proof.Proof.K10
public import Idealize.ShloMosaic.Adequacy
public import Idealize.ShloMosaic.Init

@[expose] public section

noncomputable section

namespace Cert.Proof

open Idealize.ShloMosaic Idealize.SL.Sem

/-! ## The band attention -/

/-- `Kernel` runs, leaves its arguments as they were and its counters at zero. -/
theorem runs_Kernel : Cert.quiescent_Kernel (hKernel := Cert.Kernel.Gen.facts) := fun m ρ _ => Cert.Kernel.Gen.frame m ρ

/-- `KernelIdeal` runs, leaves its arguments as they were and its counters at zero. -/
theorem runs_KernelIdeal : Cert.quiescent_KernelIdeal (hKernelIdeal := Cert.KernelIdeal.Gen.facts) := fun m ρ _ => Cert.KernelIdeal.Gen.frame m ρ

/-- ... and so where its arguments are finite. -/
theorem runs_KernelIdeal_finite : Cert.quiescent_KernelIdeal_pre_finite (hKernelIdeal := Cert.KernelIdeal.Gen.facts) (hPre_finite := Cert.Pre_finite.Gen.facts) := fun m ρ _ => Cert.KernelIdeal.Gen.frame m ρ

/-- The reference runs, leaves its arguments as they were and its counters at zero. -/
theorem runs_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- ... and so where its arguments are finite. -/
theorem runs_ReferenceIdeal_finite : Cert.quiescent_ReferenceIdeal_pre_finite (hReferenceIdeal := Cert.ReferenceIdeal.Gen.facts) (hPre_finite := Cert.Pre_finite.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants are, as words, what the call has. -/
theorem preserves1 : Cert.preserves_Kernel_KernelIdeal := ⟨IdealRules.named_const.statement Cert.KernelIdeal.κ "scale" .f32 0x3DB504F3#32 _ rfl,
    IdealRules.named_const.statement Cert.KernelIdeal.κ "mask" .f32 0xF149F2CA#32 _ rfl⟩

/-! ## The projection to queries, keys and values -/

/-- `Kernel2` runs, leaves its arguments as they were and its counters at zero. -/
theorem runs_Kernel2 : Cert.quiescent_Kernel2 (hKernel2 := Cert.Kernel2.Gen.facts) := fun m ρ _ => Cert.Kernel2.Gen.frame m ρ

/-- `Kernel2Ideal` runs, leaves its arguments as they were and its counters at zero. -/
theorem runs_Kernel2Ideal : Cert.quiescent_Kernel2Ideal (hKernel2Ideal := Cert.Kernel2Ideal.Gen.facts) := fun m ρ _ => Cert.Kernel2Ideal.Gen.frame m ρ

/-- The reference runs, leaves its arguments as they were and its counters at zero. -/
theorem runs_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- No constant of the call is renamed. -/
theorem preserves2 : Cert.preserves_Kernel2_Kernel2Ideal := trivial

/-! ## The projection to the convolution branch and the gates -/

/-- `Kernel3` runs, leaves its arguments as they were and its counters at zero. -/
theorem runs_Kernel3 : Cert.quiescent_Kernel3 (hKernel3 := Cert.Kernel3.Gen.facts) := fun m ρ _ => Cert.Kernel3.Gen.frame m ρ

/-- `Kernel3Ideal` runs, leaves its arguments as they were and its counters at zero. -/
theorem runs_Kernel3Ideal : Cert.quiescent_Kernel3Ideal (hKernel3Ideal := Cert.Kernel3Ideal.Gen.facts) := fun m ρ _ => Cert.Kernel3Ideal.Gen.frame m ρ

/-- The reference runs, leaves its arguments as they were and its counters at zero. -/
theorem runs_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- No constant of the call is renamed. -/
theorem preserves3 : Cert.preserves_Kernel3_Kernel3Ideal := trivial

/-! ## The memory attention's queries -/

/-- `Kernel4` runs, leaves its arguments as they were and its counters at zero. -/
theorem runs_Kernel4 : Cert.quiescent_Kernel4 (hKernel4 := Cert.Kernel4.Gen.facts) := fun m ρ _ => Cert.Kernel4.Gen.frame m ρ

/-- `Kernel4Ideal` runs, leaves its arguments as they were and its counters at zero. -/
theorem runs_Kernel4Ideal : Cert.quiescent_Kernel4Ideal (hKernel4Ideal := Cert.Kernel4Ideal.Gen.facts) := fun m ρ _ => Cert.Kernel4Ideal.Gen.frame m ρ

/-- The reference runs, leaves its arguments as they were and its counters at zero. -/
theorem runs_Reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- No constant of the call is renamed. -/
theorem preserves4 : Cert.preserves_Kernel4_Kernel4Ideal := trivial

/-! ## The memory's keys and values -/

/-- `Kernel5` runs, leaves its arguments as they were and its counters at zero. -/
theorem runs_Kernel5 : Cert.quiescent_Kernel5 (hKernel5 := Cert.Kernel5.Gen.facts) := fun m ρ _ => Cert.Kernel5.Gen.frame m ρ

/-- `Kernel5Ideal` runs, leaves its arguments as they were and its counters at zero. -/
theorem runs_Kernel5Ideal : Cert.quiescent_Kernel5Ideal (hKernel5Ideal := Cert.Kernel5Ideal.Gen.facts) := fun m ρ _ => Cert.Kernel5Ideal.Gen.frame m ρ

/-- The reference runs, leaves its arguments as they were and its counters at zero. -/
theorem runs_Reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- No constant of the call is renamed. -/
theorem preserves5 : Cert.preserves_Kernel5_Kernel5Ideal := trivial

/-! ## The experts' queries -/

/-- `Kernel6` runs, leaves its arguments as they were and its counters at zero: it is the program whose run is shown over any values. -/
theorem runs_Kernel6 : Cert.quiescent_Kernel6 (hKernel6 := Cert.Kernel6.Gen.facts) := frame6

/-- `Kernel6Ideal` runs, leaves its arguments as they were and its counters at zero. -/
theorem runs_Kernel6Ideal : Cert.quiescent_Kernel6Ideal (hKernel6Ideal := Cert.Kernel6Ideal.Gen.facts) := fun m ρ _ => Cert.Kernel6Ideal.Hand.frame m ρ

/-- The reference runs, leaves its arguments as they were and its counters at zero. -/
theorem runs_Reference6Ideal : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- No constant of the call is renamed. -/
theorem preserves6 : Cert.preserves_Kernel6_Kernel6Ideal := trivial

/-! ## The product added to the residual rows -/

/-- `Kernel7` runs, leaves its arguments as they were and its counters at zero. -/
theorem runs_Kernel7 : Cert.quiescent_Kernel7 (hKernel7 := Cert.Kernel7.Gen.facts) := fun m ρ _ => Cert.Kernel7.Gen.frame m ρ

/-- `Kernel7Ideal` runs, leaves its arguments as they were and its counters at zero. -/
theorem runs_Kernel7Ideal : Cert.quiescent_Kernel7Ideal (hKernel7Ideal := Cert.Kernel7Ideal.Gen.facts) := fun m ρ _ => Cert.Kernel7Ideal.Gen.frame m ρ

/-- The reference runs, leaves its arguments as they were and its counters at zero. -/
theorem runs_Reference7Ideal : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- No constant of the call is renamed. -/
theorem preserves7 : Cert.preserves_Kernel7_Kernel7Ideal := trivial

/-! ## The gated sum of the two branches -/

/-- `Kernel8` runs, leaves its arguments as they were and its counters at zero. -/
theorem runs_Kernel8 : Cert.quiescent_Kernel8 (hKernel8 := Cert.Kernel8.Gen.facts) := fun m ρ _ => Cert.Kernel8.Gen.frame m ρ

/-- `Kernel8Ideal` runs, leaves its arguments as they were and its counters at zero. -/
theorem runs_Kernel8Ideal : Cert.quiescent_Kernel8Ideal (hKernel8Ideal := Cert.Kernel8Ideal.Gen.facts) := fun m ρ _ => Cert.Kernel8Ideal.Gen.frame m ρ

/-- The reference runs, leaves its arguments as they were and its counters at zero. -/
theorem runs_Reference8Ideal : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- No constant of the call is renamed. -/
theorem preserves8 : Cert.preserves_Kernel8_Kernel8Ideal := trivial

/-! ## The memory attention -/

/-- `Kernel9` runs, leaves its arguments as they were and its counters at zero. -/
theorem runs_Kernel9 : Cert.quiescent_Kernel9 (hKernel9 := Cert.Kernel9.Gen.facts) := fun m ρ _ => Cert.Kernel9.Gen.frame m ρ

/-- `Kernel9Ideal` runs, leaves its arguments as they were and its counters at zero. -/
theorem runs_Kernel9Ideal : Cert.quiescent_Kernel9Ideal (hKernel9Ideal := Cert.Kernel9Ideal.Gen.facts) := fun m ρ _ => Cert.Kernel9Ideal.Gen.frame m ρ

/-- The reference runs, leaves its arguments as they were and its counters at zero. -/
theorem runs_Reference9Ideal : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The named constants are, as words, what the call has. -/
theorem preserves9 : Cert.preserves_Kernel9_Kernel9Ideal := IdealRules.named_const.statement Cert.Kernel9Ideal.κ "scale" .f32 0x3D3504F3#32 _ rfl

/-! ## The layer's last sum and its norm -/

/-- `Kernel10` runs, leaves its arguments as they were and its counters at zero. -/
theorem runs_Kernel10 : Cert.quiescent_Kernel10 (hKernel10 := Cert.Kernel10.Gen.facts) := fun m ρ _ => Cert.Kernel10.Gen.frame m ρ

/-- `Kernel10Ideal` runs, leaves its arguments as they were and its counters at zero. -/
theorem runs_Kernel10Ideal : Cert.quiescent_Kernel10Ideal (hKernel10Ideal := Cert.Kernel10Ideal.Gen.facts) := fun m ρ _ => Cert.Kernel10Ideal.Gen.frame m ρ

/-- The reference runs, leaves its arguments as they were and its counters at zero. -/
theorem runs_Reference10Ideal : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- No constant of the call is renamed. -/
theorem preserves10 : Cert.preserves_Kernel10_Kernel10Ideal := trivial

/-- Everything claimed. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Pre_finite.Gen.facts,
    runs_Kernel,
    runs_KernelIdeal,
    runs_KernelIdeal_finite,
    runs_ReferenceIdeal,
    runs_ReferenceIdeal_finite,
    runs_Kernel2,
    runs_Kernel2Ideal,
    runs_Reference2Ideal,
    runs_Kernel3,
    runs_Kernel3Ideal,
    runs_Reference3Ideal,
    runs_Kernel4,
    runs_Kernel4Ideal,
    runs_Reference4Ideal,
    runs_Kernel5,
    runs_Kernel5Ideal,
    runs_Reference5Ideal,
    runs_Kernel6,
    runs_Kernel6Ideal,
    runs_Reference6Ideal,
    runs_Kernel7,
    runs_Kernel7Ideal,
    runs_Reference7Ideal,
    runs_Kernel8,
    runs_Kernel8Ideal,
    runs_Reference8Ideal,
    runs_Kernel9,
    runs_Kernel9Ideal,
    runs_Reference9Ideal,
    runs_Kernel10,
    runs_Kernel10Ideal,
    runs_Reference10Ideal,
    preserves1,
    algebraic1,
    preserves2,
    algebraic2,
    preserves3,
    algebraic3,
    preserves4,
    algebraic4,
    preserves5,
    algebraic5,
    preserves6,
    algebraic6,
    preserves7,
    algebraic7,
    preserves8,
    algebraic8,
    preserves9,
    algebraic9,
    preserves10,
    algebraic10⟩

end Cert.Proof

end
